-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 512, 128, 64]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 512, 128, 64]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x768 : Shape := ⟨3, ![2, 512, 768]⟩
abbrev S768x8192 : Shape := ⟨2, ![768, 8192]⟩
abbrev S2x512x8x64 : Shape := ⟨4, ![2, 512, 8, 64]⟩
abbrev S8192x768 : Shape := ⟨2, ![8192, 768]⟩
abbrev S_ : Shape := ⟨0, ![]⟩
abbrev S768x512 : Shape := ⟨2, ![768, 512]⟩
abbrev S512x768 : Shape := ⟨2, ![512, 768]⟩
abbrev S768x8x64 : Shape := ⟨3, ![768, 8, 64]⟩
abbrev S8x768x64 : Shape := ⟨3, ![8, 768, 64]⟩
abbrev S8x64x768 : Shape := ⟨3, ![8, 64, 768]⟩
abbrev S8x2x512x64 : Shape := ⟨4, ![8, 2, 512, 64]⟩
abbrev S1024x768 : Shape := ⟨2, ![1024, 768]⟩
abbrev S16x64x768 : Shape := ⟨3, ![16, 64, 768]⟩
abbrev S64x768 : Shape := ⟨2, ![64, 768]⟩
abbrev S16 : Shape := ⟨1, ![16]⟩
abbrev S15 : Shape := ⟨1, ![15]⟩
abbrev S256x768 : Shape := ⟨2, ![256, 768]⟩
abbrev S256x512 : Shape := ⟨2, ![256, 512]⟩
abbrev S1x768x64 : Shape := ⟨3, ![1, 768, 64]⟩
abbrev S768x64 : Shape := ⟨2, ![768, 64]⟩
abbrev S256x64 : Shape := ⟨2, ![256, 64]⟩
abbrev S1x1x512x64 : Shape := ⟨4, ![1, 1, 512, 64]⟩
abbrev S512x64 : Shape := ⟨2, ![512, 64]⟩
abbrev S256 : Shape := ⟨1, ![256]⟩
abbrev S256x1 : Shape := ⟨2, ![256, 1]⟩
abbrev S1x64x768 : Shape := ⟨3, ![1, 64, 768]⟩
abbrev S1 : Shape := ⟨1, ![1]⟩

abbrev nBuf : Space → Nat
  | .hbm => 37
  | .vmem => 10
  | .smem => 0
  | _ => 0

abbrev bufTy : (tb : Table) → Fin (tcTables nBuf tb) → BufTy
  | .hbm, ⟨0, _⟩ => ⟨S2x512x768, .f32⟩
  | .hbm, ⟨1, _⟩ => ⟨S768x8192, .f32⟩
  | .hbm, ⟨2, _⟩ => ⟨S2x512x8x64, .f32⟩
  | .hbm, ⟨3, _⟩ => ⟨S2x512x8x64, .f32⟩
  | .hbm, ⟨4, _⟩ => ⟨S8192x768, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S768x512, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S512x768, .f32⟩
  | .hbm, ⟨29, _⟩ => ⟨S768x8x64, .f32⟩
  | .hbm, ⟨30, _⟩ => ⟨S8x768x64, .f32⟩
  | .hbm, ⟨31, _⟩ => ⟨S8x64x768, .f32⟩
  | .hbm, ⟨32, _⟩ => ⟨S8x2x512x64, .f32⟩
  | .hbm, ⟨33, _⟩ => ⟨S8x2x512x64, .f32⟩
  | .hbm, ⟨34, _⟩ => ⟨S1024x768, .f32⟩
  | .hbm, ⟨35, _⟩ => ⟨S1024x768, .f32⟩
  | .hbm, ⟨36, _⟩ => ⟨S2x512x768, .f32⟩
  | .local _ .vmem, ⟨0, _⟩ => ⟨S1024x768, .f32⟩
  | .local _ .vmem, ⟨1, _⟩ => ⟨S8x768x64, .f32⟩
  | .local _ .vmem, ⟨2, _⟩ => ⟨S8x2x512x64, .f32⟩
  | .local _ .vmem, ⟨3, _⟩ => ⟨S8x2x512x64, .f32⟩
  | .local _ .vmem, ⟨4, _⟩ => ⟨S8x64x768, .f32⟩
  | .local _ .vmem, ⟨5, _⟩ => ⟨S1024x768, .f32⟩
  | .local _ .vmem, ⟨6, _⟩ => ⟨S16x64x768, .f32⟩
  | .local _ .vmem, ⟨7, _⟩ => ⟨S16x64x768, .f32⟩
  | .local _ .vmem, ⟨8, _⟩ => ⟨S16x64x768, .f32⟩
  | .local _ .vmem, ⟨9, _⟩ => ⟨S64x768, .f32⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_dev9 : Nat :=
  let c0_i32_27 : BitVec 32 := 0#32
  let c8_i32 : BitVec 32 := 8#32
  let c1_i32_26 : BitVec 32 := 1#32
  let v20 : BitVec 32 := Scalar.muli c8_i32 c1_i32_26
  let v21 : BitVec 32 := Scalar.addi c0_i32_27 v20
  v21.toNat
def k0_dev10 : Nat :=
  let c0_i32_30 : BitVec 32 := 0#32
  let c9_i32 : BitVec 32 := 9#32
  let c1_i32_29 : BitVec 32 := 1#32
  let v22 : BitVec 32 := Scalar.muli c9_i32 c1_i32_29
  let v23 : BitVec 32 := Scalar.addi c0_i32_30 v22
  v23.toNat
def k0_dev11 : Nat :=
  let c0_i32_33 : BitVec 32 := 0#32
  let c10_i32 : BitVec 32 := 10#32
  let c1_i32_32 : BitVec 32 := 1#32
  let v24 : BitVec 32 := Scalar.muli c10_i32 c1_i32_32
  let v25 : BitVec 32 := Scalar.addi c0_i32_33 v24
  v25.toNat
def k0_dev12 : Nat :=
  let c0_i32_36 : BitVec 32 := 0#32
  let c11_i32 : BitVec 32 := 11#32
  let c1_i32_35 : BitVec 32 := 1#32
  let v26 : BitVec 32 := Scalar.muli c11_i32 c1_i32_35
  let v27 : BitVec 32 := Scalar.addi c0_i32_36 v26
  v27.toNat
def k0_dev13 : Nat :=
  let c0_i32_39 : BitVec 32 := 0#32
  let c12_i32 : BitVec 32 := 12#32
  let c1_i32_38 : BitVec 32 := 1#32
  let v28 : BitVec 32 := Scalar.muli c12_i32 c1_i32_38
  let v29 : BitVec 32 := Scalar.addi c0_i32_39 v28
  v29.toNat
def k0_dev14 : Nat :=
  let c0_i32_42 : BitVec 32 := 0#32
  let c13_i32 : BitVec 32 := 13#32
  let c1_i32_41 : BitVec 32 := 1#32
  let v30 : BitVec 32 := Scalar.muli c13_i32 c1_i32_41
  let v31 : BitVec 32 := Scalar.addi c0_i32_42 v30
  v31.toNat
def k0_dev15 : Nat :=
  let c0_i32_45 : BitVec 32 := 0#32
  let c14_i32 : BitVec 32 := 14#32
  let c1_i32_44 : BitVec 32 := 1#32
  let v32 : BitVec 32 := Scalar.muli c14_i32 c1_i32_44
  let v33 : BitVec 32 := Scalar.addi c0_i32_45 v32
  v33.toNat
def k0_dev16 : Nat :=
  let c0_i32_48 : BitVec 32 := 0#32
  let c15_i32 : BitVec 32 := 15#32
  let c1_i32_47 : BitVec 32 := 1#32
  let v34 : BitVec 32 := Scalar.muli c15_i32 c1_i32_47
  let v35 : BitVec 32 := Scalar.addi c0_i32_48 v34
  v35.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_225 : BitVec 32 := 0#32
  let v265 : BitVec 1 := Scalar.cmpi .ne v2 c0_i32_225
  let v266 : BitVec 32 := Scalar.extui v265
  let c0_i32_226 : BitVec 32 := 0#32
  let v267 : BitVec 1 := Scalar.cmpi .ne v266 c0_i32_226
  v267

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1302 : BitVec 32 := 0#32
  let c0_i32_1303 : BitVec 32 := 0#32
  ![v2.toNat, 0, 0]
def k0_dev17 : Nat :=
  let c0_i32_1301 : BitVec 32 := 0#32
  let c0_i32_1299 : BitVec 32 := 0#32
  let c1_i32_1300 : BitVec 32 := 1#32
  let v1567 : BitVec 32 := Scalar.muli c0_i32_1299 c1_i32_1300
  let v1568 : BitVec 32 := Scalar.addi c0_i32_1301 v1567
  v1568.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_230 : BitVec 32 := 1#32
  let v272 : BitVec 1 := Scalar.cmpi .ne v2 c1_i32_230
  let v273 : BitVec 32 := Scalar.extui v272
  let c0_i32_231 : BitVec 32 := 0#32
  let v274 : BitVec 1 := Scalar.cmpi .ne v273 c0_i32_231
  v274

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1302 : BitVec 32 := 0#32
  let c0_i32_1303 : BitVec 32 := 0#32
  ![v2.toNat, 0, 0]
def k0_dev18 : Nat :=
  let c0_i32_1301 : BitVec 32 := 0#32
  let c1_i32_1299 : BitVec 32 := 1#32
  let c1_i32_1300 : BitVec 32 := 1#32
  let v1567 : BitVec 32 := Scalar.muli c1_i32_1299 c1_i32_1300
  let v1568 : BitVec 32 := Scalar.addi c0_i32_1301 v1567
  v1568.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_235 : BitVec 32 := 2#32
  let v279 : BitVec 1 := Scalar.cmpi .ne v2 c2_i32_235
  let v280 : BitVec 32 := Scalar.extui v279
  let c0_i32_236 : BitVec 32 := 0#32
  let v281 : BitVec 1 := Scalar.cmpi .ne v280 c0_i32_236
  v281

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1302 : BitVec 32 := 0#32
  let c0_i32_1303 : BitVec 32 := 0#32
  ![v2.toNat, 0, 0]
def k0_dev19 : Nat :=
  let c0_i32_1301 : BitVec 32 := 0#32
  let c2_i32_1299 : BitVec 32 := 2#32
  let c1_i32_1300 : BitVec 32 := 1#32
  let v1567 : BitVec 32 := Scalar.muli c2_i32_1299 c1_i32_1300
  let v1568 : BitVec 32 := Scalar.addi c0_i32_1301 v1567
  v1568.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_240 : BitVec 32 := 3#32
  let v286 : BitVec 1 := Scalar.cmpi .ne v2 c3_i32_240
  let v287 : BitVec 32 := Scalar.extui v286
  let c0_i32_241 : BitVec 32 := 0#32
  let v288 : BitVec 1 := Scalar.cmpi .ne v287 c0_i32_241
  v288

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1302 : BitVec 32 := 0#32
  let c0_i32_1303 : BitVec 32 := 0#32
  ![v2.toNat, 0, 0]
def k0_dev20 : Nat :=
  let c0_i32_1301 : BitVec 32 := 0#32
  let c3_i32_1299 : BitVec 32 := 3#32
  let c1_i32_1300 : BitVec 32 := 1#32
  let v1567 : BitVec 32 := Scalar.muli c3_i32_1299 c1_i32_1300
  let v1568 : BitVec 32 := Scalar.addi c0_i32_1301 v1567
  v1568.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_426 : BitVec 32 := 4#32
  let v518 : BitVec 1 := Scalar.cmpi .ne v2 c4_i32_426
  let v519 : BitVec 32 := Scalar.extui v518
  let c0_i32_427 : BitVec 32 := 0#32
  let v520 : BitVec 1 := Scalar.cmpi .ne v519 c0_i32_427
  v520

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1302 : BitVec 32 := 0#32
  let c0_i32_1303 : BitVec 32 := 0#32
  ![v2.toNat, 0, 0]
def k0_dev21 : Nat :=
  let c0_i32_1301 : BitVec 32 := 0#32
  let c4_i32_1299 : BitVec 32 := 4#32
  let c1_i32_1300 : BitVec 32 := 1#32
  let v1567 : BitVec 32 := Scalar.muli c4_i32_1299 c1_i32_1300
  let v1568 : BitVec 32 := Scalar.addi c0_i32_1301 v1567
  v1568.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_431 : BitVec 32 := 5#32
  let v525 : BitVec 1 := Scalar.cmpi .ne v2 c5_i32_431
  let v526 : BitVec 32 := Scalar.extui v525
  let c0_i32_432 : BitVec 32 := 0#32
  let v527 : BitVec 1 := Scalar.cmpi .ne v526 c0_i32_432
  v527

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1302 : BitVec 32 := 0#32
  let c0_i32_1303 : BitVec 32 := 0#32
  ![v2.toNat, 0, 0]
def k0_dev22 : Nat :=
  let c0_i32_1301 : BitVec 32 := 0#32
  let c5_i32_1299 : BitVec 32 := 5#32
  let c1_i32_1300 : BitVec 32 := 1#32
  let v1567 : BitVec 32 := Scalar.muli c5_i32_1299 c1_i32_1300
  let v1568 : BitVec 32 := Scalar.addi c0_i32_1301 v1567
  v1568.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_436 : BitVec 32 := 6#32
  let v532 : BitVec 1 := Scalar.cmpi .ne v2 c6_i32_436
  let v533 : BitVec 32 := Scalar.extui v532
  let c0_i32_437 : BitVec 32 := 0#32
  let v534 : BitVec 1 := Scalar.cmpi .ne v533 c0_i32_437
  v534

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1302 : BitVec 32 := 0#32
  let c0_i32_1303 : BitVec 32 := 0#32
  ![v2.toNat, 0, 0]
def k0_dev23 : Nat :=
  let c0_i32_1301 : BitVec 32 := 0#32
  let c6_i32_1299 : BitVec 32 := 6#32
  let c1_i32_1300 : BitVec 32 := 1#32
  let v1567 : BitVec 32 := Scalar.muli c6_i32_1299 c1_i32_1300
  let v1568 : BitVec 32 := Scalar.addi c0_i32_1301 v1567
  v1568.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_441 : BitVec 32 := 7#32
  let v539 : BitVec 1 := Scalar.cmpi .ne v2 c7_i32_441
  let v540 : BitVec 32 := Scalar.extui v539
  let c0_i32_442 : BitVec 32 := 0#32
  let v541 : BitVec 1 := Scalar.cmpi .ne v540 c0_i32_442
  v541

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1302 : BitVec 32 := 0#32
  let c0_i32_1303 : BitVec 32 := 0#32
  ![v2.toNat, 0, 0]
def k0_dev24 : Nat :=
  let c0_i32_1301 : BitVec 32 := 0#32
  let c7_i32_1299 : BitVec 32 := 7#32
  let c1_i32_1300 : BitVec 32 := 1#32
  let v1567 : BitVec 32 := Scalar.muli c7_i32_1299 c1_i32_1300
  let v1568 : BitVec 32 := Scalar.addi c0_i32_1301 v1567
  v1568.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_627 : BitVec 32 := 8#32
  let v771 : BitVec 1 := Scalar.cmpi .ne v2 c8_i32_627
  let v772 : BitVec 32 := Scalar.extui v771
  let c0_i32_628 : BitVec 32 := 0#32
  let v773 : BitVec 1 := Scalar.cmpi .ne v772 c0_i32_628
  v773

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1302 : BitVec 32 := 0#32
  let c0_i32_1303 : BitVec 32 := 0#32
  ![v2.toNat, 0, 0]
def k0_dev25 : Nat :=
  let c0_i32_1301 : BitVec 32 := 0#32
  let c8_i32_1299 : BitVec 32 := 8#32
  let c1_i32_1300 : BitVec 32 := 1#32
  let v1567 : BitVec 32 := Scalar.muli c8_i32_1299 c1_i32_1300
  let v1568 : BitVec 32 := Scalar.addi c0_i32_1301 v1567
  v1568.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_631 : BitVec 32 := 9#32
  let v778 : BitVec 1 := Scalar.cmpi .ne v2 c9_i32_631
  let v779 : BitVec 32 := Scalar.extui v778
  let c0_i32_632 : BitVec 32 := 0#32
  let v780 : BitVec 1 := Scalar.cmpi .ne v779 c0_i32_632
  v780

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1302 : BitVec 32 := 0#32
  let c0_i32_1303 : BitVec 32 := 0#32
  ![v2.toNat, 0, 0]
def k0_dev26 : Nat :=
  let c0_i32_1301 : BitVec 32 := 0#32
  let c9_i32_1299 : BitVec 32 := 9#32
  let c1_i32_1300 : BitVec 32 := 1#32
  let v1567 : BitVec 32 := Scalar.muli c9_i32_1299 c1_i32_1300
  let v1568 : BitVec 32 := Scalar.addi c0_i32_1301 v1567
  v1568.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_635 : BitVec 32 := 10#32
  let v785 : BitVec 1 := Scalar.cmpi .ne v2 c10_i32_635
  let v786 : BitVec 32 := Scalar.extui v785
  let c0_i32_636 : BitVec 32 := 0#32
  let v787 : BitVec 1 := Scalar.cmpi .ne v786 c0_i32_636
  v787

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1302 : BitVec 32 := 0#32
  let c0_i32_1303 : BitVec 32 := 0#32
  ![v2.toNat, 0, 0]
def k0_dev27 : Nat :=
  let c0_i32_1301 : BitVec 32 := 0#32
  let c10_i32_1299 : BitVec 32 := 10#32
  let c1_i32_1300 : BitVec 32 := 1#32
  let v1567 : BitVec 32 := Scalar.muli c10_i32_1299 c1_i32_1300
  let v1568 : BitVec 32 := Scalar.addi c0_i32_1301 v1567
  v1568.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_639 : BitVec 32 := 11#32
  let v792 : BitVec 1 := Scalar.cmpi .ne v2 c11_i32_639
  let v793 : BitVec 32 := Scalar.extui v792
  let c0_i32_640 : BitVec 32 := 0#32
  let v794 : BitVec 1 := Scalar.cmpi .ne v793 c0_i32_640
  v794

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1302 : BitVec 32 := 0#32
  let c0_i32_1303 : BitVec 32 := 0#32
  ![v2.toNat, 0, 0]
def k0_dev28 : Nat :=
  let c0_i32_1301 : BitVec 32 := 0#32
  let c11_i32_1299 : BitVec 32 := 11#32
  let c1_i32_1300 : BitVec 32 := 1#32
  let v1567 : BitVec 32 := Scalar.muli c11_i32_1299 c1_i32_1300
  let v1568 : BitVec 32 := Scalar.addi c0_i32_1301 v1567
  v1568.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_825 : BitVec 32 := 12#32
  let v1024 : BitVec 1 := Scalar.cmpi .ne v2 c12_i32_825
  let v1025 : BitVec 32 := Scalar.extui v1024
  let c0_i32_826 : BitVec 32 := 0#32
  let v1026 : BitVec 1 := Scalar.cmpi .ne v1025 c0_i32_826
  v1026

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1302 : BitVec 32 := 0#32
  let c0_i32_1303 : BitVec 32 := 0#32
  ![v2.toNat, 0, 0]
def k0_dev29 : Nat :=
  let c0_i32_1301 : BitVec 32 := 0#32
  let c12_i32_1299 : BitVec 32 := 12#32
  let c1_i32_1300 : BitVec 32 := 1#32
  let v1567 : BitVec 32 := Scalar.muli c12_i32_1299 c1_i32_1300
  let v1568 : BitVec 32 := Scalar.addi c0_i32_1301 v1567
  v1568.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_829 : BitVec 32 := 13#32
  let v1031 : BitVec 1 := Scalar.cmpi .ne v2 c13_i32_829
  let v1032 : BitVec 32 := Scalar.extui v1031
  let c0_i32_830 : BitVec 32 := 0#32
  let v1033 : BitVec 1 := Scalar.cmpi .ne v1032 c0_i32_830
  v1033

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1302 : BitVec 32 := 0#32
  let c0_i32_1303 : BitVec 32 := 0#32
  ![v2.toNat, 0, 0]
def k0_dev30 : Nat :=
  let c0_i32_1301 : BitVec 32 := 0#32
  let c13_i32_1299 : BitVec 32 := 13#32
  let c1_i32_1300 : BitVec 32 := 1#32
  let v1567 : BitVec 32 := Scalar.muli c13_i32_1299 c1_i32_1300
  let v1568 : BitVec 32 := Scalar.addi c0_i32_1301 v1567
  v1568.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_833 : BitVec 32 := 14#32
  let v1038 : BitVec 1 := Scalar.cmpi .ne v2 c14_i32_833
  let v1039 : BitVec 32 := Scalar.extui v1038
  let c0_i32_834 : BitVec 32 := 0#32
  let v1040 : BitVec 1 := Scalar.cmpi .ne v1039 c0_i32_834
  v1040

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1302 : BitVec 32 := 0#32
  let c0_i32_1303 : BitVec 32 := 0#32
  ![v2.toNat, 0, 0]
def k0_dev31 : Nat :=
  let c0_i32_1301 : BitVec 32 := 0#32
  let c14_i32_1299 : BitVec 32 := 14#32
  let c1_i32_1300 : BitVec 32 := 1#32
  let v1567 : BitVec 32 := Scalar.muli c14_i32_1299 c1_i32_1300
  let v1568 : BitVec 32 := Scalar.addi c0_i32_1301 v1567
  v1568.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_837 : BitVec 32 := 15#32
  let v1045 : BitVec 1 := Scalar.cmpi .ne v2 c15_i32_837
  let v1046 : BitVec 32 := Scalar.extui v1045
  let c0_i32_838 : BitVec 32 := 0#32
  let v1047 : BitVec 1 := Scalar.cmpi .ne v1046 c0_i32_838
  v1047

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1302 : BitVec 32 := 0#32
  let c0_i32_1303 : BitVec 32 := 0#32
  ![v2.toNat, 0, 0]
def k0_dev32 : Nat :=
  let c0_i32_1301 : BitVec 32 := 0#32
  let c15_i32_1299 : BitVec 32 := 15#32
  let c1_i32_1300 : BitVec 32 := 1#32
  let v1567 : BitVec 32 := Scalar.muli c15_i32_1299 c1_i32_1300
  let v1568 : BitVec 32 := Scalar.addi c0_i32_1301 v1567
  v1568.toNat
def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1048 : Index := Scalar.indexCast v2
  let c0_839 : Index := 0#32
  let c0_840 : Index := 0#32
  ![v1048.toNat, 0, 0]
def k0_off34 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_944 : BitVec 32 := 0#32
  let c0_i32_945 : BitVec 32 := 0#32
  ![v2.toNat, 0, 0]
def k0_dev33 (d0 : Dev nD) : Nat :=
  let c0_i32_943 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_939 : BitVec 32 := 1#32
  let v1181 : BitVec 32 := Scalar.addi v2 c1_i32_939
  let c16_i32_940 : BitVec 32 := 16#32
  let v1182 : BitVec 32 := Scalar.remsi v1181 c16_i32_940
  let c1_i32_942 : BitVec 32 := 1#32
  let v1183 : BitVec 32 := Scalar.muli v1182 c1_i32_942
  let v1184 : BitVec 32 := Scalar.addi c0_i32_943 v1183
  v1184.toNat
def k0_dev34 (d0 : Dev nD) : Nat :=
  let c0_i32_950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_946 : BitVec 32 := 2#32
  let v1191 : BitVec 32 := Scalar.addi v2 c2_i32_946
  let c16_i32_947 : BitVec 32 := 16#32
  let v1192 : BitVec 32 := Scalar.remsi v1191 c16_i32_947
  let c1_i32_949 : BitVec 32 := 1#32
  let v1193 : BitVec 32 := Scalar.muli v1192 c1_i32_949
  let v1194 : BitVec 32 := Scalar.addi c0_i32_950 v1193
  v1194.toNat
def k0_dev35 (d0 : Dev nD) : Nat :=
  let c0_i32_957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_953 : BitVec 32 := 3#32
  let v1201 : BitVec 32 := Scalar.addi v2 c3_i32_953
  let c16_i32_954 : BitVec 32 := 16#32
  let v1202 : BitVec 32 := Scalar.remsi v1201 c16_i32_954
  let c1_i32_956 : BitVec 32 := 1#32
  let v1203 : BitVec 32 := Scalar.muli v1202 c1_i32_956
  let v1204 : BitVec 32 := Scalar.addi c0_i32_957 v1203
  v1204.toNat
def k0_dev36 (d0 : Dev nD) : Nat :=
  let c0_i32_964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_960 : BitVec 32 := 4#32
  let v1211 : BitVec 32 := Scalar.addi v2 c4_i32_960
  let c16_i32_961 : BitVec 32 := 16#32
  let v1212 : BitVec 32 := Scalar.remsi v1211 c16_i32_961
  let c1_i32_963 : BitVec 32 := 1#32
  let v1213 : BitVec 32 := Scalar.muli v1212 c1_i32_963
  let v1214 : BitVec 32 := Scalar.addi c0_i32_964 v1213
  v1214.toNat
def k0_dev37 (d0 : Dev nD) : Nat :=
  let c0_i32_971 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_967 : BitVec 32 := 5#32
  let v1221 : BitVec 32 := Scalar.addi v2 c5_i32_967
  let c16_i32_968 : BitVec 32 := 16#32
  let v1222 : BitVec 32 := Scalar.remsi v1221 c16_i32_968
  let c1_i32_970 : BitVec 32 := 1#32
  let v1223 : BitVec 32 := Scalar.muli v1222 c1_i32_970
  let v1224 : BitVec 32 := Scalar.addi c0_i32_971 v1223
  v1224.toNat
def k0_dev38 (d0 : Dev nD) : Nat :=
  let c0_i32_978 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_974 : BitVec 32 := 6#32
  let v1231 : BitVec 32 := Scalar.addi v2 c6_i32_974
  let c16_i32_975 : BitVec 32 := 16#32
  let v1232 : BitVec 32 := Scalar.remsi v1231 c16_i32_975
  let c1_i32_977 : BitVec 32 := 1#32
  let v1233 : BitVec 32 := Scalar.muli v1232 c1_i32_977
  let v1234 : BitVec 32 := Scalar.addi c0_i32_978 v1233
  v1234.toNat
def k0_dev39 (d0 : Dev nD) : Nat :=
  let c0_i32_985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_981 : BitVec 32 := 7#32
  let v1241 : BitVec 32 := Scalar.addi v2 c7_i32_981
  let c16_i32_982 : BitVec 32 := 16#32
  let v1242 : BitVec 32 := Scalar.remsi v1241 c16_i32_982
  let c1_i32_984 : BitVec 32 := 1#32
  let v1243 : BitVec 32 := Scalar.muli v1242 c1_i32_984
  let v1244 : BitVec 32 := Scalar.addi c0_i32_985 v1243
  v1244.toNat
def k0_dev40 (d0 : Dev nD) : Nat :=
  let c0_i32_992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_988 : BitVec 32 := 8#32
  let v1251 : BitVec 32 := Scalar.addi v2 c8_i32_988
  let c16_i32_989 : BitVec 32 := 16#32
  let v1252 : BitVec 32 := Scalar.remsi v1251 c16_i32_989
  let c1_i32_991 : BitVec 32 := 1#32
  let v1253 : BitVec 32 := Scalar.muli v1252 c1_i32_991
  let v1254 : BitVec 32 := Scalar.addi c0_i32_992 v1253
  v1254.toNat
def k0_dev41 (d0 : Dev nD) : Nat :=
  let c0_i32_999 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_995 : BitVec 32 := 9#32
  let v1261 : BitVec 32 := Scalar.addi v2 c9_i32_995
  let c16_i32_996 : BitVec 32 := 16#32
  let v1262 : BitVec 32 := Scalar.remsi v1261 c16_i32_996
  let c1_i32_998 : BitVec 32 := 1#32
  let v1263 : BitVec 32 := Scalar.muli v1262 c1_i32_998
  let v1264 : BitVec 32 := Scalar.addi c0_i32_999 v1263
  v1264.toNat
def k0_dev42 (d0 : Dev nD) : Nat :=
  let c0_i32_1006 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1002 : BitVec 32 := 10#32
  let v1271 : BitVec 32 := Scalar.addi v2 c10_i32_1002
  let c16_i32_1003 : BitVec 32 := 16#32
  let v1272 : BitVec 32 := Scalar.remsi v1271 c16_i32_1003
  let c1_i32_1005 : BitVec 32 := 1#32
  let v1273 : BitVec 32 := Scalar.muli v1272 c1_i32_1005
  let v1274 : BitVec 32 := Scalar.addi c0_i32_1006 v1273
  v1274.toNat
def k0_dev43 (d0 : Dev nD) : Nat :=
  let c0_i32_1013 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1009 : BitVec 32 := 11#32
  let v1281 : BitVec 32 := Scalar.addi v2 c11_i32_1009
  let c16_i32_1010 : BitVec 32 := 16#32
  let v1282 : BitVec 32 := Scalar.remsi v1281 c16_i32_1010
  let c1_i32_1012 : BitVec 32 := 1#32
  let v1283 : BitVec 32 := Scalar.muli v1282 c1_i32_1012
  let v1284 : BitVec 32 := Scalar.addi c0_i32_1013 v1283
  v1284.toNat
def k0_dev44 (d0 : Dev nD) : Nat :=
  let c0_i32_1020 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1016 : BitVec 32 := 12#32
  let v1291 : BitVec 32 := Scalar.addi v2 c12_i32_1016
  let c16_i32_1017 : BitVec 32 := 16#32
  let v1292 : BitVec 32 := Scalar.remsi v1291 c16_i32_1017
  let c1_i32_1019 : BitVec 32 := 1#32
  let v1293 : BitVec 32 := Scalar.muli v1292 c1_i32_1019
  let v1294 : BitVec 32 := Scalar.addi c0_i32_1020 v1293
  v1294.toNat
def k0_dev45 (d0 : Dev nD) : Nat :=
  let c0_i32_1027 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1023 : BitVec 32 := 13#32
  let v1301 : BitVec 32 := Scalar.addi v2 c13_i32_1023
  let c16_i32_1024 : BitVec 32 := 16#32
  let v1302 : BitVec 32 := Scalar.remsi v1301 c16_i32_1024
  let c1_i32_1026 : BitVec 32 := 1#32
  let v1303 : BitVec 32 := Scalar.muli v1302 c1_i32_1026
  let v1304 : BitVec 32 := Scalar.addi c0_i32_1027 v1303
  v1304.toNat
def k0_dev46 (d0 : Dev nD) : Nat :=
  let c0_i32_1034 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1030 : BitVec 32 := 14#32
  let v1311 : BitVec 32 := Scalar.addi v2 c14_i32_1030
  let c16_i32_1031 : BitVec 32 := 16#32
  let v1312 : BitVec 32 := Scalar.remsi v1311 c16_i32_1031
  let c1_i32_1033 : BitVec 32 := 1#32
  let v1313 : BitVec 32 := Scalar.muli v1312 c1_i32_1033
  let v1314 : BitVec 32 := Scalar.addi c0_i32_1034 v1313
  v1314.toNat
def k0_dev47 (d0 : Dev nD) : Nat :=
  let c0_i32_1041 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1037 : BitVec 32 := 15#32
  let v1321 : BitVec 32 := Scalar.addi v2 c15_i32_1037
  let c16_i32_1038 : BitVec 32 := 16#32
  let v1322 : BitVec 32 := Scalar.remsi v1321 c16_i32_1038
  let c1_i32_1040 : BitVec 32 := 1#32
  let v1323 : BitVec 32 := Scalar.muli v1322 c1_i32_1040
  let v1324 : BitVec 32 := Scalar.addi c0_i32_1041 v1323
  v1324.toNat
abbrev stage0_0 : Fin 1 → Memref sig .tc .vmem S1024x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x768x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2x512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2x512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x64x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x8192 : Shape := ⟨2, ![768, 8192]⟩
abbrev S2x512x128x64 : Shape := ⟨4, ![2, 512, 128, 64]⟩
abbrev S8192x768 : Shape := ⟨2, ![8192, 768]⟩
abbrev S2x512x8192 : Shape := ⟨3, ![2, 512, 8192]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S2x128x512x512 : Shape := ⟨4, ![2, 128, 512, 512]⟩
abbrev S1x1x512x512 : Shape := ⟨4, ![1, 1, 512, 512]⟩
abbrev S2x128x512 : Shape := ⟨3, ![2, 128, 512]⟩
abbrev S2x128x512x1 : Shape := ⟨4, ![2, 128, 512, 1]⟩
abbrev S1x1x512x1 : Shape := ⟨4, ![1, 1, 512, 1]⟩
abbrev S2x128x64x512 : Shape := ⟨4, ![2, 128, 64, 512]⟩

abbrev nBuf : Space → Nat
  | .hbm => 67
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x8192, .f32⟩
  | .hbm, ⟨2, _⟩ => ⟨S2x512x128x64, .f32⟩
  | .hbm, ⟨3, _⟩ => ⟨S2x512x128x64, .f32⟩
  | .hbm, ⟨4, _⟩ => ⟨S8192x768, .f32⟩
  | .hbm, ⟨5, _⟩ => ⟨S2x512x8192, .f32⟩
  | .hbm, ⟨6, _⟩ => ⟨S2x512x128x64, .f32⟩
  | .hbm, ⟨7, _⟩ => ⟨S512, .i32⟩
  | .hbm, ⟨8, _⟩ => ⟨S512x1, .i32⟩
  | .hbm, ⟨9, _⟩ => ⟨S512, .i32⟩
  | .hbm, ⟨10, _⟩ => ⟨S1x512, .i32⟩
  | .hbm, ⟨11, _⟩ => ⟨S512x512, .i32⟩
  | .hbm, ⟨12, _⟩ => ⟨S512x512, .i32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i1⟩
  | .hbm, ⟨18, _⟩ => ⟨S_, .i32⟩
  | .hbm, ⟨19, _⟩ => ⟨S1x512, .i32⟩
  | .hbm, ⟨20, _⟩ => ⟨S1x512, .i1⟩
  | .hbm, ⟨21, _⟩ => ⟨S_, .i32⟩
  | .hbm, ⟨22, _⟩ => ⟨S512x1, .i32⟩
  | .hbm, ⟨23, _⟩ => ⟨S512x1, .i1⟩
  | .hbm, ⟨24, _⟩ => ⟨S512x512, .i1⟩
  | .hbm, ⟨25, _⟩ => ⟨S512x512, .i1⟩
  | .hbm, ⟨26, _⟩ => ⟨S512x512, .i1⟩
  | .hbm, ⟨27, _⟩ => ⟨S512x512, .i1⟩
  | .hbm, ⟨28, _⟩ => ⟨S2x128x512x512, .f32⟩
  | .hbm, ⟨29, _⟩ => ⟨S_, .f32⟩
  | .hbm, ⟨30, _⟩ => ⟨S2x128x512x512, .f32⟩
  | .hbm, ⟨31, _⟩ => ⟨S2x128x512x512, .f32⟩
  | .hbm, ⟨32, _⟩ => ⟨S1x1x512x512, .i1⟩
  | .hbm, ⟨33, _⟩ => ⟨S_, .f32⟩
  | .hbm, ⟨34, _⟩ => ⟨S_, .f32⟩
  | .hbm, ⟨35, _⟩ => ⟨S2x128x512x512, .i1⟩
  | .hbm, ⟨36, _⟩ => ⟨S2x128x512x512, .f32⟩
  | .hbm, ⟨37, _⟩ => ⟨S2x128x512x512, .f32⟩
  | .hbm, ⟨38, _⟩ => ⟨S_, .f32⟩
  | .hbm, ⟨39, _⟩ => ⟨S2x128x512, .f32⟩
  | .hbm, ⟨40, _⟩ => ⟨S2x128x512x1, .f32⟩
  | .hbm, ⟨41, _⟩ => ⟨S2x128x512x512, .f32⟩
  | .hbm, ⟨42, _⟩ => ⟨S2x128x512x512, .f32⟩
  | .hbm, ⟨43, _⟩ => ⟨S2x128x512x512, .f32⟩
  | .hbm, ⟨44, _⟩ => ⟨S_, .i1⟩
  | .hbm, ⟨45, _⟩ => ⟨S512, .i1⟩
  | .hbm, ⟨46, _⟩ => ⟨S1x1x512x1, .i1⟩
  | .hbm, ⟨47, _⟩ => ⟨S_, .f32⟩
  | .hbm, ⟨48, _⟩ => ⟨S2x128x512, .f32⟩
  | .hbm, ⟨49, _⟩ => ⟨S2x128x512x1, .f32⟩
  | .hbm, ⟨50, _⟩ => ⟨S_, .f32⟩
  | .hbm, ⟨51, _⟩ => ⟨S_, .f32⟩
  | .hbm, ⟨52, _⟩ => ⟨S2x128x512x1, .i1⟩
  | .hbm, ⟨53, _⟩ => ⟨S2x128x512x1, .f32⟩
  | .hbm, ⟨54, _⟩ => ⟨S2x128x512x1, .f32⟩
  | .hbm, ⟨55, _⟩ => ⟨S2x128x512x512, .f32⟩
  | .hbm, ⟨56, _⟩ => ⟨S2x128x512x512, .f32⟩
  | .hbm, ⟨57, _⟩ => ⟨S1x1x512x1, .i1⟩
  | .hbm, ⟨58, _⟩ => ⟨S_, .f32⟩
  | .hbm, ⟨59, _⟩ => ⟨S_, .f32⟩
  | .hbm, ⟨60, _⟩ => ⟨S2x128x512x512, .i1⟩
  | .hbm, ⟨61, _⟩ => ⟨S2x128x512x512, .f32⟩
  | .hbm, ⟨62, _⟩ => ⟨S2x128x512x512, .f32⟩
  | .hbm, ⟨63, _⟩ => ⟨S2x128x64x512, .f32⟩
  | .hbm, ⟨64, _⟩ => ⟨S2x512x128x64, .f32⟩
  | .hbm, ⟨65, _⟩ => ⟨S2x512x8192, .f32⟩
  | .hbm, ⟨66, _⟩ => ⟨S2x512x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.Slots.lean ====
/-
  The kernel's scratch buffers cut into sixteen blocks.

  Three of the scratch buffers (the outgoing partial sums, the incoming partial sums, the gathered results) have
  shape 16×64×768; block `k` is `buffer[k]`, a 64×768 tile. This module names the block's memref, its element set and
  where it places an index.
-/
module

public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Regions
public import Idealize.ShloMosaic.Lib.Pipeline.Kit
public import Idealize.ShloMosaic.Lib.Tactic
public import Idealize.ShloMosaic.Lib.Rounds
public import Idealize.ShloMosaic.Lib.Pipeline.RegionTalk
public import Idealize.ShloMosaic.Lib.ValueLayout

@[expose] public section

noncomputable section

namespace Cert.KernelIdeal.Mesh

open Cert.KernelIdeal Cert.KernelIdeal.Gen
open Idealize.ShloMosaic Idealize.ShloMosaic.TcCoe
open Idealize.SL Idealize.SL.Sem
open Idealize.ShloMosaic.ValueIdx

/-- The outgoing partial sums, the incoming partial sums, the gathered results; the device's own result tile. -/
abbrev sbM : Memref sig .tc .vmem S16x64x768 .f32 := Memref.whole cc0_scratch0
abbrev rbM : Memref sig .tc .vmem S16x64x768 .f32 := Memref.whole cc0_scratch1
abbrev abM : Memref sig .tc .vmem S16x64x768 .f32 := Memref.whole cc0_scratch2
abbrev ownM : Memref sig .tc .vmem S64x768 .f32 := Memref.whole cc0_scratch3

theorem slotInb (k : Fin 16) : ∀ a, (![k.val, 0, 0] : Fin 3 → ℕ) a + S1x64x768.size a ≤ S16x64x768.size a := by
  revert k; decide

/-- Block `k` as a rectangle. -/
abbrev slotRect (k : Fin 16) : Rect S16x64x768 := Rect.unit (s := S16x64x768) ![k.val, 0, 0] S1x64x768.size (slotInb k)

/-- Block `k` as a 64×768 memref. -/
abbrev slotM (M : Memref sig .tc .vmem S16x64x768 .f32) (k : Fin 16) : Memref sig .tc .vmem S64x768 .f32 :=
  (M.slice (slotRect k) (fun _ => rfl)).squeeze S64x768 squeezes_S1x64x768_S64x768

/-- The elements of block `k`. -/
def slot (k : Fin 16) : Finset S16x64x768.Idx := Finset.univ.filter fun i => (i 0).val = k.val

theorem mem_slot {k : Fin 16} {i : S16x64x768.Idx} : i ∈ slot k ↔ (i 0).val = k.val := by
  simp [slot]

theorem slot_disjoint {k k' : Fin 16} (h : k ≠ k') : Disjoint (slot k) (slot k') :=
  Finset.disjoint_left.mpr fun i hi hi' => h (Fin.ext ((mem_slot.mp hi).symm.trans (mem_slot.mp hi')))

theorem slot_cover : (Finset.univ : Finset (Fin 16)).biUnion slot = Finset.univ := by
  ext i
  simp only [Finset.mem_biUnion, Finset.mem_univ, true_and, iff_true]
  exact ⟨⟨(i 0).val, (i 0).isLt⟩, mem_slot.mpr rfl⟩

theorem slotRect_set (k : Fin 16) : (slotRect k).set = slot k := by
  ext i
  rw [Rect.mem_set_unit, mem_slot]
  constructor
  · intro h
    have h0 := h 0
    have h1 : k.val ≤ (i 0).val := h0.1
    have h2 : (i 0).val < k.val + 1 := h0.2
    omega
  · intro h a
    have hi := (i a).isLt
    fin_cases a
    · exact ⟨le_of_eq h.symm, (by show (i 0).val < k.val + 1; omega)⟩
    · exact ⟨Nat.zero_le _, (by show (i 1).val < 0 + 64; have h64 : (i 1).val < 64 := (i 1).isLt; omega)⟩
    · exact ⟨Nat.zero_le _, (by show (i 2).val < 0 + 768; have h768 : (i 2).val < 768 := (i 2).isLt; omega)⟩

/-- Where block `k` places the index `(r, d)`. -/
theorem slotRect_emb (k : Fin 16) (r : Fin 64) (d : Fin 768) :
    (slotRect k).emb (ix3 (0 : Fin 1) r d) = (ix3 k r d : S16x64x768.Idx) := by
  funext a
  refine Fin.ext ?_
  fin_cases a
  · show k.val + 1 * 0 = k.val; omega
  · show 0 + 1 * r.val = r.val; omega
  · show 0 + 1 * d.val = d.val; omega

section Views

variable (k : Fin 16)

theorem sb_set : (slotM sbM k).view.set = slot k :=
  (View.set_reshape (v := (sbM.slice (slotRect k) (fun _ => rfl)).view) _).trans ((View.set_slice_whole _ _).trans (slotRect_set k))
theorem rb_set : (slotM rbM k).view.set = slot k :=
  (View.set_reshape (v := (rbM.slice (slotRect k) (fun _ => rfl)).view) _).trans ((View.set_slice_whole _ _).trans (slotRect_set k))
theorem ab_set : (slotM abM k).view.set = slot k :=
  (View.set_reshape (v := (abM.slice (slotRect k) (fun _ => rfl)).view) _).trans ((View.set_slice_whole _ _).trans (slotRect_set k))
theorem own_set : ownM.view.set = Finset.univ := View.set_whole _

theorem sb_emb (r : Fin 64) (d : Fin 768) : (slotM sbM k).view.emb (ix2 r d) = (ix3 k r d : S16x64x768.Idx) := by
  show (slotRect k).emb (Shape.reshapeEquiv _ (ix2 r d)) = _
  rw [reshapeEquiv_ix2_1ab]; exact slotRect_emb k r d
theorem rb_emb (r : Fin 64) (d : Fin 768) : (slotM rbM k).view.emb (ix2 r d) = (ix3 k r d : S16x64x768.Idx) := by
  show (slotRect k).emb (Shape.reshapeEquiv _ (ix2 r d)) = _
  rw [reshapeEquiv_ix2_1ab]; exact slotRect_emb k r d
theorem ab_emb (r : Fin 64) (d : Fin 768) : (slotM abM k).view.emb (ix2 r d) = (ix3 k r d : S16x64x768.Idx) := by
  show (slotRect k).emb (Shape.reshapeEquiv _ (ix2 r d)) = _
  rw [reshapeEquiv_ix2_1ab]; exact slotRect_emb k r d

end Views

/-- An element of block `k` is `(k, r, d)`. -/
theorem eq_of_mem_slot {k : Fin 16} {i : S16x64x768.Idx} (h : i ∈ slot k) :
    i = (ix3 k ⟨(i 1).val, (i 1).isLt⟩ ⟨(i 2).val, (i 2).isLt⟩ : S16x64x768.Idx) := by
  funext a
  refine Fin.ext ?_
  fin_cases a
  · exact mem_slot.mp h
  · rfl
  · rfl

end Cert.KernelIdeal.Mesh

end
-- ==== Proof.Proto.lean ====
/-
  The protocol the sixteen devices follow, written as a schedule of rounds.

  Every device `c` owns five families of semaphores, each used for one round:

  * the barrier: every device signals it once; device `p`'s signal hands `c` the blocks `p` lends it — `p`'s incoming
    block `c` and `p`'s gathered block `c` — and that `p`'s two receive semaphores for `c` are open;
  * `rsS k`, `k ≠ c`: credited when the copy of `c`'s outgoing block `k` has been read; returns that block;
  * `rsR k`, `k ≠ c`: credited when device `k`'s partial sum has landed in `c`'s incoming block `k`; returns the block
    holding it;
  * `agS j`, `j < 15`: credited when the `j`-th copy of `c`'s result tile has been read; returns the share lent to it;
  * `agR k`, `k ≠ c`: credited when device `k`'s result tile has landed in `c`'s gathered block `k`; returns the block.

  Levels: the barrier at 1, `rsR` at 2, `agR` at 3, the send semaphores at 0: a device that waits at one level owes only
  units above it.
-/
module

public import proofs.«01_k».proof.Proof.Slots
public import Idealize.ShloMosaic.Lib.Transfers

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## The resource algebra -/

/-- Duties are named by the device that pays them. -/
abbrev UU : Type := UR sig nD τ × URounds (GSem nD τ sig) (Fin 16)
/-- The logic's resources. -/
abbrev 𝕄' (F : FTy → Type) : Type := MT nD τ sig Unit (Elt F) ℕ UU ℕ
/-- The pipeline's copy of the rounds algebra and the protocol's. -/
abbrev EP : Emb (UR sig nD τ) (𝕄' F) := embL
abbrev ER : Emb (URounds (GSem nD τ sig) (Fin 16)) (𝕄' F) := embR

/-! ## Cells -/

theorem cellInb (k : Fin 16) : ∀ a, (![k.val] : Fin 1 → ℕ) a + S1.size a ≤ S16.size a := by revert k; decide
theorem cellInb15 (j : Fin 15) : ∀ a, (![j.val] : Fin 1 → ℕ) a + S1.size a ≤ S15.size a := by revert j; decide

/-- Semaphore `k` of an array. -/
abbrev semAt (A : DmaSems sig S16) (k : Fin 16) : DmaSem sig :=
  ((A.slice (Rect.unit (s := S16) ![k.val] S1.size (cellInb k))).squeeze S_ squeezes_S1_S_).sem
abbrev semAt15 (A : DmaSems sig S15) (j : Fin 15) : DmaSem sig :=
  ((A.slice (Rect.unit (s := S15) ![j.val] S1.size (cellInb15 j))).squeeze S_ squeezes_S1_S_).sem

abbrev rsS (k : Fin 16) : DmaSem sig := semAt cc0_scratch4 k
abbrev rsR (k : Fin 16) : DmaSem sig := semAt cc0_scratch5 k
abbrev agS (j : Fin 15) : DmaSem sig := semAt15 cc0_scratch6 j
abbrev agR (k : Fin 16) : DmaSem sig := semAt cc0_scratch7 k
abbrev barS : Sem sig := (SemArray.scalar (sig.barrier 0 rfl) : Sems sig S_).sem

abbrev barC (c : Dev nD) : GSem nD τ sig := ((c : Thread nD τ), .reg barS)
abbrev rsSC (c : Dev nD) (k : Fin 16) : GSem nD τ sig := ((c : Thread nD τ), .dma (rsS k))
abbrev rsRC (c : Dev nD) (k : Fin 16) : GSem nD τ sig := ((c : Thread nD τ), .dma (rsR k))
abbrev agSC (c : Dev nD) (j : Fin 15) : GSem nD τ sig := ((c : Thread nD τ), .dma (agS j))
abbrev agRC (c : Dev nD) (k : Fin 16) : GSem nD τ sig := ((c : Thread nD τ), .dma (agR k))

/-- What a semaphore is for. -/
inductive Role
  | bar | rsS (k : Fin 16) | rsR (k : Fin 16) | agS (j : Fin 15) | agR (k : Fin 16) | other
deriving DecidableEq

/-- A semaphore's role, read off its number. -/
def role : SemLoc sig → Role
  | .reg _ => .bar
  | .dma s =>
    if h : 6 ≤ s.val ∧ s.val < 22 then .rsS ⟨s.val - 6, by omega⟩
    else if h : 22 ≤ s.val ∧ s.val < 38 then .rsR ⟨s.val - 22, by omega⟩
    else if h : 38 ≤ s.val ∧ s.val < 53 then .agS ⟨s.val - 38, by omega⟩
    else if h : 53 ≤ s.val ∧ s.val < 69 then .agR ⟨s.val - 53, by omega⟩
    else .other

theorem role_bar : role (.reg barS) = .bar := rfl
theorem role_rsS (k : Fin 16) : role (.dma (rsS k)) = .rsS k := by revert k; decide
theorem role_rsR (k : Fin 16) : role (.dma (rsR k)) = .rsR k := by revert k; decide
theorem role_agS (j : Fin 15) : role (.dma (agS j)) = .agS j := by revert j; decide
theorem role_agR (k : Fin 16) : role (.dma (agR k)) = .agR k := by revert k; decide

/-! ## Contents -/

/-- What the devices compute: device `c`'s partial sums (block `k` the rows device `k` gathers) and its result tile. -/
structure Fill (F : FTy → Type) where
  sb : Dev nD → S16x64x768.Idx → F .f32
  own : Dev nD → S64x768.Idx → F .f32

variable (W : Fill F)

/-- What device `c`'s incoming buffer holds: block `k` is device `k`'s partial sum of `c`'s rows. -/
def landR (c : Dev nD) : S16x64x768.Idx → F .f32 := fun i => W.sb (i 0) (ix3 c (i 1) (i 2))
/-- What the gathered buffer holds: block `k` is device `k`'s result tile. -/
def landA : S16x64x768.Idx → F .f32 := fun i => W.own (i 0) (ix2 (i 1) (i 2))

/-- Device `c`'s outgoing, incoming and gathered block `k` at `f`. -/
abbrev sbPt (c : Dev nD) (k : Fin 16) (f : S16x64x768.Idx → F .f32) : sProp (𝕄' F) :=
  sbM.view.loc (c : Thread nD τ) ↦[slot k]{fullShare} f
abbrev rbPt (c : Dev nD) (k : Fin 16) (f : S16x64x768.Idx → F .f32) : sProp (𝕄' F) :=
  rbM.view.loc (c : Thread nD τ) ↦[slot k]{fullShare} f
abbrev abPt (c : Dev nD) (k : Fin 16) (f : S16x64x768.Idx → F .f32) : sProp (𝕄' F) :=
  abM.view.loc (c : Thread nD τ) ↦[slot k]{fullShare} f
/-- A share of device `c`'s result tile at `f`. -/
abbrev ownPt (c : Dev nD) (q : PosShare TreeShare) (f : S64x768.Idx → F .f32) : sProp (𝕄' F) :=
  ownM.view.loc (c : Thread nD τ) ↦{q} f

/-! ## The schedule -/

/-- Bytes' worth of credit one 64×768 copy pays. -/
abbrev N : ℕ := ownM.view.dmaCredit
theorem N_pos : 0 < N := View.dmaCredit_pos _ (by decide)

theorem credit_sb (k : Fin 16) : (slotM sbM k).view.dmaCredit = N := rfl
theorem credit_rb (k : Fin 16) : (slotM rbM k).view.dmaCredit = N := rfl
theorem credit_ab (k : Fin 16) : (slotM abM k).view.dmaCredit = N := rfl

/-- What device `p` lends device `c` with its barrier signal. -/
def lend (p c : Dev nD) : sProp (𝕄' F) :=
  if p = c then iprop(emp)
  else iprop((∃ f, rbPt p c f) ∗ (∃ f, abPt p c f) ∗ reached ER (rsRC p c) 0 ∗ reached ER (agRC p c) 0)

/-- Who pays device `c`'s semaphore of each role. -/
def payers (c : Dev nD) : Role → Finset (Fin 16)
  | .bar => Finset.univ
  | .rsS k => if k = c then ∅ else {c}
  | .rsR k => if k = c then ∅ else {k}
  | .agS _ => {c}
  | .agR k => if k = c then ∅ else {k}
  | .other => ∅

/-- What device `d`'s payment to device `c`'s semaphore of each role carries. -/
def pays (c : Dev nD) (d : Fin 16) : Role → sProp (𝕄' F)
  | .bar => lend d c
  | .rsS k => sbPt c k (W.sb c)
  | .rsR k => rbPt c k (landR W c)
  | .agS j => ownPt c (shareTok fullShare 15 j) (W.own c)
  | .agR k => abPt c k (landA W)
  | .other => iprop(emp)

instance pays_storable (c : Dev nD) (d : Fin 16) (r : Role) : BI.Storable (upEmb : UEmb _ (𝕄' F)) (pays W c d r) := by
  cases r <;> unfold pays <;> (try unfold lend) <;> (repeat' split) <;> infer_instance

/-- The protocol: every TensorCore cell is used for one round. -/
def sched : Rounds.Schedule (GSem nD τ sig) (Fin 16) (𝕄' F) where
  duties g r := if r = 0 ∧ g.1.2 = .tc then payers g.1.1 (role g.2) else ∅
  unitless _ := False
  amount g _ _ := if role g.2 = .bar then 1 else N
  payload g _ d := pays W g.1.1 d (role g.2)
  amount_pos g _ _ _ := by
    by_cases h : role g.2 = .bar
    · rw [if_pos h]; exact Nat.one_pos
    · rw [if_neg h]; exact N_pos

instance sched_storable (g : GSem nD τ sig) (r : ℕ) (d : Fin 16) :
    BI.Storable (upEmb : UEmb _ (𝕄' F)) ((sched W).payload g r d) := pays_storable W g.1.1 d (role g.2)

section Tables

variable (c : Dev nD)

theorem duties_zero (sm : SemLoc sig) : (sched W).duties ((c : Thread nD τ), sm) 0 = payers c (role sm) := by
  show (if (0 : ℕ) = 0 ∧ (Proc.tc : Proc τ) = .tc then payers c (role sm) else ∅) = _
  exact if_pos ⟨rfl, rfl⟩
theorem duties_later (g : GSem nD τ sig) : ∀ r, 1 ≤ r → (sched W).duties g r = ∅ :=
  fun r hr => if_neg fun h => by omega

theorem duties_bar : (sched W).duties (barC c) 0 = Finset.univ := duties_zero W c _
theorem duties_rsS {k : Fin 16} (h : k ≠ c) : (sched W).duties (rsSC c k) 0 = {c} := by
  rw [duties_zero, role_rsS]; exact if_neg h
theorem duties_rsR {k : Fin 16} (h : k ≠ c) : (sched W).duties (rsRC c k) 0 = {k} := by
  rw [duties_zero, role_rsR]; exact if_neg h
theorem duties_agS (j : Fin 15) : (sched W).duties (agSC c j) 0 = {c} := by
  rw [duties_zero, role_agS]; rfl
theorem duties_agR {k : Fin 16} (h : k ≠ c) : (sched W).duties (agRC c k) 0 = {k} := by
  rw [duties_zero, role_agR]; exact if_neg h
theorem duties_rsS_self : (sched W).duties (rsSC c c) 0 = ∅ := by
  rw [duties_zero, role_rsS]; exact if_pos rfl
theorem duties_rsR_self : (sched W).duties (rsRC c c) 0 = ∅ := by
  rw [duties_zero, role_rsR]; exact if_pos rfl
theorem duties_agR_self : (sched W).duties (agRC c c) 0 = ∅ := by
  rw [duties_zero, role_agR]; exact if_pos rfl

theorem amount_bar (r : ℕ) (d : Fin 16) : (sched W).amount (barC c) r d = 1 := by
  show (if role (.reg barS) = .bar then 1 else N) = 1
  rw [role_bar]; rfl
theorem amount_rsS (k : Fin 16) (r : ℕ) (d : Fin 16) : (sched W).amount (rsSC c k) r d = N := by
  show (if role (.dma (rsS k)) = .bar then 1 else N) = N
  rw [role_rsS]; rfl
theorem amount_rsR (k : Fin 16) (r : ℕ) (d : Fin 16) : (sched W).amount (rsRC c k) r d = N := by
  show (if role (.dma (rsR k)) = .bar then 1 else N) = N
  rw [role_rsR]; rfl
theorem amount_agS (j : Fin 15) (r : ℕ) (d : Fin 16) : (sched W).amount (agSC c j) r d = N := by
  show (if role (.dma (agS j)) = .bar then 1 else N) = N
  rw [role_agS]; rfl
theorem amount_agR (k : Fin 16) (r : ℕ) (d : Fin 16) : (sched W).amount (agRC c k) r d = N := by
  show (if role (.dma (agR k)) = .bar then 1 else N) = N
  rw [role_agR]; rfl

theorem payload_bar (r : ℕ) (d : Fin 16) : (sched W).payload (barC c) r d = lend d c := rfl
theorem payload_rsS (k : Fin 16) (r : ℕ) (d : Fin 16) : (sched W).payload (rsSC c k) r d = sbPt c k (W.sb c) := by
  show pays W c d (role (.dma (rsS k))) = _; rw [role_rsS]; rfl
theorem payload_rsR (k : Fin 16) (r : ℕ) (d : Fin 16) : (sched W).payload (rsRC c k) r d = rbPt c k (landR W c) := by
  show pays W c d (role (.dma (rsR k))) = _; rw [role_rsR]; rfl
theorem payload_agS (j : Fin 15) (r : ℕ) (d : Fin 16) :
    (sched W).payload (agSC c j) r d = ownPt c (shareTok fullShare 15 j) (W.own c) := by
  show pays W c d (role (.dma (agS j))) = _; rw [role_agS]; rfl
theorem payload_agR (k : Fin 16) (r : ℕ) (d : Fin 16) : (sched W).payload (agRC c k) r d = abPt c k (landA W) := by
  show pays W c d (role (.dma (agR k))) = _; rw [role_agR]; rfl

theorem expect_bar : (sched W).expect (barC c) 0 = 16 := by
  unfold Schedule.expect Schedule.amountOf
  rw [duties_bar, Finset.sum_congr rfl fun d _ => amount_bar W c 0 d]; decide
theorem expect_rsS {k : Fin 16} (h : k ≠ c) : (sched W).expect (rsSC c k) 0 = N := by
  unfold Schedule.expect Schedule.amountOf; rw [duties_rsS W c h, Finset.sum_singleton, amount_rsS]
theorem expect_rsR {k : Fin 16} (h : k ≠ c) : (sched W).expect (rsRC c k) 0 = N := by
  unfold Schedule.expect Schedule.amountOf; rw [duties_rsR W c h, Finset.sum_singleton, amount_rsR]
theorem expect_agS (j : Fin 15) : (sched W).expect (agSC c j) 0 = N := by
  unfold Schedule.expect Schedule.amountOf; rw [duties_agS, Finset.sum_singleton, amount_agS]
theorem expect_agR {k : Fin 16} (h : k ≠ c) : (sched W).expect (agRC c k) 0 = N := by
  unfold Schedule.expect Schedule.amountOf; rw [duties_agR W c h, Finset.sum_singleton, amount_agR]

theorem rest_bar : bigSep ((sched W).duties (barC c) 0 \ ∅) (fun d => (sched W).payload (barC c) 0 d)
    = (bigSep Finset.univ fun d => lend d c : sProp (𝕄' F)) := by
  rw [Finset.sdiff_empty, duties_bar]; rfl
theorem rest_rsS {k : Fin 16} (h : k ≠ c) : bigSep ((sched W).duties (rsSC c k) 0 \ ∅) (fun d => (sched W).payload (rsSC c k) 0 d)
    = sbPt c k (W.sb c) := by
  rw [Finset.sdiff_empty, duties_rsS W c h, bigSep_singleton, payload_rsS]
theorem rest_rsR {k : Fin 16} (h : k ≠ c) : bigSep ((sched W).duties (rsRC c k) 0 \ ∅) (fun d => (sched W).payload (rsRC c k) 0 d)
    = rbPt c k (landR W c) := by
  rw [Finset.sdiff_empty, duties_rsR W c h, bigSep_singleton, payload_rsR]
theorem rest_agS (j : Fin 15) : bigSep ((sched W).duties (agSC c j) 0 \ ∅) (fun d => (sched W).payload (agSC c j) 0 d)
    = ownPt c (shareTok fullShare 15 j) (W.own c) := by
  rw [Finset.sdiff_empty, duties_agS, bigSep_singleton, payload_agS]
theorem rest_agR {k : Fin 16} (h : k ≠ c) : bigSep ((sched W).duties (agRC c k) 0 \ ∅) (fun d => (sched W).payload (agRC c k) 0 d)
    = abPt c k (landA W) := by
  rw [Finset.sdiff_empty, duties_agR W c h, bigSep_singleton, payload_agR]

end Tables

/-! ## Levels -/

/-- Only TensorCore cells carry units. -/
def L (g : GSem nD τ sig) : Finset Unit := if g.1.2 = .tc then {()} else ∅
/-- The level of each cell. -/
def lv (g : GSem nD τ sig) (_ : Unit) : ℕ :=
  match role g.2 with
  | .bar => 1 | .rsR _ => 2 | .agR _ => 3 | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barC c) () = 1 := rfl
theorem lv_rsR (c : Dev nD) (k : Fin 16) : lv (rsRC c k) () = 2 := by unfold lv; rw [role_rsR]
theorem lv_agR (c : Dev nD) (k : Fin 16) : lv (agRC c k) () = 3 := by unfold lv; rw [role_agR]

end Cert.KernelIdeal.Mesh

end
-- ==== Proof.Pools.lean ====
/-
  Pools: what a phase of the kernel still has to use, and what it has already produced, one item per peer.

  A phase visits the items in the order a numbering `n` gives them. `restP n j Φ` holds the items numbered `j` and up,
  `doneP n j Ψ` those below `j`; `restT n j T` sums the debts numbered `j` and up. One visit takes one item out of the
  first, puts one into the second and drops one debt from the third.
-/
module

public import proofs.«01_k».proof.Proof.Proto

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {M : Type} [URA M] {ι : Type} [Fintype ι] [DecidableEq ι]

/-- The items numbered `j` and up. -/
def restP (n : ι → ℕ) (j : ℕ) (Φ : ι → sProp M) : sProp M := bigSep Finset.univ fun k => if j ≤ n k then Φ k else iprop(emp)
/-- The items numbered below `j`. -/
def doneP (n : ι → ℕ) (j : ℕ) (Ψ : ι → sProp M) : sProp M := bigSep Finset.univ fun k => if n k < j then Ψ k else iprop(emp)

variable (n : ι → ℕ)

theorem restP_zero (Φ : ι → sProp M) : restP n 0 Φ = bigSep Finset.univ Φ := by
  unfold restP; exact bigSep_congr fun k _ => if_pos (Nat.zero_le _)

theorem doneP_all {j : ℕ} (h : ∀ k, n k < j) (Ψ : ι → sProp M) : doneP n j Ψ = bigSep Finset.univ Ψ := by
  unfold doneP; exact bigSep_congr fun k _ => if_pos (h k)

theorem bigSep_emp_all : (bigSep Finset.univ fun _ : ι => (iprop(emp) : sProp M)) = iprop(emp) := by
  have h : ∀ s : Finset ι, (bigSep s fun _ : ι => (iprop(emp) : sProp M)) = iprop(emp) := fun s => by
    induction s using Finset.induction_on with
    | empty => exact bigSep_empty
    | insert a s ha ih =>
      rw [bigSep_insert ha, ih]
      exact BI.Entails.antisymm (emp_sep (PROP := sProp M)).1 (emp_sep (PROP := sProp M)).2
  exact h _

theorem doneP_zero (Ψ : ι → sProp M) : doneP n 0 Ψ = iprop(emp) := by
  unfold doneP
  rw [bigSep_congr fun k _ => if_neg (Nat.not_lt_zero _), bigSep_emp_all]

variable {n}

/-- Taking the item numbered `j`. -/
theorem restP_take (hn : Function.Injective n) {k : ι} {j : ℕ} (hk : n k = j) (Φ : ι → sProp M) :
    restP n j Φ ⊢ iprop(Φ k ∗ restP n (j + 1) Φ) := by
  unfold restP
  rw [bigSep_univ_split k, bigSep_univ_split (Φ := fun k => if j + 1 ≤ n k then Φ k else iprop(emp)) k]
  rw [if_pos (le_of_eq hk.symm), if_neg (by omega)]
  rw [bigSep_congr (s := Finset.univ.erase k) (Ψ := fun k => if j + 1 ≤ n k then Φ k else iprop(emp)) fun k' hk' => by
    have hne : n k' ≠ j := fun h => (Finset.ne_of_mem_erase hk') (hn (h.trans hk.symm))
    by_cases h : j ≤ n k'
    · rw [if_pos h, if_pos (by omega)]
    · rw [if_neg h, if_neg (by omega)]]
  exact sep_mono_right (emp_sep (PROP := sProp M)).2

/-- Adding the item numbered `j`. -/
theorem doneP_put (hn : Function.Injective n) {k : ι} {j : ℕ} (hk : n k = j) (Ψ : ι → sProp M) :
    iprop(Ψ k ∗ doneP n j Ψ) ⊢ doneP n (j + 1) Ψ := by
  unfold doneP
  rw [bigSep_univ_split k, bigSep_univ_split (Φ := fun k => if n k < j + 1 then Ψ k else iprop(emp)) k]
  rw [if_pos (show n k < j + 1 by omega), if_neg (show ¬ n k < j by omega)]
  rw [bigSep_congr (s := Finset.univ.erase k) (Φ := fun k => if n k < j then Ψ k else iprop(emp))
    (Ψ := fun k => if n k < j + 1 then Ψ k else iprop(emp)) fun k' hk' => by
    have hne : n k' ≠ j := fun h => (Finset.ne_of_mem_erase hk') (hn (h.trans hk.symm))
    by_cases h : n k' < j
    · rw [if_pos h, if_pos (by omega)]
    · rw [if_neg h, if_neg (by omega)]]
  exact sep_mono_right (emp_sep (PROP := sProp M)).1

/-! ## Debts -/

/-- The debts numbered `j` and up. -/
def restT (n : ι → ℕ) (j : ℕ) (T : ι → CellTallies nD τ sig Unit) : CellTallies nD τ sig Unit :=
  ∑ k, if j ≤ n k then T k else 0

theorem restT_take (hn : Function.Injective n) {k : ι} {j : ℕ} (hk : n k = j) (T : ι → CellTallies nD τ sig Unit) :
    restT n j T = restT n (j + 1) T + T k := by
  unfold restT
  rw [← Finset.sum_erase_add _ _ (Finset.mem_univ k), ← Finset.sum_erase_add (a := k) _ (fun k => if j + 1 ≤ n k then T k else 0) (Finset.mem_univ k),
    if_pos (le_of_eq hk.symm), if_neg (by omega), add_zero]
  congr 1
  refine Finset.sum_congr rfl fun k' hk' => ?_
  have hne : n k' ≠ j := fun h => (Finset.ne_of_mem_erase hk') (hn (h.trans hk.symm))
  by_cases h : j ≤ n k'
  · rw [if_pos h, if_pos (by omega)]
  · rw [if_neg h, if_neg (by omega)]

theorem restT_end {j : ℕ} {T : ι → CellTallies nD τ sig Unit} (h : ∀ k, j ≤ n k → T k = 0) : restT n j T = 0 := by
  unfold restT
  refine Finset.sum_eq_zero fun k _ => ?_
  by_cases hk : j ≤ n k
  · rw [if_pos hk, h k hk]
  · rw [if_neg hk]

theorem restT_zero (T : ι → CellTallies nD τ sig Unit) : restT n 0 T = ∑ k, T k := by
  unfold restT; exact Finset.sum_congr rfl fun k _ => if_pos (Nat.zero_le _)

/-- Every unit of `O` sits on a TensorCore cell of level above `l`. -/
def Above (l : ℕ) (O : CellTallies nD τ sig Unit) : Prop := ∀ g u, 0 < O g u → g.1.2 = .tc ∧ l < lv g u

theorem Above.zero (l : ℕ) : Above l 0 := fun _ _ h => absurd h (Nat.lt_irrefl 0)
theorem Above.add {l : ℕ} {O O' : CellTallies nD τ sig Unit} (h : Above l O) (h' : Above l O') : Above l (O + O') := fun g u hg => by
  rcases Nat.eq_zero_or_pos (O g u) with h0 | h0
  · refine h' g u ?_
    have : (O + O') g u = O g u + O' g u := rfl
    omega
  · exact h g u h0
theorem Above.tally {l : ℕ} (c : Dev nD) (sm : SemLoc sig) (k : ℕ) (h : l < lv ((c : Thread nD τ), sm) ()) :
    Above l (tallyAt ((c : Thread nD τ), sm) () k) := fun g u hg => by
  rw [tallyAt_apply] at hg
  by_cases hc : g = ((c : Thread nD τ), sm) ∧ u = ()
  · rw [hc.1]; exact ⟨rfl, h⟩
  · rw [if_neg hc] at hg; exact absurd hg (Nat.lt_irrefl 0)
theorem Above.restT {l : ℕ} {j : ℕ} {T : ι → CellTallies nD τ sig Unit} (h : ∀ k, Above l (T k)) : Above l (restT n j T) := by
  unfold Mesh.restT
  refine Finset.sum_induction _ (Above l) (fun _ _ => Above.add) (Above.zero l) fun k _ => ?_
  split
  · exact h k
  · exact Above.zero l

/-- The levels of all cells. -/
@[irreducible] def Levs (F : FTy → Type) [FloatOps F] : sProp (𝕄' F) := levAts L lv

theorem Levs_eq (F : FTy → Type) [FloatOps F] : Levs F = levAts L lv := by unfold Levs; rfl

instance Levs_persistent (F : FTy → Type) [FloatOps F] : BI.Persistent (Levs F) := by rw [Levs_eq]; infer_instance

/-- A device may wait at level `l` while all it owes sits above. -/
theorem mayWait {F : FTy → Type} [FloatOps F] {l : ℕ} {O : CellTallies nD τ sig Unit} (hO : Above l O) (c : Dev nD) (sm : SemLoc sig)
    (h : lv ((c : Thread nD τ), sm) () ≤ l) :
    Levs F ⊢ MayWait (c : Thread nD τ) sm () O := by
  rw [Levs_eq]
  exact MayOwe.of_cut (L := L) (lev := lv) l (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp]; exact h)
    (fun g u hg => (hO g u hg).2)

end Cert.KernelIdeal.Mesh

end
-- ==== Proof.Steps.lean ====
/-
  One operation of the kernel at a time, at a symbolic device `c`.

  The kernel's run is cut into phases; each phase is a state (`sigSt`, `sendSt`, …) indexed by how many items it has
  visited. Each lemma here steps over one operation of the program: a state on the left of `⊢`, the weakest precondition
  of `operation; rest` on the right, from the same statement about `rest` at the next state. Every state has the same
  outline `Ctx ∗ J ∗ state ∗ R`: the facts that last (`Ctx`), the buffers the phase leaves alone (`J`, `R`).
-/
module

public import proofs.«01_k».proof.Proof.Pools

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-- The weakest precondition of a piece of the kernel on device `c`. -/
abbrev WP {α : Type} (c : Dev nD) (p : Prog (TpuEff nD τ sig (Elt F) Λ₀ .tc) α) (Q : α → sProp (𝕄' F)) : sProp (𝕄' F) :=
  wp frame (wpE (defs₀ (F := F)) Variants.none (c : Thread nD τ) none) Set.univ p Q

theorem WP_ret {α : Type} (c : Dev nD) (a : α) (Q : α → sProp (𝕄' F)) : WP c (.ret a) Q = iprop(|={Set.univ}=> Q a) := rfl
theorem WP_bind {α β : Type} (c : Dev nD) (p : Prog (TpuEff nD τ sig (Elt F) Λ₀ .tc) α) (k : α → Prog (TpuEff nD τ sig (Elt F) Λ₀ .tc) β)
    (Q : β → sProp (𝕄' F)) : WP c (p >>= k) Q = WP c p fun a => WP c (k a) Q := wp_bind _ _ _ _ _ _

/-- A 64×768 block of one of the scratch buffers, by its offset. -/
abbrev blkM (M : Memref sig .tc .vmem S16x64x768 .f32) (o : Fin 3 → ℕ) (hi : ∀ a, o a + S1x64x768.size a ≤ S16x64x768.size a) :
    Memref sig .tc .vmem S64x768 .f32 :=
  (M.slice (Rect.unit (s := S16x64x768) o S1x64x768.size hi) (fun _ => rfl)).squeeze S64x768 squeezes_S1x64x768_S64x768
/-- A semaphore of an array, by its offset. -/
abbrev semO (A : DmaSems sig S16) (o : Fin 1 → ℕ) (hi : ∀ a, o a + S1.size a ≤ S16.size a) : DmaSem sig :=
  ((A.slice (Rect.unit (s := S16) o S1.size hi)).squeeze S_ squeezes_S1_S_).sem
abbrev semO15 (A : DmaSems sig S15) (o : Fin 1 → ℕ) (hi : ∀ a, o a + S1.size a ≤ S15.size a) : DmaSem sig :=
  ((A.slice (Rect.unit (s := S15) o S1.size hi)).squeeze S_ squeezes_S1_S_).sem

variable (W : Fill F) (K : GSem nD τ sig → ℕ) (c : Dev nD)

/-! ## What lasts -/

/-- The invariants of every cell, and that every barrier's round is open. -/
def recs : sProp (𝕄' F) :=
  iprop((bigSep Finset.univ fun d : Dev nD => iprop(cellInv ER (sched W) (K (barC d)) (barC d) ∗ reached ER (barC d) 0))
    ∗ (bigSep Finset.univ fun p : Dev nD × Fin 16 => cellInv ER (sched W) (K (rsSC p.1 p.2)) (rsSC p.1 p.2))
    ∗ (bigSep Finset.univ fun p : Dev nD × Fin 16 => cellInv ER (sched W) (K (rsRC p.1 p.2)) (rsRC p.1 p.2))
    ∗ (bigSep Finset.univ fun p : Dev nD × Fin 15 => cellInv ER (sched W) (K (agSC p.1 p.2)) (agSC p.1 p.2))
    ∗ (bigSep Finset.univ fun p : Dev nD × Fin 16 => cellInv ER (sched W) (K (agRC p.1 p.2)) (agRC p.1 p.2)))

/-- Device `c`'s own DMA cells are open. -/
def opens : sProp (𝕄' F) :=
  iprop((bigSep Finset.univ fun k : Fin 16 => reached ER (rsSC c k) 0) ∗ (bigSep Finset.univ fun k : Fin 16 => reached ER (rsRC c k) 0)
    ∗ (bigSep Finset.univ fun j : Fin 15 => reached ER (agSC c j) 0) ∗ (bigSep Finset.univ fun k : Fin 16 => reached ER (agRC c k) 0))

/-- The facts the whole run stands on. -/
def Ctx : sProp (𝕄' F) := iprop(recs W K ∗ opens c ∗ Levs F)

instance recs_persistent : BI.Persistent (recs W K) := by unfold recs; infer_instance
instance opens_persistent : BI.Persistent (opens c : sProp (𝕄' F)) := by unfold opens; infer_instance
instance Ctx_persistent : BI.Persistent (Ctx W K c) := by unfold Ctx; infer_instance

theorem recs_bar (d : Dev nD) : recs W K ⊢ iprop(cellInv ER (sched W) (K (barC d)) (barC d) ∗ reached ER (barC d) 0) :=
  sep_elim_left.trans (bigSep_elim (Φ := fun d : Dev nD => iprop(cellInv ER (sched W) (K (barC d)) (barC d) ∗ reached ER (barC d) 0)) (Finset.mem_univ d))
theorem recs_rsS (d : Dev nD) (k : Fin 16) : recs W K ⊢ cellInv ER (sched W) (K (rsSC d k)) (rsSC d k) :=
  (sep_elim_right.trans sep_elim_left).trans
    (bigSep_elim (Φ := fun p : Dev nD × Fin 16 => cellInv ER (sched W) (K (rsSC p.1 p.2)) (rsSC p.1 p.2)) (Finset.mem_univ (d, k)))
theorem recs_rsR (d : Dev nD) (k : Fin 16) : recs W K ⊢ cellInv ER (sched W) (K (rsRC d k)) (rsRC d k) :=
  (sep_elim_right.trans (sep_elim_right.trans sep_elim_left)).trans
    (bigSep_elim (Φ := fun p : Dev nD × Fin 16 => cellInv ER (sched W) (K (rsRC p.1 p.2)) (rsRC p.1 p.2)) (Finset.mem_univ (d, k)))
theorem recs_agS (d : Dev nD) (j : Fin 15) : recs W K ⊢ cellInv ER (sched W) (K (agSC d j)) (agSC d j) :=
  (sep_elim_right.trans (sep_elim_right.trans (sep_elim_right.trans sep_elim_left))).trans
    (bigSep_elim (Φ := fun p : Dev nD × Fin 15 => cellInv ER (sched W) (K (agSC p.1 p.2)) (agSC p.1 p.2)) (Finset.mem_univ (d, j)))
theorem recs_agR (d : Dev nD) (k : Fin 16) : recs W K ⊢ cellInv ER (sched W) (K (agRC d k)) (agRC d k) :=
  (sep_elim_right.trans (sep_elim_right.trans (sep_elim_right.trans sep_elim_right))).trans
    (bigSep_elim (Φ := fun p : Dev nD × Fin 16 => cellInv ER (sched W) (K (agRC p.1 p.2)) (agRC p.1 p.2)) (Finset.mem_univ (d, k)))
theorem opens_rsS (k : Fin 16) : (opens c : sProp (𝕄' F)) ⊢ reached ER (rsSC c k) 0 :=
  sep_elim_left.trans (bigSep_elim (Φ := fun k : Fin 16 => reached ER (rsSC c k) 0) (Finset.mem_univ k))
theorem opens_rsR (k : Fin 16) : (opens c : sProp (𝕄' F)) ⊢ reached ER (rsRC c k) 0 :=
  (sep_elim_right.trans sep_elim_left).trans (bigSep_elim (Φ := fun k : Fin 16 => reached ER (rsRC c k) 0) (Finset.mem_univ k))
theorem opens_agS (j : Fin 15) : (opens c : sProp (𝕄' F)) ⊢ reached ER (agSC c j) 0 :=
  (sep_elim_right.trans (sep_elim_right.trans sep_elim_left)).trans (bigSep_elim (Φ := fun j : Fin 15 => reached ER (agSC c j) 0) (Finset.mem_univ j))
theorem opens_agR (k : Fin 16) : (opens c : sProp (𝕄' F)) ⊢ reached ER (agRC c k) 0 :=
  (sep_elim_right.trans (sep_elim_right.trans sep_elim_right)).trans (bigSep_elim (Φ := fun k : Fin 16 => reached ER (agRC c k) 0) (Finset.mem_univ k))

theorem Ctx_recs : Ctx W K c ⊢ recs W K := sep_elim_left
theorem Ctx_opens : Ctx W K c ⊢ opens c := sep_elim_right.trans sep_elim_left
theorem Ctx_lev : Ctx W K c ⊢ Levs F := sep_elim_right.trans sep_elim_right

/-- What device `c` owes, whatever it has waited on. -/
def OwesE (O : CellTallies nD τ sig Unit) : sProp (𝕄' F) := iprop(∃ Wt, owes (c : Thread nD τ) O Wt)

/-! ## Debts -/

/-- A device's unit to device `k`'s barrier. -/
def barT (k : Fin 16) : CellTallies nD τ sig Unit := tallyAt (barC k) () 1
/-- Its partial sum to device `k`. -/
def rsT (k : Fin 16) : CellTallies nD τ sig Unit := if k = c then 0 else tallyAt (rsRC k c) () N
/-- Its result tile to device `k`. -/
def agT (k : Fin 16) : CellTallies nD τ sig Unit := if k = c then 0 else tallyAt (agRC k c) () N

/-- When device `c` sends its result tile to device `k`: the `j`-th copy goes to device `c + 1 + j`. -/
def turn (k : Fin 16) : ℕ := (k.val + 15 - c.val) % 16
/-- Where the `j`-th copy goes. -/
def tgt (j : Fin 15) : Fin 16 := ⟨(c.val + 1 + j.val) % 16, Nat.mod_lt _ (by decide)⟩

theorem turn_inj : Function.Injective (turn c) := fun a b h => by
  have hc := (show c.val < 16 from c.isLt); have ha := a.isLt; have hb := b.isLt
  unfold turn at h; ext; omega
theorem turn_tgt (j : Fin 15) : turn c (tgt c j) = j.val := by
  have hc := (show c.val < 16 from c.isLt); have hj := j.isLt
  unfold turn tgt; dsimp only; omega
theorem tgt_ne (j : Fin 15) : tgt c j ≠ c := fun h => by
  have h' := congrArg Fin.val h
  have hc := (show c.val < 16 from c.isLt); have hj := j.isLt
  unfold tgt at h'; dsimp only at h'; omega
theorem turn_self : turn c c = 15 := by
  have hc := (show c.val < 16 from c.isLt)
  unfold turn; omega
theorem eq_of_turn {k : Fin 16} (h : 15 ≤ turn c k) : k = c := turn_inj c (by
  have : turn c k < 16 := Nat.mod_lt _ (by decide)
  rw [turn_self]; omega)

theorem val_inj : Function.Injective (Fin.val : Fin 16 → ℕ) := fun _ _ => Fin.ext
theorem val_inj15 : Function.Injective (Fin.val : Fin 15 → ℕ) := fun _ _ => Fin.ext

/-- What is left of the partial sums and of the result tiles to send. -/
abbrev rsDue (j : ℕ) : CellTallies nD τ sig Unit := restT (Fin.val : Fin 16 → ℕ) j (rsT c)
abbrev agDue (j : ℕ) : CellTallies nD τ sig Unit := restT (turn c) j (agT c)
abbrev barDue (j : ℕ) : CellTallies nD τ sig Unit := restT (Fin.val : Fin 16 → ℕ) j barT

theorem rsDue_end : rsDue c 16 = 0 := restT_end fun k h => absurd k.isLt (by omega)
theorem barDue_end : barDue 16 = 0 := restT_end fun k h => absurd k.isLt (by omega)
theorem agDue_end : agDue c 15 = 0 := restT_end fun k h => if_pos (eq_of_turn c h)

theorem above_rs {l : ℕ} (hl : l < 2) (j : ℕ) : Above l (rsDue c j) := Above.restT fun k => by
  unfold rsT; split
  · exact Above.zero l
  · exact Above.tally _ _ _ (by rw [lv_rsR]; exact hl)
theorem above_ag {l : ℕ} (hl : l < 3) (j : ℕ) : Above l (agDue c j) := Above.restT fun k => by
  unfold agT; split
  · exact Above.zero l
  · exact Above.tally _ _ _ (by rw [lv_agR]; exact hl)

/-! ## The barrier -/

/-- What device `c` signals device `k` with. -/
def sigRes (k : Fin 16) : sProp (𝕄' F) := iprop(dutyTok ER (barC k) 0 c ∗ lend c k)

/-- Signalling: `j` devices signalled, everything still to be sent. -/
def sigSt (j : ℕ) : sProp (𝕄' F) := iprop(OwesE c (rsDue c 0 + agDue c 0 + barDue j) ∗ restP (Fin.val : Fin 16 → ℕ) j (sigRes c))

variable {J R : sProp (𝕄' F)} {α : Type} {Q : α → sProp (𝕄' F)}

theorem step_signal (k : Fin 16) {j : ℕ} (hj : k.val = j) {kk : PUnit → Prog (TpuEff nD τ sig (Elt F) Λ₀ .tc) α}
    (hk : iprop(Ctx W K c ∗ J ∗ sigSt c (j + 1) ∗ R) ⊢ WP c (kk ⟨⟩) Q) :
    iprop(Ctx W K c ∗ J ∗ sigSt c j ∗ R) ⊢ WP c (.op (.semSignal (Dev.tc k) barS 1) kk) Q := by
  unfold sigSt OwesE at hk ⊢
  iintro ⟨#HC, HJ, ⟨⟨%Wt, HO⟩, HP⟩, HR⟩
  ihave HP := (restP_take val_inj hj (sigRes c)) $$ HP
  unfold sigRes
  icases HP with ⟨⟨Htok, Hpay⟩, HP⟩
  ihave #HI := ((Ctx_recs W K c).trans (recs_bar W K k)) $$ HC
  icases HI with ⟨#HI, #Hr⟩
  iapply (Rounds.wp_signal Variants.none ER (sched W) (c : Thread nD τ) none (dst := (k : Thread nD τ)) (sem := barS) (r := 0) (d := c)
      (κ := K (barC k)) (k' := 1) (k := kk)
      (by rw [duties_bar]; exact Finset.mem_univ _) (amount_bar W k 0 c) () (O₀ := rsDue c 0 + agDue c 0 + barDue j) (rsDue c 0 + agDue c 0 + barDue (j + 1))
      ((congrArg (rsDue c 0 + agDue c 0 + ·) (restT_take val_inj hj barT)).trans (add_assoc _ _ _).symm)) $$ [HO Htok Hpay]
  · isplitr; · iexact HI
    isplitl [HO]; · iexact HO
    isplitl [Htok]; · iexact Htok
    isplitl [Hpay]; · rw [payload_bar]; iexact Hpay
    iexact Hr
  iintro HO
  iapply hk
  isplitr; · iexact HC
  isplitl [HJ]; · iexact HJ
  isplitr [HR]
  · isplitl [HO]; · iexists Wt; iexact HO
    iexact HP
  iexact HR

/-- Before and after the wait on the own barrier: the peers' blocks arrive. -/
def barPre : sProp (𝕄' F) := iprop(OwesE c (rsDue c 0 + agDue c 0) ∗ cred (tallyAt (barC c) () 16) ∗ atPos ER (barC c) 0 ∅ 0)
def barPost : sProp (𝕄' F) := iprop(OwesE c (rsDue c 0 + agDue c 0) ∗ atPos ER (barC c) 1 ∅ 0 ∗ bigSep Finset.univ fun d : Fin 16 => lend d c)

theorem step_barrier {kk : PUnit → Prog (TpuEff nD τ sig (Elt F) Λ₀ .tc) α}
    (hk : iprop(Ctx W K c ∗ J ∗ barPost c ∗ R) ⊢ WP c (kk ⟨⟩) Q) :
    iprop(Ctx W K c ∗ J ∗ barPre c ∗ R) ⊢ WP c (.op (.semWait barS 16) kk) Q := by
  unfold barPost OwesE at hk
  unfold barPre OwesE
  iintro ⟨#HC, HJ, ⟨⟨%Wt, HO⟩, Hcr, Hat⟩, HR⟩
  ihave #HI := ((Ctx_recs W K c).trans (recs_bar W K c)) $$ HC
  icases HI with ⟨#HI, -⟩
  ihave #Hlv := (Ctx_lev W K c) $$ HC
  iapply (Rounds.wp_wait_rest_token Variants.none ER (sched W) (c : Thread nD τ) none (κ := K (barC c)) (k := kk)
      (wpE_semWait_eq Variants.none (c : Thread nD τ) none Set.univ) (Set.mem_univ _) () (O := rsDue c 0 + agDue c 0) (W := Wt) (R := 0) (m := 0) (T := ∅)
      ((Nat.zero_add 16).trans (expect_bar W c).symm)) $$ [Hcr HO Hat]
  · isplitr; · iexact HI
    isplitl [Hcr]; · iexact Hcr
    isplitl [HO]; · iexact HO
    isplitr
    · iapply (mayWait ((above_rs c (l := 1) (by decide) 0).add (above_ag c (by decide) 0)) c (.reg barS) (le_of_eq (lv_bar c))); iexact Hlv
    iexact Hat
  iintro ⟨HO, Hat, -, Hpay⟩
  ihave Hpay := (Entails.of_eq (rest_bar W c)) $$ Hpay
  iapply hk
  isplitr; · iexact HC
  isplitl [HJ]; · iexact HJ
  isplitr [HR]
  · isplitl [HO]; · iexists _; iexact HO
    isplitl [Hat]; · iexact Hat
    iexact Hpay
  iexact HR

end Cert.KernelIdeal.Mesh

end
-- ==== Proof.SendSteps.lean ====
/-
  The reduce-scatter's sends: device `c` writes the rows device `k` gathers into its outgoing block `k`, then, unless
  `k = c`, starts the copy of that block into device `k`'s incoming block `c`.
-/
module

public import proofs.«01_k».proof.Proof.Steps

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]
variable (W : Fill F) (K : GSem nD τ sig → ℕ) (c : Dev nD)

/-! ## What a block holds after a store and after a landing -/

/-- Storing a block whose rows are `g`'s. -/
theorem sb_store (k : Fin 16) (f g : S16x64x768.Idx → F .f32) (w : S1x64x768.Idx → F .f32)
    (hw : ∀ r d, w (ix3 0 r d) = g (ix3 k r d)) (i : S16x64x768.Idx) (hi : i ∈ slot k) :
    (sbM.access (slotRect k)).write (Elt F) f w Finset.univ i = g i := by
  obtain ⟨r, d, rfl⟩ : ∃ r d, i = ix3 k r d := ⟨_, _, eq_of_mem_slot hi⟩
  rw [← hw, show (ix3 k r d : S16x64x768.Idx) = (sbM.access (slotRect k)).emb (ix3 0 r d) from (slotRect_emb k r d).symm]
  exact View.write_emb_of_mem _ _ (Finset.mem_univ _)

/-- A partial sum landing in an incoming block. -/
theorem rb_land (k' k : Fin 16) (f g g' : S16x64x768.Idx → F .f32) (hg : ∀ r d, g' (ix3 k' r d) = g (ix3 k r d))
    (i : S16x64x768.Idx) (hi : i ∈ slot k) :
    (slotM rbM k).view.write (Elt F) f ((slotM sbM k').view.read (Elt F) g') Finset.univ i = g i := by
  obtain ⟨r, d, rfl⟩ : ∃ r d, i = ix3 k r d := ⟨_, _, eq_of_mem_slot hi⟩
  rw [← hg, show (ix3 k r d : S16x64x768.Idx) = (slotM rbM k).view.emb (ix2 r d) from (rb_emb k r d).symm]
  exact (View.write_emb_of_mem _ _ (Finset.mem_univ _)).trans (congrArg g' (sb_emb k' r d))

/-- A result tile landing in a gathered block. -/
theorem ab_land (k : Fin 16) (f g : S16x64x768.Idx → F .f32) (o : S64x768.Idx → F .f32) (hg : ∀ r d, o (ix2 r d) = g (ix3 k r d))
    (i : S16x64x768.Idx) (hi : i ∈ slot k) :
    (slotM abM k).view.write (Elt F) f (ownM.view.read (Elt F) o) Finset.univ i = g i := by
  obtain ⟨r, d, rfl⟩ : ∃ r d, i = ix3 k r d := ⟨_, _, eq_of_mem_slot hi⟩
  rw [← hg, show (ix3 k r d : S16x64x768.Idx) = (slotM abM k).view.emb (ix2 r d) from (ab_emb k r d).symm]
  exact View.write_emb_of_mem _ _ (Finset.mem_univ _)

/-! ## Loads and stores of a block -/

/-- Block `k` of a buffer, as a load reads it. -/
def blk (k : Fin 16) (f : S16x64x768.Idx → F .f32) : S1x64x768.Idx → F .f32 := fun i => f (ix3 k ⟨(i 1).val, (i 1).isLt⟩ ⟨(i 2).val, (i 2).isLt⟩)

theorem idx_one (i : S1x64x768.Idx) : i = (ix3 0 ⟨(i 1).val, (i 1).isLt⟩ ⟨(i 2).val, (i 2).isLt⟩ : S1x64x768.Idx) := by
  funext a
  refine Fin.ext ?_
  fin_cases a
  · have : (i 0).val < 1 := (i 0).isLt
    show (i 0).val = 0
    omega
  · rfl
  · rfl

theorem sb_read (k : Fin 16) (f : S16x64x768.Idx → F .f32) : (sbM.access (slotRect k)).read (Elt F) f = blk k f := by
  funext i
  refine congrArg f ?_
  conv_lhs => rw [idx_one i]
  exact slotRect_emb k _ _
theorem rb_read (k : Fin 16) (f : S16x64x768.Idx → F .f32) : (rbM.access (slotRect k)).read (Elt F) f = blk k f := by
  funext i
  refine congrArg f ?_
  conv_lhs => rw [idx_one i]
  exact slotRect_emb k _ _
theorem ab_read (k : Fin 16) (f : S16x64x768.Idx → F .f32) : (abM.access (slotRect k)).read (Elt F) f = blk k f := by
  funext i
  refine congrArg f ?_
  conv_lhs => rw [idx_one i]
  exact slotRect_emb k _ _

theorem sb_access (k : Fin 16) : (sbM.access (slotRect k)).set = slot k := (View.set_slice_whole _ _).trans (slotRect_set k)
theorem rb_access (k : Fin 16) : (rbM.access (slotRect k)).set = slot k := (View.set_slice_whole _ _).trans (slotRect_set k)
theorem ab_access (k : Fin 16) : (abM.access (slotRect k)).set = slot k := (View.set_slice_whole _ _).trans (slotRect_set k)

section Blocks

variable {α : Type} {Q : α → sProp (𝕄' F)}

theorem sb_load (k : Fin 16) (f : S16x64x768.Idx → F .f32) {hl} {kk : (S1x64x768.Idx → Elt F .f32) → Prog (TpuEff nD τ sig (Elt F) Λ₀ .tc) α} :
    sbPt c k f ⊢ iprop((sbPt c k f -∗ WP c (kk (blk k f)) Q) -∗ WP c (.op (.load sbM (slotRect k).toLoadRect hl) kk) Q) := by
  have h := wp_load_rect (defs := defs₀ (F := F)) (Γ := PendingWaitsCtx.empty) (m := sbM) (r := slotRect k) (hl := hl) (k := kk) (Q := Q) (S := slot k) (q := fullShare) (f := f) Variants.none
    (c : Thread nD τ) none Set.univ (Finset.Subset.refl _ |> (sb_access k ▸ ·))
  rw [sb_read] at h
  exact h
theorem rb_load (k : Fin 16) (f : S16x64x768.Idx → F .f32) {hl} {kk : (S1x64x768.Idx → Elt F .f32) → Prog (TpuEff nD τ sig (Elt F) Λ₀ .tc) α} :
    rbPt c k f ⊢ iprop((rbPt c k f -∗ WP c (kk (blk k f)) Q) -∗ WP c (.op (.load rbM (slotRect k).toLoadRect hl) kk) Q) := by
  have h := wp_load_rect (defs := defs₀ (F := F)) (Γ := PendingWaitsCtx.empty) (m := rbM) (r := slotRect k) (hl := hl) (k := kk) (Q := Q) (S := slot k) (q := fullShare) (f := f) Variants.none
    (c : Thread nD τ) none Set.univ (Finset.Subset.refl _ |> (rb_access k ▸ ·))
  rw [rb_read] at h
  exact h
theorem ab_load (k : Fin 16) (f : S16x64x768.Idx → F .f32) {hl} {kk : (S1x64x768.Idx → Elt F .f32) → Prog (TpuEff nD τ sig (Elt F) Λ₀ .tc) α} :
    abPt c k f ⊢ iprop((abPt c k f -∗ WP c (kk (blk k f)) Q) -∗ WP c (.op (.load abM (slotRect k).toLoadRect hl) kk) Q) := by
  have h := wp_load_rect (defs := defs₀ (F := F)) (Γ := PendingWaitsCtx.empty) (m := abM) (r := slotRect k) (hl := hl) (k := kk) (Q := Q) (S := slot k) (q := fullShare) (f := f) Variants.none
    (c : Thread nD τ) none Set.univ (Finset.Subset.refl _ |> (ab_access k ▸ ·))
  rw [ab_read] at h
  exact h

theorem sb_put (k : Fin 16) (f g : S16x64x768.Idx → F .f32) {w : S1x64x768.Idx → F .f32} (hw : ∀ r d, w (ix3 0 r d) = g (ix3 k r d)) {hx} {hm}
    {kk : PUnit → Prog (TpuEff nD τ sig (Elt F) Λ₀ .tc) α} :
    sbPt c k f ⊢ iprop((sbPt c k g -∗ WP c (kk ⟨⟩) Q) -∗ WP c (.op (.store sbM (slotRect k) w Finset.univ hx hm) kk) Q) := by
  have h := wp_store (defs := defs₀ (F := F)) (Γ := PendingWaitsCtx.empty) (m := sbM) (r := slotRect k) (w := w) (Mk := Finset.univ) (hx := hx) (hm := hm) (k := kk) (Q := Q) (S := slot k) (f := f) Variants.none
    (c : Thread nD τ) none Set.univ (Finset.Subset.refl _ |> (sb_access k ▸ ·))
  have e : (sbM.view.loc (c : Thread nD τ) ↦[slot k]{fullShare} (sbM.access (slotRect k)).write (Elt F) f w Finset.univ : sProp (𝕄' F)) = sbPt c k g :=
    pointsTo_congr (sb_store k f g w hw)
  refine h.trans ?_
  iintro H Hk
  iapply H
  iintro Hb
  iapply Hk
  iapply (Entails.of_eq e) $$ Hb

end Blocks

/-! ## The phase -/

/-- Outgoing block `k`, not yet written. -/
def sbAny (k : Fin 16) : sProp (𝕄' F) := iprop(∃ f, sbPt c k f)
/-- What the copy to device `k` needs beside its source: the block it lands in, that its semaphore is open there, the two duties. -/
def rsRes (k : Fin 16) : sProp (𝕄' F) :=
  if k = c then iprop(emp) else iprop((∃ f, rbPt k c f) ∗ reached ER (rsRC k c) 0 ∗ dutyTok ER (rsSC c k) 0 c ∗ dutyTok ER (rsRC k c) 0 c)
theorem rsRes_ne {k : Fin 16} (h : k ≠ c) : (rsRes c k : sProp (𝕄' F))
    = iprop((∃ f, rbPt k c f) ∗ reached ER (rsRC k c) 0 ∗ dutyTok ER (rsSC c k) 0 c ∗ dutyTok ER (rsRC k c) 0 c) := if_neg h
theorem rsDue_self {k : Fin 16} {j : ℕ} (hj : k.val = j) (h : k = c) : rsDue c j = rsDue c (j + 1) := by
  refine (restT_take val_inj hj (rsT c)).trans ?_
  rw [show rsT c k = 0 from if_pos h, add_zero]
theorem rsDue_ne {k : Fin 16} {j : ℕ} (hj : k.val = j) (h : k ≠ c) : rsDue c j = rsDue c (j + 1) + tallyAt (rsRC k c) () N := by
  refine (restT_take val_inj hj (rsT c)).trans ?_
  rw [show rsT c k = tallyAt (rsRC k c) () N from if_neg h]
/-- What is left of block `k` once its copy is on its way: the right to wait for it. -/
def rsSent (k : Fin 16) : sProp (𝕄' F) := if k = c then sbPt c c (W.sb c) else cred (tallyAt (rsSC c k) () N)

/-- `j` blocks written and sent. -/
def sendSt (j : ℕ) : sProp (𝕄' F) :=
  iprop(OwesE c (rsDue c j + agDue c 0) ∗ restP (Fin.val : Fin 16 → ℕ) j (sbAny c) ∗ restP (Fin.val : Fin 16 → ℕ) j (rsRes c)
    ∗ doneP (Fin.val : Fin 16 → ℕ) j (rsSent W c))
/-- `j` blocks sent, block `k` written but not sent. -/
def sendMid (k : Fin 16) (j : ℕ) : sProp (𝕄' F) :=
  iprop(OwesE c (rsDue c j + agDue c 0) ∗ restP (Fin.val : Fin 16 → ℕ) (j + 1) (sbAny c) ∗ sbPt c k (W.sb c)
    ∗ restP (Fin.val : Fin 16 → ℕ) j (rsRes c) ∗ doneP (Fin.val : Fin 16 → ℕ) j (rsSent W c))

variable {J R : sProp (𝕄' F)} {α : Type} {Q : α → sProp (𝕄' F)}

theorem step_put (k : Fin 16) {j : ℕ} (hj : k.val = j) {w : S1x64x768.Idx → F .f32} (hw : ∀ r d, w (ix3 0 r d) = W.sb c (ix3 k r d))
    {o o' : Fin 3 → ℕ} (ho : o = ![k.val, 0, 0]) (ho' : o' = ![k.val, 0, 0]) {hi : ∀ a, o a + S1x64x768.size a ≤ S16x64x768.size a}
    {hi' : ∀ a, o' a + S1x64x768.size a ≤ S16x64x768.size a} {hl} {hx} {hm} {kk : PUnit → Prog (TpuEff nD τ sig (Elt F) Λ₀ .tc) α}
    (hk : iprop(Ctx W K c ∗ J ∗ sendMid W c k j ∗ R) ⊢ WP c (kk ⟨⟩) Q) :
    iprop(Ctx W K c ∗ J ∗ sendSt W c j ∗ R)
      ⊢ WP c (.op (.load sbM (Rect.unit (s := S16x64x768) o S1x64x768.size hi).toLoadRect hl) fun _ =>
          .op (.store sbM (Rect.unit (s := S16x64x768) o' S1x64x768.size hi') w Finset.univ hx hm) kk) Q := by
  subst ho; subst ho'
  unfold sendSt
  iintro ⟨HC, HJ, ⟨HO, HB, HS, HD⟩, HR⟩
  ihave HB := (restP_take val_inj hj (sbAny c)) $$ HB
  unfold sbAny
  icases HB with ⟨⟨%f, Hb⟩, HB⟩
  iapply (sb_load c k f) $$ Hb
  iintro Hb
  iapply (sb_put c k f (W.sb c) hw) $$ Hb
  iintro Hb
  iapply hk
  isplitl [HC]; · iexact HC
  isplitl [HJ]; · iexact HJ
  isplitr [HR]
  · unfold sendMid
    isplitl [HO]; · iexact HO
    isplitl [HB]; · iexact HB
    isplitl [Hb]; · iexact Hb
    isplitl [HS]; · iexact HS
    iexact HD
  iexact HR

theorem step_send (k : Fin 16) {j : ℕ} (hj : k.val = j) {P : Prop} {iP : Decidable P} (hP : P ↔ k ≠ c)
    {os or : Fin 1 → ℕ} {oq ob : Fin 3 → ℕ} {dv : ℕ} (hos : os = ![k.val]) (hoq : oq = ![k.val, 0, 0]) (hor : or = ![c.val]) (hob : ob = ![c.val, 0, 0])
    (hdv : dv = k.val)
    {h1 : P → ∀ a, os a + S1.size a ≤ S16.size a} {h2 : P → ∀ a, or a + S1.size a ≤ S16.size a} {h3 : P → ∀ a, ob a + S1x64x768.size a ≤ S16x64x768.size a}
    {h4 : P → ∀ a, oq a + S1x64x768.size a ≤ S16x64x768.size a} {h5 : P → dv < nD}
    {hsc : ∀ h : P, (blkM rbM ob (h3 h)).view.ref.isScScratch = false} {hw1 : ∀ h : P, (blkM sbM oq (h4 h)).view.WordExact}
    {hw2 : ∀ h : P, (blkM rbM ob (h3 h)).view.WordExact}
    {hty : ∀ h : P, DmaTarget.Typed _ (.dma (semO cc0_scratch5 or (h2 h)))
      (.remote (Dev.tc (⟨dv, h5 h⟩ : Dev nD)) (blkM rbM ob (h3 h)) (.dma (semO cc0_scratch4 os (h1 h))) (hsc h))}
    {kk : PUnit → Prog (TpuEff nD τ sig (Elt F) Λ₀ .tc) α}
    (hk : iprop(Ctx W K c ∗ J ∗ sendSt W c (j + 1) ∗ R) ⊢ WP c (kk ⟨⟩) Q) :
    iprop(Ctx W K c ∗ J ∗ sendMid W c k j ∗ R)
      ⊢ WP c (if h : P then
          (.op (.enqueueDma (blkM sbM oq (h4 h))
            (.remote (Dev.tc (⟨dv, h5 h⟩ : Dev nD)) (blkM rbM ob (h3 h)) (.dma (semO cc0_scratch4 os (h1 h))) (hsc h))
            (.dma (semO cc0_scratch5 or (h2 h))) (hw1 h) (hw2 h) (hty h))
            (fun _ => .ret ⟨⟩))
          else .ret ⟨⟩) (fun a => WP c (kk a) Q) := by
  subst hos; subst hoq; subst hor; subst hob; subst hdv
  unfold sendMid
  iintro ⟨#HC, HJ, ⟨HO, HB, Hb, HS, HD⟩, HR⟩
  ihave HS := (restP_take val_inj hj (rsRes c)) $$ HS
  icases HS with ⟨Hr, HS⟩
  by_cases hkc : k = c
  · rw [dif_neg fun h => hP.mp h hkc, WP_ret]
    imodintro
    iapply hk
    isplitr; · iexact HC
    isplitl [HJ]; · iexact HJ
    isplitr [HR]
    · unfold sendSt
      isplitl [HO]
      · rw [← rsDue_self c hj hkc]; iexact HO
      isplitl [HB]; · iexact HB
      isplitl [HS]; · iexact HS
      iapply (doneP_put val_inj hj (rsSent W c))
      isplitl [Hb]
      · unfold rsSent; rw [if_pos hkc]; subst hkc; iexact Hb
      iexact HD
    iexact HR
  · rw [dif_pos (hP.mpr hkc)]
    ihave Hr := (Entails.of_eq (rsRes_ne c hkc)) $$ Hr
    icases Hr with ⟨⟨%f, Hrb⟩, #Hrr, Ht1, Ht2⟩
    unfold OwesE
    icases HO with ⟨%Wt, HO⟩
    ihave #HI1 := ((Ctx_recs W K c).trans (recs_rsS W K c k)) $$ HC
    ihave #HI2 := ((Ctx_recs W K c).trans (recs_rsR W K k c)) $$ HC
    ihave #Hr1 := ((Ctx_opens W K c).trans (opens_rsS c k)) $$ HC
    iapply (Rounds.wp_send_pointsTo Variants.none ER (sched W) (c : Thread nD τ) none (c' := (k : Thread nD τ)) (src := slotM sbM k) (dst := slotM rbM c)
        (sS := .dma (rsS k)) (sem := .dma (rsR c)) (q := fullShare) (fs := W.sb c) (κ₁ := K (rsSC c k)) (κ₂ := K (rsRC k c))
        (r₁ := 0) (r₂ := 0) (d₁ := c) (d₂ := c) (fd := f)
        (by rw [duties_rsS W c hkc]; exact Finset.mem_singleton_self _) (by rw [duties_rsR W k (Ne.symm hkc)]; exact Finset.mem_singleton_self _)
        () () N rfl (amount_rsS W c k 0 c) (amount_rsR W k c 0 c) (O₀ := rsDue c j + agDue c 0) (rsDue c (j + 1) + agDue c 0)
        (by rw [rsDue_ne c hj hkc, add_right_comm]) (W := Wt)
        (by rw [payload_rsS, sb_set])
        (by
          rw [payload_rsR, rb_set]
          exact Entails.of_eq (pointsTo_congr fun i hi => rb_land k c f (landR W k) (W.sb c) (fun r d => rfl) i hi))) $$ [Hb Hrb HO Ht1 Ht2]
    · isplitr; · iexact HI1
      isplitr; · iexact HI2
      isplitl [Hb]; · rw [sb_set]; iexact Hb
      isplitl [Hrb]; · rw [rb_set]; iexact Hrb
      isplitl [HO]; · iexact HO
      isplitl [Ht1]; · iexact Ht1
      isplitr; · iexact Hr1
      isplitl [Ht2]; · iexact Ht2
      iexact Hrr
    iintro ⟨Hcr, HO⟩
    rw [wp_ret]
    imodintro
    iapply hk
    isplitr; · iexact HC
    isplitl [HJ]; · iexact HJ
    isplitr [HR]
    · unfold sendSt OwesE
      isplitl [HO]; · iexists Wt; iexact HO
      isplitl [HB]; · iexact HB
      isplitl [HS]; · iexact HS
      iapply (doneP_put val_inj hj (rsSent W c))
      isplitl [Hcr]
      · unfold rsSent; rw [if_neg hkc]; iexact Hcr
      iexact HD
    iexact HR

end Cert.KernelIdeal.Mesh

end
-- ==== Proof.GatherSteps.lean ====
/-
  The rest of the kernel's operations: waiting for the partial sums and reading them, writing the result tile, sending it
  to every peer, waiting for the peers' tiles, and waiting for the copies that were sent.
-/
module

public import proofs.«01_k».proof.Proof.SendSteps

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]
variable (W : Fill F) (K : GSem nD τ sig → ℕ) (c : Dev nD)
variable {J R : sProp (𝕄' F)} {α : Type} {Q : α → sProp (𝕄' F)}

/-- Waiting for one copy's worth on one of the own DMA cells. -/
theorem wait_cell (sm : DmaSem sig) {l : ℕ} {O : CellTallies nD τ sig Unit} (hO : Above l O) (hl : lv ((c : Thread nD τ), .dma sm) () ≤ l)
    (hex : (sched W).expect ((c : Thread nD τ), .dma sm) 0 = N) {src dst : Memref sig .tc .vmem S64x768 .f32}
    {h1 : src.view.WordExact} {h2 : dst.view.WordExact} (hN : dst.view.dmaCredit = N)
    {kk : PUnit → Prog (TpuEff nD τ sig (Elt F) Λ₀ .tc) α} :
    iprop(Ctx W K c ∗ cellInv ER (sched W) (K ((c : Thread nD τ), .dma sm)) ((c : Thread nD τ), .dma sm)
        ∗ cred (tallyAt ((c : Thread nD τ), .dma sm) () N) ∗ OwesE c O ∗ atPos ER ((c : Thread nD τ), .dma sm) 0 ∅ 0)
      ⊢ iprop(((OwesE c O ∗ atPos ER ((c : Thread nD τ), .dma sm) 1 ∅ 0
          ∗ bigSep ((sched W).duties ((c : Thread nD τ), .dma sm) 0 \ ∅) (fun d => (sched W).payload ((c : Thread nD τ), .dma sm) 0 d)) -∗ WP c (kk ⟨⟩) Q)
        -∗ WP c (.op (.waitDma2 sm src dst h1 h2) kk) Q) := by
  unfold OwesE
  iintro ⟨#HC, #HI, Hcr, ⟨%Wt, HO⟩, Hat⟩ Hk
  ihave #Hlv := (Ctx_lev W K c) $$ HC
  iapply (Rounds.wp_wait_rest_token Variants.none ER (sched W) (c : Thread nD τ) none (κ := K ((c : Thread nD τ), .dma sm)) (k := kk)
      (wpE_waitDma2_eq (src := src) (dst := dst) Variants.none (c : Thread nD τ) none Set.univ) (Set.mem_univ _) () (O := O) (W := Wt) (R := 0) (m := 0) (T := ∅)
      ((Nat.zero_add _).trans (hN.trans hex.symm))) $$ [Hcr HO Hat]
  · isplitr; · iexact HI
    isplitl [Hcr]; · rw [hN]; iexact Hcr
    isplitl [HO]; · iexact HO
    isplitr; · iapply (mayWait hO c (.dma sm) hl); iexact Hlv
    iexact Hat
  iintro ⟨HO, Hat, -, Hpay⟩
  iapply Hk
  isplitl [HO]; · iexists _; iexact HO
  isplitl [Hat]; · iexact Hat
  iexact Hpay

/-! ## Receiving the partial sums -/

/-- What receiving device `k`'s partial sum needs. -/
def rsWait (f₀ : S16x64x768.Idx → F .f32) (k : Fin 16) : sProp (𝕄' F) :=
  if k = c then rbPt c c f₀ else iprop(cred (tallyAt (rsRC c k) () N) ∗ atPos ER (rsRC c k) 0 ∅ 0)
/-- What it leaves. -/
def rsGot (f₀ : S16x64x768.Idx → F .f32) (k : Fin 16) : sProp (𝕄' F) :=
  if k = c then rbPt c c f₀ else iprop(rbPt c k (landR W c) ∗ atPos ER (rsRC c k) 1 ∅ 0)

theorem rsWait_self (f₀ : S16x64x768.Idx → F .f32) {k : Fin 16} (h : k = c) : (rsWait c f₀ k : sProp (𝕄' F)) = rbPt c c f₀ := if_pos h
theorem rsWait_ne (f₀ : S16x64x768.Idx → F .f32) {k : Fin 16} (h : k ≠ c) : (rsWait c f₀ k : sProp (𝕄' F)) = iprop(cred (tallyAt (rsRC c k) () N) ∗ atPos ER (rsRC c k) 0 ∅ 0) := if_neg h
theorem rsGot_self (f₀ : S16x64x768.Idx → F .f32) {k : Fin 16} (h : k = c) : rsGot W c f₀ k = rbPt c c f₀ := if_pos h
theorem rsGot_ne (f₀ : S16x64x768.Idx → F .f32) {k : Fin 16} (h : k ≠ c) : rsGot W c f₀ k = iprop(rbPt c k (landR W c) ∗ atPos ER (rsRC c k) 1 ∅ 0) := if_neg h

/-- `j` partial sums received. -/
def recvSt (f₀ : S16x64x768.Idx → F .f32) (j : ℕ) : sProp (𝕄' F) :=
  iprop(OwesE c (agDue c 0) ∗ restP (Fin.val : Fin 16 → ℕ) j (rsWait c f₀) ∗ doneP (Fin.val : Fin 16 → ℕ) j (rsGot W c f₀))
/-- Device `k`'s received, not yet read. -/
def recvMid (f₀ : S16x64x768.Idx → F .f32) (k : Fin 16) (j : ℕ) : sProp (𝕄' F) :=
  iprop(OwesE c (agDue c 0) ∗ restP (Fin.val : Fin 16 → ℕ) (j + 1) (rsWait c f₀) ∗ rsGot W c f₀ k ∗ doneP (Fin.val : Fin 16 → ℕ) j (rsGot W c f₀))

theorem step_recv (f₀ : S16x64x768.Idx → F .f32) (k : Fin 16) {j : ℕ} (hj : k.val = j) {P : Prop} {iP : Decidable P} (hP : P ↔ k ≠ c) {o : Fin 1 → ℕ} (ho : o = ![k.val])
    {hi : ∀ a, o a + S1.size a ≤ S16.size a} {src dst : Memref sig .tc .vmem S64x768 .f32} (hN : dst.view.dmaCredit = N)
    {h1 : src.view.WordExact} {h2 : dst.view.WordExact} {kk : PUnit → Prog (TpuEff nD τ sig (Elt F) Λ₀ .tc) α}
    (hk : iprop(Ctx W K c ∗ J ∗ recvMid W c f₀ k j ∗ R) ⊢ WP c (kk ⟨⟩) Q) :
    iprop(Ctx W K c ∗ J ∗ recvSt W c f₀ j ∗ R)
      ⊢ WP c (if _h : P then (.op (.waitDma2 (semO cc0_scratch5 o hi) src dst h1 h2) (fun _ => .ret ⟨⟩)) else .ret ⟨⟩) (fun a => WP c (kk a) Q) := by
  subst ho
  unfold recvSt
  iintro ⟨#HC, HJ, ⟨HO, HS, HD⟩, HR⟩
  ihave HS := (restP_take val_inj hj (rsWait c f₀)) $$ HS
  icases HS with ⟨Hr, HS⟩
  by_cases hkc : k = c
  · rw [dif_neg fun h => hP.mp h hkc, WP_ret]
    imodintro
    iapply hk
    isplitr; · iexact HC
    isplitl [HJ]; · iexact HJ
    isplitr [HR]
    · unfold recvMid
      isplitl [HO]; · iexact HO
      isplitl [HS]; · iexact HS
      isplitl [Hr]; · iapply (Entails.of_eq ((rsWait_self c f₀ hkc).trans (rsGot_self W c f₀ hkc).symm)) $$ Hr
      iexact HD
    iexact HR
  · rw [dif_pos (hP.mpr hkc)]
    ihave Hr := (Entails.of_eq (rsWait_ne c f₀ hkc)) $$ Hr
    icases Hr with ⟨Hcr, Hat⟩
    ihave #HI := ((Ctx_recs W K c).trans (recs_rsR W K c k)) $$ HC
    iapply (wait_cell W K c (rsR k) (above_ag c (l := 2) (by decide) 0) (le_of_eq (lv_rsR c k)) (expect_rsR W c hkc) hN) $$ [Hcr Hat HO]
    · isplitr; · iexact HC
      isplitr; · iexact HI
      isplitl [Hcr]; · iexact Hcr
      isplitl [HO]; · iexact HO
      iexact Hat
    iintro ⟨HO, Hat, Hpay⟩
    ihave Hpay := (Entails.of_eq (rest_rsR W c hkc)) $$ Hpay
    rw [WP_ret]
    imodintro
    iapply hk
    isplitr; · iexact HC
    isplitl [HJ]; · iexact HJ
    isplitr [HR]
    · unfold recvMid
      isplitl [HO]; · iexact HO
      isplitl [HS]; · iexact HS
      isplitl [Hpay Hat]
      · rw [rsGot_ne W c f₀ hkc]
        isplitl [Hpay]; · iexact Hpay
        iexact Hat
      iexact HD
    iexact HR

/-- What reading block `k` gives; block `c` holds `f₀`. -/
def rsB (f₀ : S16x64x768.Idx → F .f32) (k : Fin 16) : S1x64x768.Idx → F .f32 := if k = c then blk k f₀ else blk k (landR W c)

theorem rsB_self (f₀ : S16x64x768.Idx → F .f32) {k : Fin 16} (h : k = c) : rsB W c f₀ k = blk k f₀ := if_pos h
theorem rsB_ne (f₀ : S16x64x768.Idx → F .f32) {k : Fin 16} (h : k ≠ c) : rsB W c f₀ k = blk k (landR W c) := if_neg h

theorem step_read (f₀ : S16x64x768.Idx → F .f32) (k : Fin 16) {j : ℕ} (hj : k.val = j) {o : Fin 3 → ℕ} (ho : o = ![k.val, 0, 0])
    {hi : ∀ a, o a + S1x64x768.size a ≤ S16x64x768.size a} {hl} {kk : (S1x64x768.Idx → Elt F .f32) → Prog (TpuEff nD τ sig (Elt F) Λ₀ .tc) α}
    (hk : iprop(Ctx W K c ∗ J ∗ recvSt W c f₀ (j + 1) ∗ R) ⊢ WP c (kk (rsB W c f₀ k)) Q) :
    iprop(Ctx W K c ∗ J ∗ recvMid W c f₀ k j ∗ R) ⊢ WP c (.op (.load rbM (Rect.unit (s := S16x64x768) o S1x64x768.size hi).toLoadRect hl) kk) Q := by
  subst ho
  unfold recvMid
  iintro ⟨#HC, HJ, ⟨HO, HS, Hg, HD⟩, HR⟩
  by_cases hkc : k = c
  · ihave Hg := (Entails.of_eq (rsGot_self W c f₀ hkc)) $$ Hg
    iapply (rb_load c k f₀) $$ [Hg]
    · rw [show (rbPt c k f₀ : sProp (𝕄' F)) = rbPt c c f₀ by rw [hkc]]; iexact Hg
    iintro Hb
    rw [← rsB_self W c f₀ hkc]
    iapply hk
    isplitr; · iexact HC
    isplitl [HJ]; · iexact HJ
    isplitr [HR]
    · unfold recvSt
      isplitl [HO]; · iexact HO
      isplitl [HS]; · iexact HS
      iapply (doneP_put val_inj hj (rsGot W c f₀))
      isplitl [Hb]
      · rw [rsGot_self W c f₀ hkc]
        rw [show (rbPt c c f₀ : sProp (𝕄' F)) = rbPt c k f₀ by rw [hkc]]; iexact Hb
      iexact HD
    iexact HR
  · ihave Hg := (Entails.of_eq (rsGot_ne W c f₀ hkc)) $$ Hg
    icases Hg with ⟨Hb, Hat⟩
    iapply (rb_load c k (landR W c)) $$ Hb
    iintro Hb
    rw [← rsB_ne W c f₀ hkc]
    iapply hk
    isplitr; · iexact HC
    isplitl [HJ]; · iexact HJ
    isplitr [HR]
    · unfold recvSt
      isplitl [HO]; · iexact HO
      isplitl [HS]; · iexact HS
      iapply (doneP_put val_inj hj (rsGot W c f₀))
      isplitl [Hb Hat]
      · rw [rsGot_ne W c f₀ hkc]
        isplitl [Hb]; · iexact Hb
        iexact Hat
      iexact HD
    iexact HR

/-- Reading the device's own outgoing block. -/
theorem step_own {X : sProp (𝕄' F)} {o : Fin 3 → ℕ} (ho : o = ![c.val, 0, 0])
    {hi : ∀ a, o a + S1x64x768.size a ≤ S16x64x768.size a} {hl} {kk : (S1x64x768.Idx → Elt F .f32) → Prog (TpuEff nD τ sig (Elt F) Λ₀ .tc) α}
    (hk : iprop(Ctx W K c ∗ J ∗ X ∗ sbPt c c (W.sb c) ∗ R) ⊢ WP c (kk (blk c (W.sb c))) Q) :
    iprop(Ctx W K c ∗ J ∗ X ∗ sbPt c c (W.sb c) ∗ R) ⊢ WP c (.op (.load sbM (Rect.unit (s := S16x64x768) o S1x64x768.size hi).toLoadRect hl) kk) Q := by
  subst ho
  iintro ⟨HC, HJ, HX, Hb, HR⟩
  iapply (sb_load c c (W.sb c)) $$ Hb
  iintro Hb
  iapply hk
  isplitl [HC]; · iexact HC
  isplitl [HJ]; · iexact HJ
  isplitl [HX]; · iexact HX
  isplitl [Hb]; · iexact Hb
  iexact HR

/-! ## The result tile -/

theorem ownInb : ∀ a, (![0, 0] : Fin 2 → ℕ) a + S64x768.size a ≤ S64x768.size a := by decide

theorem own_write (f g w : S64x768.Idx → F .f32) (hw : ∀ i, w i = g i) :
    (ownM.access (Rect.unit (s := S64x768) ![0, 0] S64x768.size ownInb)).write (Elt F) f w Finset.univ = g := by
  funext i
  rw [← hw i]
  have e : (ownM.access (Rect.unit (s := S64x768) ![0, 0] S64x768.size ownInb)).emb i = i := by
    funext a
    refine Fin.ext ?_
    fin_cases a
    · show 0 + 1 * (i 0).val = (i 0).val; omega
    · show 0 + 1 * (i 1).val = (i 1).val; omega
  have h := View.write_emb_of_mem (v := ownM.access (Rect.unit (s := S64x768) ![0, 0] S64x768.size ownInb)) (Val := Elt F) f w (Finset.mem_univ i)
  rw [e] at h
  exact h

theorem step_tile {w : S64x768.Idx → F .f32} (hw : ∀ i, w i = W.own c i)
    {o o' : Fin 2 → ℕ} (ho : o = ![0, 0]) (ho' : o' = ![0, 0]) {hi : ∀ a, o a + S64x768.size a ≤ S64x768.size a}
    {hi' : ∀ a, o' a + S64x768.size a ≤ S64x768.size a} {hl} {hx} {hm} {kk : PUnit → Prog (TpuEff nD τ sig (Elt F) Λ₀ .tc) α}
    (hk : iprop(Ctx W K c ∗ J ∗ ownPt c fullShare (W.own c) ∗ R) ⊢ WP c (kk ⟨⟩) Q) :
    iprop(Ctx W K c ∗ J ∗ (∃ f, ownPt c fullShare f) ∗ R)
      ⊢ WP c (.op (.load ownM (Rect.unit (s := S64x768) o S64x768.size hi).toLoadRect hl) fun _ =>
          .op (.store ownM (Rect.unit (s := S64x768) o' S64x768.size hi') w Finset.univ hx hm) kk) Q := by
  subst ho; subst ho'
  iintro ⟨HC, HJ, ⟨%f, Hb⟩, HR⟩
  iapply (wp_load (defs := defs₀ (F := F)) (Γ := PendingWaitsCtx.empty) (m := ownM) (r := (Rect.unit (s := S64x768) ![0, 0] S64x768.size hi).toLoadRect)
    (hl := hl) (S := Finset.univ) (q := fullShare) (f := f) Variants.none (c : Thread nD τ) none Set.univ (Finset.subset_univ _)) $$ Hb
  iintro Hb
  iapply (wp_store (defs := defs₀ (F := F)) (Γ := PendingWaitsCtx.empty) (m := ownM) (r := Rect.unit (s := S64x768) ![0, 0] S64x768.size hi')
    (w := w) (Mk := Finset.univ) (hx := hx) (hm := hm) (k := kk) (S := Finset.univ) (f := f) Variants.none (c : Thread nD τ) none Set.univ (Finset.subset_univ _)) $$ Hb
  iintro Hb
  iapply hk
  isplitl [HC]; · iexact HC
  isplitl [HJ]; · iexact HJ
  isplitl [Hb]
  · have e : (ownM.view.loc (c : Thread nD τ) ↦{fullShare} (ownM.access (Rect.unit (s := S64x768) ![0, 0] S64x768.size hi')).write (Elt F) f w Finset.univ : sProp (𝕄' F))
      = ownPt c fullShare (W.own c) := by rw [own_write f (W.own c) w hw]
    iapply (Entails.of_eq e) $$ Hb
  iexact HR

/-! ## Sending the result tile -/

/-- What the copy to device `k` lands in. -/
def agRes (k : Fin 16) : sProp (𝕄' F) :=
  if k = c then iprop(emp) else iprop((∃ f, abPt k c f) ∗ reached ER (agRC k c) 0 ∗ dutyTok ER (agRC k c) 0 c)
/-- What the `i`-th copy reads. -/
def agLend (i : Fin 15) : sProp (𝕄' F) := iprop(ownPt c (shareTok fullShare 15 i) (W.own c) ∗ dutyTok ER (agSC c i) 0 c)
/-- What the `i`-th copy leaves. -/
def agSent (i : Fin 15) : sProp (𝕄' F) := cred (tallyAt (agSC c i) () N)

theorem agRes_ne {k : Fin 16} (h : k ≠ c) : (agRes c k : sProp (𝕄' F)) = iprop((∃ f, abPt k c f) ∗ reached ER (agRC k c) 0 ∗ dutyTok ER (agRC k c) 0 c) := if_neg h

theorem agDue_take (i : Fin 15) {j : ℕ} (hj : i.val = j) : agDue c j = agDue c (j + 1) + tallyAt (agRC (tgt c i) c) () N := by
  refine (restT_take (turn_inj c) ((turn_tgt c i).trans hj) (agT c)).trans ?_
  rw [show agT c (tgt c i) = tallyAt (agRC (tgt c i) c) () N from if_neg (tgt_ne c i)]

/-- `j` copies on their way. -/
def agSt (j : ℕ) : sProp (𝕄' F) :=
  iprop(OwesE c (agDue c j) ∗ restP (turn c) j (agRes c) ∗ restP (Fin.val : Fin 15 → ℕ) j (agLend W c) ∗ doneP (Fin.val : Fin 15 → ℕ) j (agSent c))

theorem step_gather (i : Fin 15) {j : ℕ} (hj : i.val = j) {os or : Fin 1 → ℕ} {ob : Fin 3 → ℕ} {dv : ℕ} (hos : os = ![i.val]) (hor : or = ![c.val])
    (hob : ob = ![c.val, 0, 0]) (hdv : dv = (tgt c i).val)
    {h1 : ∀ a, os a + S1.size a ≤ S15.size a} {h2 : ∀ a, or a + S1.size a ≤ S16.size a} {h3 : ∀ a, ob a + S1x64x768.size a ≤ S16x64x768.size a} {h5 : dv < nD}
    {hsc : (blkM abM ob h3).view.ref.isScScratch = false} {hw1 : ownM.view.WordExact} {hw2 : (blkM abM ob h3).view.WordExact}
    {hty : DmaTarget.Typed _ (.dma (semO cc0_scratch7 or h2)) (.remote (Dev.tc (⟨dv, h5⟩ : Dev nD)) (blkM abM ob h3) (.dma (semO15 cc0_scratch6 os h1)) hsc)}
    {kk : PUnit → Prog (TpuEff nD τ sig (Elt F) Λ₀ .tc) α}
    (hk : iprop(Ctx W K c ∗ J ∗ agSt W c (j + 1) ∗ R) ⊢ WP c (kk ⟨⟩) Q) :
    iprop(Ctx W K c ∗ J ∗ agSt W c j ∗ R)
      ⊢ WP c (.op (.enqueueDma ownM (.remote (Dev.tc (⟨dv, h5⟩ : Dev nD)) (blkM abM ob h3) (.dma (semO15 cc0_scratch6 os h1)) hsc)
          (.dma (semO cc0_scratch7 or h2)) hw1 hw2 hty) kk) Q := by
  subst hos; subst hor; subst hob; subst hdv
  unfold agSt
  iintro ⟨#HC, HJ, ⟨HO, HS, HL, HD⟩, HR⟩
  ihave HS := (restP_take (turn_inj c) ((turn_tgt c i).trans hj) (agRes c)) $$ HS
  icases HS with ⟨Hr, HS⟩
  ihave HL := (restP_take val_inj15 hj (agLend W c)) $$ HL
  unfold agLend
  icases HL with ⟨⟨Ho, Ht1⟩, HL⟩
  ihave Hr := (Entails.of_eq (agRes_ne c (tgt_ne c i))) $$ Hr
  icases Hr with ⟨⟨%f, Hrb⟩, #Hrr, Ht2⟩
  unfold OwesE
  icases HO with ⟨%Wt, HO⟩
  ihave #HI1 := ((Ctx_recs W K c).trans (recs_agS W K c i)) $$ HC
  ihave #HI2 := ((Ctx_recs W K c).trans (recs_agR W K (tgt c i) c)) $$ HC
  ihave #Hr1 := ((Ctx_opens W K c).trans (opens_agS c i)) $$ HC
  iapply (Rounds.wp_send_pointsTo Variants.none ER (sched W) (c : Thread nD τ) none (c' := (tgt c i : Thread nD τ)) (src := ownM) (dst := slotM abM c)
      (sS := .dma (agS i)) (sem := .dma (agR c)) (q := shareTok fullShare 15 i) (fs := W.own c) (κ₁ := K (agSC c i)) (κ₂ := K (agRC (tgt c i) c))
      (r₁ := 0) (r₂ := 0) (d₁ := c) (d₂ := c) (fd := f)
      (by rw [duties_agS W c i]; exact Finset.mem_singleton_self _) (by rw [duties_agR W (tgt c i) (Ne.symm (tgt_ne c i))]; exact Finset.mem_singleton_self _)
      () () N rfl (amount_agS W c i 0 c) (amount_agR W (tgt c i) c 0 c) (O₀ := agDue c j) (agDue c (j + 1)) (agDue_take c i hj) (W := Wt)
      (by rw [payload_agS, own_set])
      (by
        rw [payload_agR, ab_set]
        exact Entails.of_eq (pointsTo_congr fun i hi => ab_land c f (landA W) (W.own c) (fun r d => rfl) i hi))) $$ [Ho Hrb HO Ht1 Ht2]
  · isplitr; · iexact HI1
    isplitr; · iexact HI2
    isplitl [Ho]; · rw [own_set]; iexact Ho
    isplitl [Hrb]; · rw [ab_set]; iexact Hrb
    isplitl [HO]; · iexact HO
    isplitl [Ht1]; · iexact Ht1
    isplitr; · iexact Hr1
    isplitl [Ht2]; · iexact Ht2
    iexact Hrr
  iintro ⟨Hcr, HO⟩
  iapply hk
  isplitr; · iexact HC
  isplitl [HJ]; · iexact HJ
  isplitr [HR]
  · unfold agSt OwesE
    isplitl [HO]; · iexists Wt; iexact HO
    isplitl [HS]; · iexact HS
    isplitl [HL]; · iexact HL
    iapply (doneP_put val_inj15 hj (agSent c))
    isplitl [Hcr]; · unfold agSent; iexact Hcr
    iexact HD
  iexact HR

/-! ## Receiving the result tiles -/

def agWait (f₀ : S16x64x768.Idx → F .f32) (k : Fin 16) : sProp (𝕄' F) :=
  if k = c then abPt c c f₀ else iprop(cred (tallyAt (agRC c k) () N) ∗ atPos ER (agRC c k) 0 ∅ 0)
def agGot (f₀ : S16x64x768.Idx → F .f32) (k : Fin 16) : sProp (𝕄' F) :=
  if k = c then abPt c c f₀ else iprop(abPt c k (landA W) ∗ atPos ER (agRC c k) 1 ∅ 0)

theorem agWait_self (f₀ : S16x64x768.Idx → F .f32) {k : Fin 16} (h : k = c) : (agWait c f₀ k : sProp (𝕄' F)) = abPt c c f₀ := if_pos h
theorem agWait_ne (f₀ : S16x64x768.Idx → F .f32) {k : Fin 16} (h : k ≠ c) : (agWait c f₀ k : sProp (𝕄' F)) = iprop(cred (tallyAt (agRC c k) () N) ∗ atPos ER (agRC c k) 0 ∅ 0) := if_neg h
theorem agGot_self (f₀ : S16x64x768.Idx → F .f32) {k : Fin 16} (h : k = c) : agGot W c f₀ k = abPt c c f₀ := if_pos h
theorem agGot_ne (f₀ : S16x64x768.Idx → F .f32) {k : Fin 16} (h : k ≠ c) : agGot W c f₀ k = iprop(abPt c k (landA W) ∗ atPos ER (agRC c k) 1 ∅ 0) := if_neg h

/-- `j` result tiles received. -/
def gotSt (f₀ : S16x64x768.Idx → F .f32) (j : ℕ) : sProp (𝕄' F) :=
  iprop(OwesE c 0 ∗ restP (Fin.val : Fin 16 → ℕ) j (agWait c f₀) ∗ doneP (Fin.val : Fin 16 → ℕ) j (agGot W c f₀))
/-- Device `k`'s received, not yet read. -/
def gotMid (f₀ : S16x64x768.Idx → F .f32) (k : Fin 16) (j : ℕ) : sProp (𝕄' F) :=
  iprop(OwesE c 0 ∗ restP (Fin.val : Fin 16 → ℕ) (j + 1) (agWait c f₀) ∗ agGot W c f₀ k ∗ doneP (Fin.val : Fin 16 → ℕ) j (agGot W c f₀))

theorem step_got (f₀ : S16x64x768.Idx → F .f32) (k : Fin 16) {j : ℕ} (hj : k.val = j) {P : Prop} {iP : Decidable P} (hP : P ↔ k ≠ c) {o : Fin 1 → ℕ} (ho : o = ![k.val])
    {hi : ∀ a, o a + S1.size a ≤ S16.size a} {src dst : Memref sig .tc .vmem S64x768 .f32} (hN : dst.view.dmaCredit = N)
    {h1 : src.view.WordExact} {h2 : dst.view.WordExact} {kk : PUnit → Prog (TpuEff nD τ sig (Elt F) Λ₀ .tc) α}
    (hk : iprop(Ctx W K c ∗ J ∗ gotMid W c f₀ k j ∗ R) ⊢ WP c (kk ⟨⟩) Q) :
    iprop(Ctx W K c ∗ J ∗ gotSt W c f₀ j ∗ R)
      ⊢ WP c (if _h : P then (.op (.waitDma2 (semO cc0_scratch7 o hi) src dst h1 h2) (fun _ => .ret ⟨⟩)) else .ret ⟨⟩) (fun a => WP c (kk a) Q) := by
  subst ho
  unfold gotSt
  iintro ⟨#HC, HJ, ⟨HO, HS, HD⟩, HR⟩
  ihave HS := (restP_take val_inj hj (agWait c f₀)) $$ HS
  icases HS with ⟨Hr, HS⟩
  by_cases hkc : k = c
  · rw [dif_neg fun h => hP.mp h hkc, WP_ret]
    imodintro
    iapply hk
    isplitr; · iexact HC
    isplitl [HJ]; · iexact HJ
    isplitr [HR]
    · unfold gotMid
      isplitl [HO]; · iexact HO
      isplitl [HS]; · iexact HS
      isplitl [Hr]; · iapply (Entails.of_eq ((agWait_self c f₀ hkc).trans (agGot_self W c f₀ hkc).symm)) $$ Hr
      iexact HD
    iexact HR
  · rw [dif_pos (hP.mpr hkc)]
    ihave Hr := (Entails.of_eq (agWait_ne c f₀ hkc)) $$ Hr
    icases Hr with ⟨Hcr, Hat⟩
    ihave #HI := ((Ctx_recs W K c).trans (recs_agR W K c k)) $$ HC
    iapply (wait_cell W K c (agR k) (Above.zero 3) (le_of_eq (lv_agR c k)) (expect_agR W c hkc) hN) $$ [Hcr Hat HO]
    · isplitr; · iexact HC
      isplitr; · iexact HI
      isplitl [Hcr]; · iexact Hcr
      isplitl [HO]; · iexact HO
      iexact Hat
    iintro ⟨HO, Hat, Hpay⟩
    ihave Hpay := (Entails.of_eq (rest_agR W c hkc)) $$ Hpay
    rw [WP_ret]
    imodintro
    iapply hk
    isplitr; · iexact HC
    isplitl [HJ]; · iexact HJ
    isplitr [HR]
    · unfold gotMid
      isplitl [HO]; · iexact HO
      isplitl [HS]; · iexact HS
      isplitl [Hpay Hat]
      · rw [agGot_ne W c f₀ hkc]
        isplitl [Hpay]; · iexact Hpay
        iexact Hat
      iexact HD
    iexact HR

/-- What reading block `k` gives; block `c` holds `f₀`. -/
def agB (f₀ : S16x64x768.Idx → F .f32) (k : Fin 16) : S1x64x768.Idx → F .f32 := if k = c then blk k f₀ else blk k (landA W)

theorem agB_self (f₀ : S16x64x768.Idx → F .f32) {k : Fin 16} (h : k = c) : agB W c f₀ k = blk k f₀ := if_pos h
theorem agB_ne (f₀ : S16x64x768.Idx → F .f32) {k : Fin 16} (h : k ≠ c) : agB W c f₀ k = blk k (landA W) := if_neg h

theorem step_look (f₀ : S16x64x768.Idx → F .f32) (k : Fin 16) {j : ℕ} (hj : k.val = j) {o : Fin 3 → ℕ} (ho : o = ![k.val, 0, 0])
    {hi : ∀ a, o a + S1x64x768.size a ≤ S16x64x768.size a} {hl} {kk : (S1x64x768.Idx → Elt F .f32) → Prog (TpuEff nD τ sig (Elt F) Λ₀ .tc) α}
    (hk : iprop(Ctx W K c ∗ J ∗ gotSt W c f₀ (j + 1) ∗ R) ⊢ WP c (kk (agB W c f₀ k)) Q) :
    iprop(Ctx W K c ∗ J ∗ gotMid W c f₀ k j ∗ R) ⊢ WP c (.op (.load abM (Rect.unit (s := S16x64x768) o S1x64x768.size hi).toLoadRect hl) kk) Q := by
  subst ho
  unfold gotMid
  iintro ⟨#HC, HJ, ⟨HO, HS, Hg, HD⟩, HR⟩
  by_cases hkc : k = c
  · ihave Hg := (Entails.of_eq (agGot_self W c f₀ hkc)) $$ Hg
    iapply (ab_load c k f₀) $$ [Hg]
    · rw [show (abPt c k f₀ : sProp (𝕄' F)) = abPt c c f₀ by rw [hkc]]; iexact Hg
    iintro Hb
    rw [← agB_self W c f₀ hkc]
    iapply hk
    isplitr; · iexact HC
    isplitl [HJ]; · iexact HJ
    isplitr [HR]
    · unfold gotSt
      isplitl [HO]; · iexact HO
      isplitl [HS]; · iexact HS
      iapply (doneP_put val_inj hj (agGot W c f₀))
      isplitl [Hb]
      · rw [agGot_self W c f₀ hkc]
        rw [show (abPt c c f₀ : sProp (𝕄' F)) = abPt c k f₀ by rw [hkc]]; iexact Hb
      iexact HD
    iexact HR
  · ihave Hg := (Entails.of_eq (agGot_ne W c f₀ hkc)) $$ Hg
    icases Hg with ⟨Hb, Hat⟩
    iapply (ab_load c k (landA W)) $$ Hb
    iintro Hb
    rw [← agB_ne W c f₀ hkc]
    iapply hk
    isplitr; · iexact HC
    isplitl [HJ]; · iexact HJ
    isplitr [HR]
    · unfold gotSt
      isplitl [HO]; · iexact HO
      isplitl [HS]; · iexact HS
      iapply (doneP_put val_inj hj (agGot W c f₀))
      isplitl [Hb Hat]
      · rw [agGot_ne W c f₀ hkc]
        isplitl [Hb]; · iexact Hb
        iexact Hat
      iexact HD
    iexact HR

end Cert.KernelIdeal.Mesh

end
-- ==== Proof.OutSteps.lean ====
/-
  Loads of the kernel's operands, the stores of the gathered tiles into the result, and the waits for the copies that were
  sent.
-/
module

public import proofs.«01_k».proof.Proof.GatherSteps

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## The operands -/

/-- What the five operand buffers of a device hold. -/
structure Inp (F : FTy → Type) where
  x : S1024x768.Idx → F .f32
  wq : S8x768x64.Idx → F .f32
  k : S8x2x512x64.Idx → F .f32
  v : S8x2x512x64.Idx → F .f32
  wo : S8x64x768.Idx → F .f32

abbrev xM : Memref sig .tc .vmem S1024x768 .f32 := Memref.whole cc0_stg0_0
abbrev qM : Memref sig .tc .vmem S8x768x64 .f32 := Memref.whole cc0_stg1_0
abbrev kM : Memref sig .tc .vmem S8x2x512x64 .f32 := Memref.whole cc0_stg2_0
abbrev vM : Memref sig .tc .vmem S8x2x512x64 .f32 := Memref.whole cc0_stg3_0
abbrev oM : Memref sig .tc .vmem S8x64x768 .f32 := Memref.whole cc0_stg4_0
abbrev outM : Memref sig .tc .vmem S1024x768 .f32 := Memref.whole cc0_stg5_0

/-- A block of the operand `x`. -/
def ldX (I : Inp F) (o : Fin 2 → ℕ) (hi : ∀ a, o a + S256x768.size a ≤ S1024x768.size a) : S256x768.Idx → F .f32 :=
  fun i => I.x ((Rect.unit (s := S1024x768) o S256x768.size hi).emb i)
/-- A block of the operand `wq`. -/
def ldQ (I : Inp F) (o : Fin 3 → ℕ) (hi : ∀ a, o a + S1x768x64.size a ≤ S8x768x64.size a) : S1x768x64.Idx → F .f32 :=
  fun i => I.wq ((Rect.unit (s := S8x768x64) o S1x768x64.size hi).emb i)
/-- A block of the operand `k`. -/
def ldK (I : Inp F) (o : Fin 4 → ℕ) (hi : ∀ a, o a + S1x1x512x64.size a ≤ S8x2x512x64.size a) : S1x1x512x64.Idx → F .f32 :=
  fun i => I.k ((Rect.unit (s := S8x2x512x64) o S1x1x512x64.size hi).emb i)
/-- A block of the operand `v`. -/
def ldV (I : Inp F) (o : Fin 4 → ℕ) (hi : ∀ a, o a + S1x1x512x64.size a ≤ S8x2x512x64.size a) : S1x1x512x64.Idx → F .f32 :=
  fun i => I.v ((Rect.unit (s := S8x2x512x64) o S1x1x512x64.size hi).emb i)
/-- A block of the operand `wo`. -/
def ldO (I : Inp F) (o : Fin 3 → ℕ) (hi : ∀ a, o a + S1x64x768.size a ≤ S8x64x768.size a) : S1x64x768.Idx → F .f32 :=
  fun i => I.wo ((Rect.unit (s := S8x64x768) o S1x64x768.size hi).emb i)

variable (c : Dev nD) (I : Inp F)

/-- The operand buffers at their contents. -/
def inpPts : sProp (𝕄' F) :=
  iprop((xM.view.loc (c : Thread nD τ) ↦{fullShare} I.x) ∗ (qM.view.loc (c : Thread nD τ) ↦{fullShare} I.wq)
    ∗ (kM.view.loc (c : Thread nD τ) ↦{fullShare} I.k) ∗ (vM.view.loc (c : Thread nD τ) ↦{fullShare} I.v)
    ∗ (oM.view.loc (c : Thread nD τ) ↦{fullShare} I.wo))

variable (W : Fill F) (K : GSem nD τ sig → ℕ)
variable {J R X : sProp (𝕄' F)} {α : Type} {Q : α → sProp (𝕄' F)}

theorem step_ldX {o : Fin 2 → ℕ} {hi : ∀ a, o a + S256x768.size a ≤ S1024x768.size a} {hl}
    {kk : (S256x768.Idx → Elt F .f32) → Prog (TpuEff nD τ sig (Elt F) Λ₀ .tc) α}
    (hk : iprop(Ctx W K c ∗ inpPts c I ∗ X ∗ R) ⊢ WP c (kk (ldX I o hi)) Q) :
    iprop(Ctx W K c ∗ inpPts c I ∗ X ∗ R) ⊢ WP c (.op (.load xM (Rect.unit (s := S1024x768) o S256x768.size hi).toLoadRect hl) kk) Q := by
  iintro ⟨HC, HJ, HX, HR⟩
  unfold inpPts
  icases HJ with ⟨Hx, Hq, Hk, Hv, Ho⟩
  iapply (wp_load (defs := defs₀ (F := F)) (Γ := PendingWaitsCtx.empty) (m := xM) (r := (Rect.unit (s := S1024x768) o S256x768.size hi).toLoadRect)
    (hl := hl) (S := Finset.univ) (q := fullShare) (f := I.x) Variants.none (c : Thread nD τ) none Set.univ (Finset.subset_univ _)) $$ Hx
  iintro Hx
  iapply hk
  isplitl [HC]; · iexact HC
  isplitr [HX HR]
  · unfold inpPts
    isplitl [Hx]; · iexact Hx
    isplitl [Hq]; · iexact Hq
    isplitl [Hk]; · iexact Hk
    isplitl [Hv]; · iexact Hv
    iexact Ho
  isplitl [HX]; · iexact HX
  iexact HR

theorem step_ldQ {o : Fin 3 → ℕ} {hi : ∀ a, o a + S1x768x64.size a ≤ S8x768x64.size a} {hl}
    {kk : (S1x768x64.Idx → Elt F .f32) → Prog (TpuEff nD τ sig (Elt F) Λ₀ .tc) α}
    (hk : iprop(Ctx W K c ∗ inpPts c I ∗ X ∗ R) ⊢ WP c (kk (ldQ I o hi)) Q) :
    iprop(Ctx W K c ∗ inpPts c I ∗ X ∗ R) ⊢ WP c (.op (.load qM (Rect.unit (s := S8x768x64) o S1x768x64.size hi).toLoadRect hl) kk) Q := by
  iintro ⟨HC, HJ, HX, HR⟩
  unfold inpPts
  icases HJ with ⟨Hx, Hq, Hk, Hv, Ho⟩
  iapply (wp_load (defs := defs₀ (F := F)) (Γ := PendingWaitsCtx.empty) (m := qM) (r := (Rect.unit (s := S8x768x64) o S1x768x64.size hi).toLoadRect)
    (hl := hl) (S := Finset.univ) (q := fullShare) (f := I.wq) Variants.none (c : Thread nD τ) none Set.univ (Finset.subset_univ _)) $$ Hq
  iintro Hq
  iapply hk
  isplitl [HC]; · iexact HC
  isplitr [HX HR]
  · unfold inpPts
    isplitl [Hx]; · iexact Hx
    isplitl [Hq]; · iexact Hq
    isplitl [Hk]; · iexact Hk
    isplitl [Hv]; · iexact Hv
    iexact Ho
  isplitl [HX]; · iexact HX
  iexact HR

theorem step_ldK {o : Fin 4 → ℕ} {hi : ∀ a, o a + S1x1x512x64.size a ≤ S8x2x512x64.size a} {hl}
    {kk : (S1x1x512x64.Idx → Elt F .f32) → Prog (TpuEff nD τ sig (Elt F) Λ₀ .tc) α}
    (hk : iprop(Ctx W K c ∗ inpPts c I ∗ X ∗ R) ⊢ WP c (kk (ldK I o hi)) Q) :
    iprop(Ctx W K c ∗ inpPts c I ∗ X ∗ R) ⊢ WP c (.op (.load kM (Rect.unit (s := S8x2x512x64) o S1x1x512x64.size hi).toLoadRect hl) kk) Q := by
  iintro ⟨HC, HJ, HX, HR⟩
  unfold inpPts
  icases HJ with ⟨Hx, Hq, Hk, Hv, Ho⟩
  iapply (wp_load (defs := defs₀ (F := F)) (Γ := PendingWaitsCtx.empty) (m := kM) (r := (Rect.unit (s := S8x2x512x64) o S1x1x512x64.size hi).toLoadRect)
    (hl := hl) (S := Finset.univ) (q := fullShare) (f := I.k) Variants.none (c : Thread nD τ) none Set.univ (Finset.subset_univ _)) $$ Hk
  iintro Hk
  iapply hk
  isplitl [HC]; · iexact HC
  isplitr [HX HR]
  · unfold inpPts
    isplitl [Hx]; · iexact Hx
    isplitl [Hq]; · iexact Hq
    isplitl [Hk]; · iexact Hk
    isplitl [Hv]; · iexact Hv
    iexact Ho
  isplitl [HX]; · iexact HX
  iexact HR

theorem step_ldV {o : Fin 4 → ℕ} {hi : ∀ a, o a + S1x1x512x64.size a ≤ S8x2x512x64.size a} {hl}
    {kk : (S1x1x512x64.Idx → Elt F .f32) → Prog (TpuEff nD τ sig (Elt F) Λ₀ .tc) α}
    (hk : iprop(Ctx W K c ∗ inpPts c I ∗ X ∗ R) ⊢ WP c (kk (ldV I o hi)) Q) :
    iprop(Ctx W K c ∗ inpPts c I ∗ X ∗ R) ⊢ WP c (.op (.load vM (Rect.unit (s := S8x2x512x64) o S1x1x512x64.size hi).toLoadRect hl) kk) Q := by
  iintro ⟨HC, HJ, HX, HR⟩
  unfold inpPts
  icases HJ with ⟨Hx, Hq, Hk, Hv, Ho⟩
  iapply (wp_load (defs := defs₀ (F := F)) (Γ := PendingWaitsCtx.empty) (m := vM) (r := (Rect.unit (s := S8x2x512x64) o S1x1x512x64.size hi).toLoadRect)
    (hl := hl) (S := Finset.univ) (q := fullShare) (f := I.v) Variants.none (c : Thread nD τ) none Set.univ (Finset.subset_univ _)) $$ Hv
  iintro Hv
  iapply hk
  isplitl [HC]; · iexact HC
  isplitr [HX HR]
  · unfold inpPts
    isplitl [Hx]; · iexact Hx
    isplitl [Hq]; · iexact Hq
    isplitl [Hk]; · iexact Hk
    isplitl [Hv]; · iexact Hv
    iexact Ho
  isplitl [HX]; · iexact HX
  iexact HR

theorem step_ldO {o : Fin 3 → ℕ} {hi : ∀ a, o a + S1x64x768.size a ≤ S8x64x768.size a} {hl}
    {kk : (S1x64x768.Idx → Elt F .f32) → Prog (TpuEff nD τ sig (Elt F) Λ₀ .tc) α}
    (hk : iprop(Ctx W K c ∗ inpPts c I ∗ X ∗ R) ⊢ WP c (kk (ldO I o hi)) Q) :
    iprop(Ctx W K c ∗ inpPts c I ∗ X ∗ R) ⊢ WP c (.op (.load oM (Rect.unit (s := S8x64x768) o S1x64x768.size hi).toLoadRect hl) kk) Q := by
  iintro ⟨HC, HJ, HX, HR⟩
  unfold inpPts
  icases HJ with ⟨Hx, Hq, Hk, Hv, Ho⟩
  iapply (wp_load (defs := defs₀ (F := F)) (Γ := PendingWaitsCtx.empty) (m := oM) (r := (Rect.unit (s := S8x64x768) o S1x64x768.size hi).toLoadRect)
    (hl := hl) (S := Finset.univ) (q := fullShare) (f := I.wo) Variants.none (c : Thread nD τ) none Set.univ (Finset.subset_univ _)) $$ Ho
  iintro Ho
  iapply hk
  isplitl [HC]; · iexact HC
  isplitr [HX HR]
  · unfold inpPts
    isplitl [Hx]; · iexact Hx
    isplitl [Hq]; · iexact Hq
    isplitl [Hk]; · iexact Hk
    isplitl [Hv]; · iexact Hv
    iexact Ho
  isplitl [HX]; · iexact HX
  iexact HR

/-! ## The result -/

/-- The whole result: device `k`'s tile at rows `64·k …`. -/
def outW : S1024x768.Idx → F .f32 := fun i =>
  W.own ⟨(i 0).val / 64, by have : (i 0).val < 1024 := (i 0).isLt; show _ < 16; omega⟩
    (ix2 ⟨(i 0).val % 64, Nat.mod_lt _ (by decide)⟩ ⟨(i 1).val, (i 1).isLt⟩)

/-- The result with its first `j` tiles written. -/
def outP (j : ℕ) : sProp (𝕄' F) :=
  iprop(∃ f : S1024x768.Idx → F .f32, (outM.view.loc (c : Thread nD τ) ↦{fullShare} f) ∗ ⌜∀ i, (i 0).val < 64 * j → f i = outW W i⌝)

theorem out_write (k : Fin 16) {o : Fin 2 → ℕ} (ho : o = ![64 * k.val, 0]) {hi : ∀ a, o a + S64x768.size a ≤ S1024x768.size a}
    (f : S1024x768.Idx → F .f32) (w : S64x768.Idx → F .f32) (hw : ∀ i, w i = W.own k i)
    (hf : ∀ i : S1024x768.Idx, (i 0).val < 64 * k.val → f i = outW W i) (i : S1024x768.Idx) (h : (i 0).val < 64 * (k.val + 1)) :
    (outM.access (Rect.unit (s := S1024x768) o S64x768.size hi)).write (Elt F) f w Finset.univ i = outW W i := by
  subst ho
  by_cases hlt : (i 0).val < 64 * k.val
  · rw [← hf i hlt]
    refine View.write_of_not_mem (v := outM.access (Rect.unit (s := S1024x768) ![64 * k.val, 0] S64x768.size hi)) (Val := Elt F) f w Finset.univ ?_
    intro hm
    rw [View.setOn_univ, View.set_slice_whole, Rect.mem_set_unit] at hm
    have := (hm 0).1
    simp only [Matrix.cons_val_zero] at this
    omega
  · have hb : ∀ r : Fin 64, 64 * k.val + r.val < 1024 := fun r => by have := r.isLt; have := k.isLt; omega
    obtain ⟨r, d, rfl⟩ : ∃ (r : Fin 64) (d : Fin 768), i = (ix2 ⟨64 * k.val + r.val, hb r⟩ d : S1024x768.Idx) :=
      ⟨⟨(i 0).val - 64 * k.val, by omega⟩, ⟨(i 1).val, (i 1).isLt⟩, by
        funext a
        refine Fin.ext ?_
        fin_cases a
        · show (i 0).val = 64 * k.val + ((i 0).val - 64 * k.val); omega
        · rfl⟩
    have e : (outM.access (Rect.unit (s := S1024x768) ![64 * k.val, 0] S64x768.size hi)).emb (ix2 r d)
        = (ix2 ⟨64 * k.val + r.val, hb r⟩ d : S1024x768.Idx) := by
      funext a
      refine Fin.ext ?_
      fin_cases a
      · show 64 * k.val + 1 * r.val = 64 * k.val + r.val; omega
      · show 0 + 1 * d.val = d.val; omega
    have hwr := View.write_emb_of_mem (v := outM.access (Rect.unit (s := S1024x768) ![64 * k.val, 0] S64x768.size hi)) (Val := Elt F) f w
      (Finset.mem_univ (ix2 r d : S64x768.Idx))
    rw [e] at hwr
    refine hwr.trans ((hw _).trans ?_)
    have h1 : (64 * k.val + r.val) / 64 = k.val := by have := r.isLt; omega
    have h2 : (64 * k.val + r.val) % 64 = r.val := by have := r.isLt; omega
    refine congr (congrArg W.own (Fin.ext h1.symm)) ?_
    exact congrArg₂ (fun (a : Fin 64) (b : Fin 768) => (ix2 a b : S64x768.Idx)) (Fin.ext h2.symm) rfl

theorem step_out (k : Fin 16) {j : ℕ} (hj : k.val = j) {w : S64x768.Idx → F .f32} (hw : ∀ i, w i = W.own k i)
    {o o' : Fin 2 → ℕ} (ho : o = ![64 * k.val, 0]) (ho' : o' = ![64 * k.val, 0]) {hi : ∀ a, o a + S64x768.size a ≤ S1024x768.size a}
    {hi' : ∀ a, o' a + S64x768.size a ≤ S1024x768.size a} {hl} {hx} {hm} {kk : PUnit → Prog (TpuEff nD τ sig (Elt F) Λ₀ .tc) α}
    (hk : iprop(Ctx W K c ∗ J ∗ X ∗ outP c W (j + 1) ∗ R) ⊢ WP c (kk ⟨⟩) Q) :
    iprop(Ctx W K c ∗ J ∗ X ∗ outP c W j ∗ R)
      ⊢ WP c (.op (.load outM (Rect.unit (s := S1024x768) o S64x768.size hi).toLoadRect hl) fun _ =>
          .op (.store outM (Rect.unit (s := S1024x768) o' S64x768.size hi') w Finset.univ hx hm) kk) Q := by
  subst hj
  iintro ⟨HC, HJ, HX, Hb, HR⟩
  unfold outP
  icases Hb with ⟨%f, Hb, %hf⟩
  iapply (wp_load (defs := defs₀ (F := F)) (Γ := PendingWaitsCtx.empty) (m := outM) (r := (Rect.unit (s := S1024x768) o S64x768.size hi).toLoadRect)
    (hl := hl) (S := Finset.univ) (q := fullShare) (f := f) Variants.none (c : Thread nD τ) none Set.univ (Finset.subset_univ _)) $$ Hb
  iintro Hb
  iapply (wp_store (defs := defs₀ (F := F)) (Γ := PendingWaitsCtx.empty) (m := outM) (r := Rect.unit (s := S1024x768) o' S64x768.size hi')
    (w := w) (Mk := Finset.univ) (hx := hx) (hm := hm) (k := kk) (S := Finset.univ) (f := f) Variants.none (c : Thread nD τ) none Set.univ (Finset.subset_univ _)) $$ Hb
  iintro Hb
  iapply hk
  isplitl [HC]; · iexact HC
  isplitl [HJ]; · iexact HJ
  isplitl [HX]; · iexact HX
  isplitl [Hb]
  · unfold outP
    iexists _
    isplitl [Hb]; · iexact Hb
    ipureintro
    exact fun i hi => out_write W k ho' f w hw hf i hi
  iexact HR

/-! ## The outgoing blocks come back -/

theorem lv_le (g : GSem nD τ sig) : lv g () ≤ 3 := by
  unfold lv
  split <;> decide

/-- What waiting for the copy to device `k` needs. -/
def rsOwn (k : Fin 16) : sProp (𝕄' F) :=
  if k = c then sbPt c c (W.sb c) else iprop(cred (tallyAt (rsSC c k) () N) ∗ atPos ER (rsSC c k) 0 ∅ 0)
/-- What it leaves. -/
def rsBack (k : Fin 16) : sProp (𝕄' F) :=
  if k = c then sbPt c c (W.sb c) else iprop(sbPt c k (W.sb c) ∗ atPos ER (rsSC c k) 1 ∅ 0)

theorem rsOwn_self {k : Fin 16} (h : k = c) : rsOwn c W k = sbPt c c (W.sb c) := if_pos h
theorem rsOwn_ne {k : Fin 16} (h : k ≠ c) : rsOwn c W k = iprop(cred (tallyAt (rsSC c k) () N) ∗ atPos ER (rsSC c k) 0 ∅ 0) := if_neg h
theorem rsBack_self {k : Fin 16} (h : k = c) : rsBack c W k = sbPt c c (W.sb c) := if_pos h
theorem rsBack_ne {k : Fin 16} (h : k ≠ c) : rsBack c W k = iprop(sbPt c k (W.sb c) ∗ atPos ER (rsSC c k) 1 ∅ 0) := if_neg h

/-- `j` outgoing blocks back. -/
def backSt (j : ℕ) : sProp (𝕄' F) :=
  iprop(OwesE c 0 ∗ restP (Fin.val : Fin 16 → ℕ) j (rsOwn c W) ∗ doneP (Fin.val : Fin 16 → ℕ) j (rsBack c W))

theorem step_back (k : Fin 16) {j : ℕ} (hj : k.val = j) {P : Prop} {iP : Decidable P} (hP : P ↔ k ≠ c) {o : Fin 1 → ℕ} (ho : o = ![k.val])
    {hi : ∀ a, o a + S1.size a ≤ S16.size a} {src dst : Memref sig .tc .vmem S64x768 .f32} (hN : dst.view.dmaCredit = N)
    {h1 : src.view.WordExact} {h2 : dst.view.WordExact} {kk : PUnit → Prog (TpuEff nD τ sig (Elt F) Λ₀ .tc) α}
    (hk : iprop(Ctx W K c ∗ J ∗ backSt c W (j + 1) ∗ R) ⊢ WP c (kk ⟨⟩) Q) :
    iprop(Ctx W K c ∗ J ∗ backSt c W j ∗ R)
      ⊢ WP c (if _h : P then (.op (.waitDma2 (semO cc0_scratch4 o hi) src dst h1 h2) (fun _ => .ret ⟨⟩)) else .ret ⟨⟩) (fun a => WP c (kk a) Q) := by
  subst ho
  unfold backSt
  iintro ⟨#HC, HJ, ⟨HO, HS, HD⟩, HR⟩
  ihave HS := (restP_take val_inj hj (rsOwn c W)) $$ HS
  icases HS with ⟨Hr, HS⟩
  by_cases hkc : k = c
  · rw [dif_neg fun h => hP.mp h hkc, WP_ret]
    imodintro
    iapply hk
    isplitr; · iexact HC
    isplitl [HJ]; · iexact HJ
    isplitr [HR]
    · unfold backSt
      isplitl [HO]; · iexact HO
      isplitl [HS]; · iexact HS
      iapply (doneP_put val_inj hj (rsBack c W))
      isplitl [Hr]; · iapply (Entails.of_eq ((rsOwn_self c W hkc).trans (rsBack_self c W hkc).symm)) $$ Hr
      iexact HD
    iexact HR
  · rw [dif_pos (hP.mpr hkc)]
    ihave Hr := (Entails.of_eq (rsOwn_ne c W hkc)) $$ Hr
    icases Hr with ⟨Hcr, Hat⟩
    ihave #HI := ((Ctx_recs W K c).trans (recs_rsS W K c k)) $$ HC
    iapply (wait_cell W K c (rsS k) (Above.zero 3) (lv_le _) (expect_rsS W c hkc) hN) $$ [Hcr Hat HO]
    · isplitr; · iexact HC
      isplitr; · iexact HI
      isplitl [Hcr]; · iexact Hcr
      isplitl [HO]; · iexact HO
      iexact Hat
    iintro ⟨HO, Hat, Hpay⟩
    ihave Hpay := (Entails.of_eq (rest_rsS W c hkc)) $$ Hpay
    rw [WP_ret]
    imodintro
    iapply hk
    isplitr; · iexact HC
    isplitl [HJ]; · iexact HJ
    isplitr [HR]
    · unfold backSt
      isplitl [HO]; · iexact HO
      isplitl [HS]; · iexact HS
      iapply (doneP_put val_inj hj (rsBack c W))
      isplitl [Hpay Hat]
      · rw [rsBack_ne c W hkc]
        isplitl [Hpay]; · iexact Hpay
        iexact Hat
      iexact HD
    iexact HR

/-! ## The result tile comes back -/

/-- What waiting for the `i`-th copy of the result tile needs. -/
def agOwn (i : Fin 15) : sProp (𝕄' F) := iprop(cred (tallyAt (agSC c i) () N) ∗ atPos ER (agSC c i) 0 ∅ 0)
/-- What it leaves. -/
def agBack (i : Fin 15) : sProp (𝕄' F) := iprop(ownPt c (shareTok fullShare 15 i) (W.own c) ∗ atPos ER (agSC c i) 1 ∅ 0)

/-- `j` copies of the result tile accounted for. -/
def finSt (j : ℕ) : sProp (𝕄' F) :=
  iprop(OwesE c 0 ∗ restP (Fin.val : Fin 15 → ℕ) j (agOwn c) ∗ doneP (Fin.val : Fin 15 → ℕ) j (agBack c W))

theorem step_fin (i : Fin 15) {j : ℕ} (hj : i.val = j) {o : Fin 1 → ℕ} (ho : o = ![i.val])
    {hi : ∀ a, o a + S1.size a ≤ S15.size a} {src dst : Memref sig .tc .vmem S64x768 .f32} (hN : dst.view.dmaCredit = N)
    {h1 : src.view.WordExact} {h2 : dst.view.WordExact} {kk : PUnit → Prog (TpuEff nD τ sig (Elt F) Λ₀ .tc) α}
    (hk : iprop(Ctx W K c ∗ J ∗ finSt c W (j + 1) ∗ R) ⊢ WP c (kk ⟨⟩) Q) :
    iprop(Ctx W K c ∗ J ∗ finSt c W j ∗ R) ⊢ WP c (.op (.waitDma2 (semO15 cc0_scratch6 o hi) src dst h1 h2) kk) Q := by
  subst ho
  unfold finSt
  iintro ⟨#HC, HJ, ⟨HO, HS, HD⟩, HR⟩
  ihave HS := (restP_take val_inj15 hj (agOwn c)) $$ HS
  icases HS with ⟨Hr, HS⟩
  unfold agOwn
  icases Hr with ⟨Hcr, Hat⟩
  ihave #HI := ((Ctx_recs W K c).trans (recs_agS W K c i)) $$ HC
  iapply (wait_cell W K c (agS i) (Above.zero 3) (lv_le _) (expect_agS W c i) hN) $$ [Hcr Hat HO]
  · isplitr; · iexact HC
    isplitr; · iexact HI
    isplitl [Hcr]; · iexact Hcr
    isplitl [HO]; · iexact HO
    iexact Hat
  iintro ⟨HO, Hat, Hpay⟩
  ihave Hpay := (Entails.of_eq (rest_agS W c i)) $$ Hpay
  iapply hk
  isplitr; · iexact HC
  isplitl [HJ]; · iexact HJ
  isplitr [HR]
  · unfold finSt
    isplitl [HO]; · iexact HO
    isplitl [HS]; · iexact HS
    iapply (doneP_put val_inj15 hj (agBack c W))
    isplitl [Hpay Hat]
    · unfold agBack
      isplitl [Hpay]; · iexact Hpay
      iexact Hat
    iexact HD
  iexact HR

end Cert.KernelIdeal.Mesh
-- ==== Proof.Words.lean ====
/-
  The words the kernel computes with at device `c`: its own number, the comparisons that tell one device from another, the
  offsets and the destinations of its copies.
-/
module

public import proofs.«01_k».proof.Proof.OutSteps

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-- The device's number as the kernel computes it. -/
def idx (c : Dev nD) : BitVec 32 := Scalar.remsi (Scalar.divsi (Dev.word c) 1#32) 16#32

theorem cne (k c : Fin 16) : Scalar.cmpi .ne (Scalar.extui (Scalar.cmpi .ne (idx c) (BitVec.ofNat 32 k.val)) : BitVec 32) 0#32 = 1#1 ↔ k ≠ c := by
  revert k c; decide +kernel

theorem ceq (k c : Fin 16) : Scalar.cmpi .eq (idx c) (BitVec.ofNat 32 k.val) = 1#1 ↔ k = c := by
  revert k c; decide +kernel

theorem off_sem (c : Dev nD) : k0_off1 c = ![c.val] := by
  revert c; decide +kernel

theorem off_blk (c : Dev nD) : k0_off2 c = ![c.val, 0, 0] := by
  revert c; decide +kernel

theorem off_own (c : Dev nD) : k0_off33 c = ![c.val, 0, 0] := by
  revert c; decide +kernel

theorem off_agS (c : Dev nD) : k0_off34 c = ![c.val] := by
  revert c; decide +kernel

theorem off_agB (c : Dev nD) : k0_off35 c = ![c.val, 0, 0] := by
  revert c; decide +kernel

theorem dev_0 (c : Dev nD) : k0_dev33 c = (tgt c 0).val := by
  revert c; decide +kernel
theorem dev_1 (c : Dev nD) : k0_dev34 c = (tgt c 1).val := by
  revert c; decide +kernel
theorem dev_2 (c : Dev nD) : k0_dev35 c = (tgt c 2).val := by
  revert c; decide +kernel
theorem dev_3 (c : Dev nD) : k0_dev36 c = (tgt c 3).val := by
  revert c; decide +kernel
theorem dev_4 (c : Dev nD) : k0_dev37 c = (tgt c 4).val := by
  revert c; decide +kernel
theorem dev_5 (c : Dev nD) : k0_dev38 c = (tgt c 5).val := by
  revert c; decide +kernel
theorem dev_6 (c : Dev nD) : k0_dev39 c = (tgt c 6).val := by
  revert c; decide +kernel
theorem dev_7 (c : Dev nD) : k0_dev40 c = (tgt c 7).val := by
  revert c; decide +kernel
theorem dev_8 (c : Dev nD) : k0_dev41 c = (tgt c 8).val := by
  revert c; decide +kernel
theorem dev_9 (c : Dev nD) : k0_dev42 c = (tgt c 9).val := by
  revert c; decide +kernel
theorem dev_10 (c : Dev nD) : k0_dev43 c = (tgt c 10).val := by
  revert c; decide +kernel
theorem dev_11 (c : Dev nD) : k0_dev44 c = (tgt c 11).val := by
  revert c; decide +kernel
theorem dev_12 (c : Dev nD) : k0_dev45 c = (tgt c 12).val := by
  revert c; decide +kernel
theorem dev_13 (c : Dev nD) : k0_dev46 c = (tgt c 13).val := by
  revert c; decide +kernel
theorem dev_14 (c : Dev nD) : k0_dev47 c = (tgt c 14).val := by
  revert c; decide +kernel

end Cert.KernelIdeal.Mesh

end
-- ==== Proof.Vals1.lean ====
/-
  The values the kernel computes for the first 256 rows, one definition for each that is carried from one piece of the program to the next.
-/
module

public import proofs.«01_k».proof.Proof.Words

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

def V_v37 (I : Inp F) : FVec F S256x768 .f32 :=
  k0_pay1 (ldX I ![0, 0] inb_S1024x768_S256x768_0_0)
def V_v51 (I : Inp F) : IVec S256x512 1 :=
  k0_pay2
def V_v52 (I : Inp F) : FVec F S256x768 .f32 :=
  k0_pay3 (F := F)
def V_v71 (I : Inp F) : FVec F S256x512 .f32 :=
  k0_pay4 (ldX I ![0, 0] inb_S1024x768_S256x768_0_0) (ldQ I ![0, 0, 0] inb_S8x768x64_S1x768x64_0_0_0) (ldK I ![0, 0, 0, 0] inb_S8x2x512x64_S1x1x512x64_0_0_0_0)
def V_v78 (I : Inp F) : FVec F S256x768 .f32 :=
  k0_pay5 (V_v52 I) (V_v71 I) (ldV I ![0, 0, 0, 0] inb_S8x2x512x64_S1x1x512x64_0_0_0_0) (ldO I ![0, 0, 0] inb_S8x64x768_S1x64x768_0_0_0)
def V_v100 (I : Inp F) : FVec F S256x64 .f32 :=
  k0_pay6 (V_v37 I) (V_v51 I) (ldQ I ![1, 0, 0] inb_S8x768x64_S1x768x64_1_0_0) (ldK I ![1, 0, 0, 0] inb_S8x2x512x64_S1x1x512x64_1_0_0_0) (ldV I ![1, 0, 0, 0] inb_S8x2x512x64_S1x1x512x64_1_0_0_0)
def V_v102 (I : Inp F) : FVec F S64x768 .f32 :=
  k0_pay7 (ldO I ![1, 0, 0] inb_S8x64x768_S1x64x768_1_0_0)
def V_cst_95 (I : Inp F) : FVec F S256x768 .f32 :=
  (constant S256x768 .f32 0x00000000#32 : FVec F S256x768 .f32)
def V_v130 (I : Inp F) : FVec F S256x768 .f32 :=
  k0_pay8 (V_v37 I) (V_v51 I) (V_v78 I) (V_v100 I) (V_v102 I) (V_cst_95 I) (ldQ I ![2, 0, 0] inb_S8x768x64_S1x768x64_2_0_0) (ldK I ![2, 0, 0, 0] inb_S8x2x512x64_S1x1x512x64_2_0_0_0) (ldV I ![2, 0, 0, 0] inb_S8x2x512x64_S1x1x512x64_2_0_0_0) (ldO I ![2, 0, 0] inb_S8x64x768_S1x64x768_2_0_0)
def V_v133 (I : Inp F) : FVec F S256x64 .f32 :=
  k0_pay9 (V_v37 I) (ldQ I ![3, 0, 0] inb_S8x768x64_S1x768x64_3_0_0)
def V_v156 (I : Inp F) : FVec F S256x768 .f32 :=
  k0_pay10 (V_v51 I) (V_v130 I) (V_v133 I) (ldK I ![3, 0, 0, 0] inb_S8x2x512x64_S1x1x512x64_3_0_0_0) (ldV I ![3, 0, 0, 0] inb_S8x2x512x64_S1x1x512x64_3_0_0_0) (ldO I ![3, 0, 0] inb_S8x64x768_S1x64x768_3_0_0)
def V_v166 (I : Inp F) : FVec F S256x512 .f32 :=
  k0_pay11 (V_v37 I) (V_v51 I) (ldQ I ![4, 0, 0] inb_S8x768x64_S1x768x64_4_0_0) (ldK I ![4, 0, 0, 0] inb_S8x2x512x64_S1x1x512x64_4_0_0_0)
def V_v182 (I : Inp F) : FVec F S256x768 .f32 :=
  k0_pay12 (V_v156 I) (V_v166 I) (ldV I ![4, 0, 0, 0] inb_S8x2x512x64_S1x1x512x64_4_0_0_0) (ldO I ![4, 0, 0] inb_S8x64x768_S1x64x768_4_0_0)
def V_v201 (I : Inp F) : FVec F S256x512 .f32 :=
  k0_pay13 (V_v37 I) (V_v51 I) (ldQ I ![5, 0, 0] inb_S8x768x64_S1x768x64_5_0_0) (ldK I ![5, 0, 0, 0] inb_S8x2x512x64_S1x1x512x64_5_0_0_0)
def V_v208 (I : Inp F) : FVec F S256x768 .f32 :=
  k0_pay14 (V_v182 I) (V_v201 I) (ldV I ![5, 0, 0, 0] inb_S8x2x512x64_S1x1x512x64_5_0_0_0) (ldO I ![5, 0, 0] inb_S8x64x768_S1x64x768_5_0_0)
def V_v230 (I : Inp F) : FVec F S256x64 .f32 :=
  k0_pay15 (V_v37 I) (V_v51 I) (ldQ I ![6, 0, 0] inb_S8x768x64_S1x768x64_6_0_0) (ldK I ![6, 0, 0, 0] inb_S8x2x512x64_S1x1x512x64_6_0_0_0) (ldV I ![6, 0, 0, 0] inb_S8x2x512x64_S1x1x512x64_6_0_0_0)
def V_v232 (I : Inp F) : FVec F S64x768 .f32 :=
  k0_pay16 (ldO I ![6, 0, 0] inb_S8x64x768_S1x64x768_6_0_0)
def V_cst_200 (I : Inp F) : FVec F S256x768 .f32 :=
  (constant S256x768 .f32 0x00000000#32 : FVec F S256x768 .f32)
def V_s0 (I : Inp F) : S1x64x768.Idx → F .f32 :=
  k0_pay18 (V_v37 I) (V_v51 I) (V_v208 I) (V_v230 I) (V_v232 I) (V_cst_200 I) (ldQ I ![7, 0, 0] inb_S8x768x64_S1x768x64_7_0_0) (ldK I ![7, 0, 0, 0] inb_S8x2x512x64_S1x1x512x64_7_0_0_0) (ldV I ![7, 0, 0, 0] inb_S8x2x512x64_S1x1x512x64_7_0_0_0) (ldO I ![7, 0, 0] inb_S8x64x768_S1x64x768_7_0_0)
def V_v260 (I : Inp F) : FVec F S256x768 .f32 :=
  k0_pay17 (V_v37 I) (V_v51 I) (V_v208 I) (V_v230 I) (V_v232 I) (V_cst_200 I) (ldQ I ![7, 0, 0] inb_S8x768x64_S1x768x64_7_0_0) (ldK I ![7, 0, 0, 0] inb_S8x2x512x64_S1x1x512x64_7_0_0_0) (ldV I ![7, 0, 0, 0] inb_S8x2x512x64_S1x1x512x64_7_0_0_0) (ldO I ![7, 0, 0] inb_S8x64x768_S1x64x768_7_0_0)

end Cert.KernelIdeal.Mesh

end
-- ==== Proof.Vals2.lean ====
/-
  The values the kernel computes for the second 256 rows, one definition for each that is carried from one piece of the program to the next.
-/
module

public import proofs.«01_k».proof.Proof.Vals1

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

def V_s1 (I : Inp F) : S1x64x768.Idx → F .f32 :=
  k0_pay19 (V_v260 I)
def V_s2 (I : Inp F) : S1x64x768.Idx → F .f32 :=
  k0_pay20 (V_v260 I)
def V_s3 (I : Inp F) : S1x64x768.Idx → F .f32 :=
  k0_pay21 (V_v260 I)
def V_v290 (I : Inp F) : FVec F S256x768 .f32 :=
  k0_pay22 (ldX I ![256, 0] inb_S1024x768_S256x768_256_0)
def V_v293 (I : Inp F) : IVec S256x512 32 :=
  k0_pay23
def V_v294 (I : Inp F) : IVec S256x512 32 :=
  (iota .tc S256x512 32 [1] iota_S256x512_d1_w32)
def V_v298 (I : Inp F) : IVec S256x512 1 :=
  k0_pay24
def V_v304 (I : Inp F) : IVec S256x512 1 :=
  k0_pay25 (V_v293 I) (V_v294 I) (V_v298 I)
def V_v331 (I : Inp F) : FVec F S256x768 .f32 :=
  k0_pay26 (V_v290 I) (V_v293 I) (V_v294 I) (V_v298 I) (ldQ I ![0, 0, 0] inb_S8x768x64_S1x768x64_0_0_0) (ldK I ![0, 0, 0, 0] inb_S8x2x512x64_S1x1x512x64_0_0_0_0) (ldV I ![0, 0, 0, 0] inb_S8x2x512x64_S1x1x512x64_0_0_0_0) (ldO I ![0, 0, 0] inb_S8x64x768_S1x64x768_0_0_0)
def V_v357 (I : Inp F) : FVec F S256x768 .f32 :=
  k0_pay27 (V_v290 I) (V_v304 I) (V_v331 I) (ldQ I ![1, 0, 0] inb_S8x768x64_S1x768x64_1_0_0) (ldK I ![1, 0, 0, 0] inb_S8x2x512x64_S1x1x512x64_1_0_0_0) (ldV I ![1, 0, 0, 0] inb_S8x2x512x64_S1x1x512x64_1_0_0_0) (ldO I ![1, 0, 0] inb_S8x64x768_S1x64x768_1_0_0)
def V_v360 (I : Inp F) : FVec F S256x64 .f32 :=
  k0_pay28 (V_v290 I) (ldQ I ![2, 0, 0] inb_S8x768x64_S1x768x64_2_0_0)
def V_v362 (I : Inp F) : FVec F S512x64 .f32 :=
  k0_pay29 (ldK I ![2, 0, 0, 0] inb_S8x2x512x64_S1x1x512x64_2_0_0_0)
def V_cst_299 (I : Inp F) : FVec F S256x512 .f32 :=
  (constant S256x512 .f32 0x00000000#32 : FVec F S256x512 .f32)
def V_v383 (I : Inp F) : FVec F S256x768 .f32 :=
  k0_pay30 (V_v304 I) (V_v357 I) (V_v360 I) (V_v362 I) (V_cst_299 I) (ldV I ![2, 0, 0, 0] inb_S8x2x512x64_S1x1x512x64_2_0_0_0) (ldO I ![2, 0, 0] inb_S8x64x768_S1x64x768_2_0_0)
def V_v397 (I : Inp F) : FVec F S256x512 .f32 :=
  k0_pay31 (V_v290 I) (V_v304 I) (ldQ I ![3, 0, 0] inb_S8x768x64_S1x768x64_3_0_0) (ldK I ![3, 0, 0, 0] inb_S8x2x512x64_S1x1x512x64_3_0_0_0)
def V_v409 (I : Inp F) : FVec F S256x768 .f32 :=
  k0_pay32 (V_v383 I) (V_v397 I) (ldV I ![3, 0, 0, 0] inb_S8x2x512x64_S1x1x512x64_3_0_0_0) (ldO I ![3, 0, 0] inb_S8x64x768_S1x64x768_3_0_0)
def V_v428 (I : Inp F) : FVec F S256x512 .f32 :=
  k0_pay33 (V_v290 I) (V_v304 I) (ldQ I ![4, 0, 0] inb_S8x768x64_S1x768x64_4_0_0) (ldK I ![4, 0, 0, 0] inb_S8x2x512x64_S1x1x512x64_4_0_0_0)
def V_v430 (I : Inp F) : FVec F S512x64 .f32 :=
  k0_pay34 (ldV I ![4, 0, 0, 0] inb_S8x2x512x64_S1x1x512x64_4_0_0_0)
def V_v461 (I : Inp F) : FVec F S256x768 .f32 :=
  k0_pay35 (V_v290 I) (V_v304 I) (V_v409 I) (V_v428 I) (V_v430 I) (ldO I ![4, 0, 0] inb_S8x64x768_S1x64x768_4_0_0) (ldQ I ![5, 0, 0] inb_S8x768x64_S1x768x64_5_0_0) (ldK I ![5, 0, 0, 0] inb_S8x2x512x64_S1x1x512x64_5_0_0_0) (ldV I ![5, 0, 0, 0] inb_S8x2x512x64_S1x1x512x64_5_0_0_0) (ldO I ![5, 0, 0] inb_S8x64x768_S1x64x768_5_0_0)
def V_v487 (I : Inp F) : FVec F S256x768 .f32 :=
  k0_pay36 (V_v290 I) (V_v304 I) (V_v461 I) (ldQ I ![6, 0, 0] inb_S8x768x64_S1x768x64_6_0_0) (ldK I ![6, 0, 0, 0] inb_S8x2x512x64_S1x1x512x64_6_0_0_0) (ldV I ![6, 0, 0, 0] inb_S8x2x512x64_S1x1x512x64_6_0_0_0) (ldO I ![6, 0, 0] inb_S8x64x768_S1x64x768_6_0_0)
def V_v490 (I : Inp F) : FVec F S256x64 .f32 :=
  k0_pay37 (V_v290 I) (ldQ I ![7, 0, 0] inb_S8x768x64_S1x768x64_7_0_0)
def V_v492 (I : Inp F) : FVec F S512x64 .f32 :=
  k0_pay38 (ldK I ![7, 0, 0, 0] inb_S8x2x512x64_S1x1x512x64_7_0_0_0)
def V_cst_409 (I : Inp F) : FVec F S256x512 .f32 :=
  (constant S256x512 .f32 0x00000000#32 : FVec F S256x512 .f32)
def V_s4 (I : Inp F) : S1x64x768.Idx → F .f32 :=
  k0_pay40 (V_v304 I) (V_v487 I) (V_v490 I) (V_v492 I) (V_cst_409 I) (ldV I ![7, 0, 0, 0] inb_S8x2x512x64_S1x1x512x64_7_0_0_0) (ldO I ![7, 0, 0] inb_S8x64x768_S1x64x768_7_0_0)
def V_s5 (I : Inp F) : S1x64x768.Idx → F .f32 :=
  k0_pay41 (V_v304 I) (V_v487 I) (V_v490 I) (V_v492 I) (V_cst_409 I) (ldV I ![7, 0, 0, 0] inb_S8x2x512x64_S1x1x512x64_7_0_0_0) (ldO I ![7, 0, 0] inb_S8x64x768_S1x64x768_7_0_0)
def V_v513 (I : Inp F) : FVec F S256x768 .f32 :=
  k0_pay39 (V_v304 I) (V_v487 I) (V_v490 I) (V_v492 I) (V_cst_409 I) (ldV I ![7, 0, 0, 0] inb_S8x2x512x64_S1x1x512x64_7_0_0_0) (ldO I ![7, 0, 0] inb_S8x64x768_S1x64x768_7_0_0)

end Cert.KernelIdeal.Mesh

end
-- ==== Proof.Vals3.lean ====
/-
  The values the kernel computes for the third 256 rows, one definition for each that is carried from one piece of the program to the next.
-/
module

public import proofs.«01_k».proof.Proof.Vals2

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

def V_s6 (I : Inp F) : S1x64x768.Idx → F .f32 :=
  k0_pay42 (V_v513 I)
def V_s7 (I : Inp F) : S1x64x768.Idx → F .f32 :=
  k0_pay43 (V_v513 I)
def V_v543 (I : Inp F) : FVec F S256x768 .f32 :=
  k0_pay44 (ldX I ![512, 0] inb_S1024x768_S256x768_512_0)
def V_v557 (I : Inp F) : IVec S256x512 1 :=
  k0_pay45
def V_v558 (I : Inp F) : FVec F S256x768 .f32 :=
  k0_pay46 (F := F)
def V_v560 (I : Inp F) : FVec F S768x64 .f32 :=
  k0_pay47 (ldQ I ![0, 0, 0] inb_S8x768x64_S1x768x64_0_0_0)
def V_cst_452 (I : Inp F) : FVec F S256x64 .f32 :=
  (constant S256x64 .f32 0x00000000#32 : FVec F S256x64 .f32)
def V_v584 (I : Inp F) : FVec F S256x768 .f32 :=
  k0_pay48 (V_v543 I) (V_v557 I) (V_v558 I) (V_v560 I) (V_cst_452 I) (ldK I ![0, 1, 0, 0] inb_S8x2x512x64_S1x1x512x64_0_1_0_0) (ldV I ![0, 1, 0, 0] inb_S8x2x512x64_S1x1x512x64_0_1_0_0) (ldO I ![0, 0, 0] inb_S8x64x768_S1x64x768_0_0_0)
def V_v592 (I : Inp F) : FVec F S256x512 .f32 :=
  k0_pay49 (V_v543 I) (ldQ I ![1, 0, 0] inb_S8x768x64_S1x768x64_1_0_0) (ldK I ![1, 1, 0, 0] inb_S8x2x512x64_S1x1x512x64_1_1_0_0)
def V_v610 (I : Inp F) : FVec F S256x768 .f32 :=
  k0_pay50 (V_v557 I) (V_v584 I) (V_v592 I) (ldV I ![1, 1, 0, 0] inb_S8x2x512x64_S1x1x512x64_1_1_0_0) (ldO I ![1, 0, 0] inb_S8x64x768_S1x64x768_1_0_0)
def V_v625 (I : Inp F) : FVec F S256x512 .f32 :=
  k0_pay51 (V_v543 I) (V_v557 I) (ldQ I ![2, 0, 0] inb_S8x768x64_S1x768x64_2_0_0) (ldK I ![2, 1, 0, 0] inb_S8x2x512x64_S1x1x512x64_2_1_0_0)
def V_v627 (I : Inp F) : FVec F S256x1 .f32 :=
  k0_pay52 (V_v543 I) (V_v557 I) (ldQ I ![2, 0, 0] inb_S8x768x64_S1x768x64_2_0_0) (ldK I ![2, 1, 0, 0] inb_S8x2x512x64_S1x1x512x64_2_1_0_0)
def V_v636 (I : Inp F) : FVec F S256x768 .f32 :=
  k0_pay53 (V_v610 I) (V_v625 I) (V_v627 I) (ldV I ![2, 1, 0, 0] inb_S8x2x512x64_S1x1x512x64_2_1_0_0) (ldO I ![2, 0, 0] inb_S8x64x768_S1x64x768_2_0_0)
def V_v658 (I : Inp F) : FVec F S256x64 .f32 :=
  k0_pay54 (V_v543 I) (V_v557 I) (ldQ I ![3, 0, 0] inb_S8x768x64_S1x768x64_3_0_0) (ldK I ![3, 1, 0, 0] inb_S8x2x512x64_S1x1x512x64_3_1_0_0) (ldV I ![3, 1, 0, 0] inb_S8x2x512x64_S1x1x512x64_3_1_0_0)
def V_v688 (I : Inp F) : FVec F S256x768 .f32 :=
  k0_pay55 (V_v543 I) (V_v557 I) (V_v636 I) (V_v658 I) (ldO I ![3, 0, 0] inb_S8x64x768_S1x64x768_3_0_0) (ldQ I ![4, 0, 0] inb_S8x768x64_S1x768x64_4_0_0) (ldK I ![4, 1, 0, 0] inb_S8x2x512x64_S1x1x512x64_4_1_0_0) (ldV I ![4, 1, 0, 0] inb_S8x2x512x64_S1x1x512x64_4_1_0_0) (ldO I ![4, 0, 0] inb_S8x64x768_S1x64x768_4_0_0)
def V_v690 (I : Inp F) : FVec F S768x64 .f32 :=
  k0_pay56 (ldQ I ![5, 0, 0] inb_S8x768x64_S1x768x64_5_0_0)
def V_cst_562 (I : Inp F) : FVec F S256x64 .f32 :=
  (constant S256x64 .f32 0x00000000#32 : FVec F S256x64 .f32)
def V_v714 (I : Inp F) : FVec F S256x768 .f32 :=
  k0_pay57 (V_v543 I) (V_v557 I) (V_v688 I) (V_v690 I) (V_cst_562 I) (ldK I ![5, 1, 0, 0] inb_S8x2x512x64_S1x1x512x64_5_1_0_0) (ldV I ![5, 1, 0, 0] inb_S8x2x512x64_S1x1x512x64_5_1_0_0) (ldO I ![5, 0, 0] inb_S8x64x768_S1x64x768_5_0_0)
def V_v722 (I : Inp F) : FVec F S256x512 .f32 :=
  k0_pay58 (V_v543 I) (ldQ I ![6, 0, 0] inb_S8x768x64_S1x768x64_6_0_0) (ldK I ![6, 1, 0, 0] inb_S8x2x512x64_S1x1x512x64_6_1_0_0)
def V_v740 (I : Inp F) : FVec F S256x768 .f32 :=
  k0_pay59 (V_v557 I) (V_v714 I) (V_v722 I) (ldV I ![6, 1, 0, 0] inb_S8x2x512x64_S1x1x512x64_6_1_0_0) (ldO I ![6, 0, 0] inb_S8x64x768_S1x64x768_6_0_0)
def V_v755 (I : Inp F) : FVec F S256x512 .f32 :=
  k0_pay60 (V_v543 I) (V_v557 I) (ldQ I ![7, 0, 0] inb_S8x768x64_S1x768x64_7_0_0) (ldK I ![7, 1, 0, 0] inb_S8x2x512x64_S1x1x512x64_7_1_0_0)
def V_v757 (I : Inp F) : FVec F S256x1 .f32 :=
  k0_pay61 (V_v543 I) (V_v557 I) (ldQ I ![7, 0, 0] inb_S8x768x64_S1x768x64_7_0_0) (ldK I ![7, 1, 0, 0] inb_S8x2x512x64_S1x1x512x64_7_1_0_0)
def V_s8 (I : Inp F) : S1x64x768.Idx → F .f32 :=
  k0_pay63 (V_v740 I) (V_v755 I) (V_v757 I) (ldV I ![7, 1, 0, 0] inb_S8x2x512x64_S1x1x512x64_7_1_0_0) (ldO I ![7, 0, 0] inb_S8x64x768_S1x64x768_7_0_0)
def V_s9 (I : Inp F) : S1x64x768.Idx → F .f32 :=
  k0_pay64 (V_v740 I) (V_v755 I) (V_v757 I) (ldV I ![7, 1, 0, 0] inb_S8x2x512x64_S1x1x512x64_7_1_0_0) (ldO I ![7, 0, 0] inb_S8x64x768_S1x64x768_7_0_0)
def V_s10 (I : Inp F) : S1x64x768.Idx → F .f32 :=
  k0_pay65 (V_v740 I) (V_v755 I) (V_v757 I) (ldV I ![7, 1, 0, 0] inb_S8x2x512x64_S1x1x512x64_7_1_0_0) (ldO I ![7, 0, 0] inb_S8x64x768_S1x64x768_7_0_0)
def V_v766 (I : Inp F) : FVec F S256x768 .f32 :=
  k0_pay62 (V_v740 I) (V_v755 I) (V_v757 I) (ldV I ![7, 1, 0, 0] inb_S8x2x512x64_S1x1x512x64_7_1_0_0) (ldO I ![7, 0, 0] inb_S8x64x768_S1x64x768_7_0_0)

end Cert.KernelIdeal.Mesh

end
-- ==== Proof.Vals4.lean ====
/-
  The values the kernel computes for the last 256 rows, one definition for each that is carried from one piece of the program to the next.
-/
module

public import proofs.«01_k».proof.Proof.Vals3

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

def V_s11 (I : Inp F) : S1x64x768.Idx → F .f32 :=
  k0_pay66 (V_v766 I)
def V_v796 (I : Inp F) : FVec F S256x768 .f32 :=
  k0_pay67 (ldX I ![768, 0] inb_S1024x768_S256x768_768_0)
def V_v810 (I : Inp F) : IVec S256x512 1 :=
  k0_pay68
def V_v811 (I : Inp F) : FVec F S256x768 .f32 :=
  k0_pay69 (F := F)
def V_v821 (I : Inp F) : FVec F S256x512 .f32 :=
  k0_pay70 (ldX I ![768, 0] inb_S1024x768_S256x768_768_0) (ldQ I ![0, 0, 0] inb_S8x768x64_S1x768x64_0_0_0) (ldK I ![0, 1, 0, 0] inb_S8x2x512x64_S1x1x512x64_0_1_0_0)
def V_v837 (I : Inp F) : FVec F S256x768 .f32 :=
  k0_pay71 (V_v811 I) (V_v821 I) (ldV I ![0, 1, 0, 0] inb_S8x2x512x64_S1x1x512x64_0_1_0_0) (ldO I ![0, 0, 0] inb_S8x64x768_S1x64x768_0_0_0)
def V_v856 (I : Inp F) : FVec F S256x512 .f32 :=
  k0_pay72 (V_v796 I) (V_v810 I) (ldQ I ![1, 0, 0] inb_S8x768x64_S1x768x64_1_0_0) (ldK I ![1, 1, 0, 0] inb_S8x2x512x64_S1x1x512x64_1_1_0_0)
def V_v863 (I : Inp F) : FVec F S256x768 .f32 :=
  k0_pay73 (V_v837 I) (V_v856 I) (ldV I ![1, 1, 0, 0] inb_S8x2x512x64_S1x1x512x64_1_1_0_0) (ldO I ![1, 0, 0] inb_S8x64x768_S1x64x768_1_0_0)
def V_v885 (I : Inp F) : FVec F S256x64 .f32 :=
  k0_pay74 (V_v796 I) (V_v810 I) (ldQ I ![2, 0, 0] inb_S8x768x64_S1x768x64_2_0_0) (ldK I ![2, 1, 0, 0] inb_S8x2x512x64_S1x1x512x64_2_1_0_0) (ldV I ![2, 1, 0, 0] inb_S8x2x512x64_S1x1x512x64_2_1_0_0)
def V_v887 (I : Inp F) : FVec F S64x768 .f32 :=
  k0_pay75 (ldO I ![2, 0, 0] inb_S8x64x768_S1x64x768_2_0_0)
def V_cst_712 (I : Inp F) : FVec F S256x768 .f32 :=
  (constant S256x768 .f32 0x00000000#32 : FVec F S256x768 .f32)
def V_v915 (I : Inp F) : FVec F S256x768 .f32 :=
  k0_pay76 (V_v796 I) (V_v810 I) (V_v863 I) (V_v885 I) (V_v887 I) (V_cst_712 I) (ldQ I ![3, 0, 0] inb_S8x768x64_S1x768x64_3_0_0) (ldK I ![3, 1, 0, 0] inb_S8x2x512x64_S1x1x512x64_3_1_0_0) (ldV I ![3, 1, 0, 0] inb_S8x2x512x64_S1x1x512x64_3_1_0_0) (ldO I ![3, 0, 0] inb_S8x64x768_S1x64x768_3_0_0)
def V_v918 (I : Inp F) : FVec F S256x64 .f32 :=
  k0_pay77 (V_v796 I) (ldQ I ![4, 0, 0] inb_S8x768x64_S1x768x64_4_0_0)
def V_v941 (I : Inp F) : FVec F S256x768 .f32 :=
  k0_pay78 (V_v810 I) (V_v915 I) (V_v918 I) (ldK I ![4, 1, 0, 0] inb_S8x2x512x64_S1x1x512x64_4_1_0_0) (ldV I ![4, 1, 0, 0] inb_S8x2x512x64_S1x1x512x64_4_1_0_0) (ldO I ![4, 0, 0] inb_S8x64x768_S1x64x768_4_0_0)
def V_v951 (I : Inp F) : FVec F S256x512 .f32 :=
  k0_pay79 (V_v796 I) (V_v810 I) (ldQ I ![5, 0, 0] inb_S8x768x64_S1x768x64_5_0_0) (ldK I ![5, 1, 0, 0] inb_S8x2x512x64_S1x1x512x64_5_1_0_0)
def V_v967 (I : Inp F) : FVec F S256x768 .f32 :=
  k0_pay80 (V_v941 I) (V_v951 I) (ldV I ![5, 1, 0, 0] inb_S8x2x512x64_S1x1x512x64_5_1_0_0) (ldO I ![5, 0, 0] inb_S8x64x768_S1x64x768_5_0_0)
def V_v986 (I : Inp F) : FVec F S256x512 .f32 :=
  k0_pay81 (V_v796 I) (V_v810 I) (ldQ I ![6, 0, 0] inb_S8x768x64_S1x768x64_6_0_0) (ldK I ![6, 1, 0, 0] inb_S8x2x512x64_S1x1x512x64_6_1_0_0)
def V_v993 (I : Inp F) : FVec F S256x768 .f32 :=
  k0_pay82 (V_v967 I) (V_v986 I) (ldV I ![6, 1, 0, 0] inb_S8x2x512x64_S1x1x512x64_6_1_0_0) (ldO I ![6, 0, 0] inb_S8x64x768_S1x64x768_6_0_0)
def V_v1015 (I : Inp F) : FVec F S256x64 .f32 :=
  k0_pay83 (V_v796 I) (V_v810 I) (ldQ I ![7, 0, 0] inb_S8x768x64_S1x768x64_7_0_0) (ldK I ![7, 1, 0, 0] inb_S8x2x512x64_S1x1x512x64_7_1_0_0) (ldV I ![7, 1, 0, 0] inb_S8x2x512x64_S1x1x512x64_7_1_0_0)
def V_v1017 (I : Inp F) : FVec F S64x768 .f32 :=
  k0_pay84 (ldO I ![7, 0, 0] inb_S8x64x768_S1x64x768_7_0_0)
def V_cst_822 (I : Inp F) : FVec F S256x768 .f32 :=
  (constant S256x768 .f32 0x00000000#32 : FVec F S256x768 .f32)
def V_s12 (I : Inp F) : S1x64x768.Idx → F .f32 :=
  k0_pay86 (V_v993 I) (V_v1015 I) (V_v1017 I) (V_cst_822 I)
def V_s13 (I : Inp F) : S1x64x768.Idx → F .f32 :=
  k0_pay87 (V_v993 I) (V_v1015 I) (V_v1017 I) (V_cst_822 I)
def V_s14 (I : Inp F) : S1x64x768.Idx → F .f32 :=
  k0_pay88 (V_v993 I) (V_v1015 I) (V_v1017 I) (V_cst_822 I)
def V_s15 (I : Inp F) : S1x64x768.Idx → F .f32 :=
  k0_pay89 (V_v993 I) (V_v1015 I) (V_v1017 I) (V_cst_822 I)

/-- Outgoing block `k`. -/
def sbv (I : Inp F) : Fin 16 → (S1x64x768.Idx → F .f32) :=
  ![V_s0 I, V_s1 I, V_s2 I, V_s3 I, V_s4 I, V_s5 I, V_s6 I, V_s7 I, V_s8 I, V_s9 I, V_s10 I, V_s11 I, V_s12 I, V_s13 I, V_s14 I, V_s15 I]

end Cert.KernelIdeal.Mesh

end
-- ==== Proof.Vals5.lean ====
/-
  The values the kernel computes for the sum of the received blocks, one definition for each that is carried from one piece of the program to the next.
-/
module

public import proofs.«01_k».proof.Proof.Vals4

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

def V_v1050 (W : Fill F) (c : Dev nD) (f₀ : S16x64x768.Idx → F .f32) : FVec F S64x768 .f32 :=
  k0_pay90 (blk c (W.sb c))
def V_v1073 (W : Fill F) (c : Dev nD) (f₀ : S16x64x768.Idx → F .f32) : FVec F S64x768 .f32 :=
  k0_pay91 (idx c) (blk c (W.sb c)) (rsB W c f₀ 0) (rsB W c f₀ 1) (rsB W c f₀ 2)
def V_v1079 (W : Fill F) (c : Dev nD) (f₀ : S16x64x768.Idx → F .f32) : FVec F S64x768 .f32 :=
  k0_pay92 (rsB W c f₀ 3)
def V_v1105 (W : Fill F) (c : Dev nD) (f₀ : S16x64x768.Idx → F .f32) : FVec F S64x768 .f32 :=
  k0_pay93 (idx c) (V_v1050 W c f₀) (V_v1073 W c f₀) (Scalar.cmpi .eq (idx c) 3#32) (V_v1079 W c f₀) (rsB W c f₀ 4) (rsB W c f₀ 5) (rsB W c f₀ 6)
def V_v1111 (W : Fill F) (c : Dev nD) (f₀ : S16x64x768.Idx → F .f32) : FVec F S64x768 .f32 :=
  k0_pay94 (rsB W c f₀ 7)
def V_v1137 (W : Fill F) (c : Dev nD) (f₀ : S16x64x768.Idx → F .f32) : FVec F S64x768 .f32 :=
  k0_pay95 (idx c) (V_v1050 W c f₀) (V_v1105 W c f₀) (Scalar.cmpi .eq (idx c) 7#32) (V_v1111 W c f₀) (rsB W c f₀ 8) (rsB W c f₀ 9) (rsB W c f₀ 10)
def V_v1143 (W : Fill F) (c : Dev nD) (f₀ : S16x64x768.Idx → F .f32) : FVec F S64x768 .f32 :=
  k0_pay96 (rsB W c f₀ 11)
def V_v1169 (W : Fill F) (c : Dev nD) (f₀ : S16x64x768.Idx → F .f32) : FVec F S64x768 .f32 :=
  k0_pay97 (idx c) (V_v1050 W c f₀) (V_v1137 W c f₀) (Scalar.cmpi .eq (idx c) 11#32) (V_v1143 W c f₀) (rsB W c f₀ 12) (rsB W c f₀ 13) (rsB W c f₀ 14)
def V_v1175 (W : Fill F) (c : Dev nD) (f₀ : S16x64x768.Idx → F .f32) : FVec F S64x768 .f32 :=
  k0_pay98 (rsB W c f₀ 15)
def V_v1177 (W : Fill F) (c : Dev nD) (f₀ : S16x64x768.Idx → F .f32) : FVec F S64x768 .f32 :=
  k0_pay99 (V_v1050 W c f₀) (V_v1169 W c f₀) (Scalar.cmpi .eq (idx c) 15#32) (V_v1175 W c f₀)

end Cert.KernelIdeal.Mesh

end
-- ==== Proof.Glue.lean ====
/-
  Between the phases: the value of the result tile does not depend on what the device's own incoming block held, and how
  the state a phase leaves becomes the state the next one starts in.
-/
module

public import proofs.«01_k».proof.Proof.Vals5

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## Values -/

theorem sel_congr (k c : Fin 16) (a x y : S64x768.Idx → F .f32) (h : k ≠ c → x = y) :
    (Scalar.select (Scalar.cmpi .eq (idx c) (BitVec.ofNat 32 k.val)) a x : S64x768.Idx → F .f32)
      = Scalar.select (Scalar.cmpi .eq (idx c) (BitVec.ofNat 32 k.val)) a y := by
  by_cases hk : k = c
  · have e := (ceq k c).mpr hk
    rw [e]; rfl
  · rw [h hk]

/-- The sum of sixteen blocks in the kernel's order, block `c` replaced by `o`. -/
def sumB (o : FVec F S64x768 .f32) (c : Dev nD) (b : Fin 16 → S1x64x768.Idx → F .f32) : FVec F S64x768 .f32 :=
  (addf (addf (addf (addf (addf (addf (addf (addf (addf (addf (addf (addf (addf (addf (addf (Scalar.select (Scalar.cmpi .eq (idx c) 0#32) o (shapeCast S64x768 (b 0) shapeCasts_S1x64x768_S64x768))
    (Scalar.select (Scalar.cmpi .eq (idx c) 1#32) o (shapeCast S64x768 (b 1) shapeCasts_S1x64x768_S64x768)))
    (Scalar.select (Scalar.cmpi .eq (idx c) 2#32) o (shapeCast S64x768 (b 2) shapeCasts_S1x64x768_S64x768)))
    (Scalar.select (Scalar.cmpi .eq (idx c) 3#32) o (shapeCast S64x768 (b 3) shapeCasts_S1x64x768_S64x768)))
    (Scalar.select (Scalar.cmpi .eq (idx c) 4#32) o (shapeCast S64x768 (b 4) shapeCasts_S1x64x768_S64x768)))
    (Scalar.select (Scalar.cmpi .eq (idx c) 5#32) o (shapeCast S64x768 (b 5) shapeCasts_S1x64x768_S64x768)))
    (Scalar.select (Scalar.cmpi .eq (idx c) 6#32) o (shapeCast S64x768 (b 6) shapeCasts_S1x64x768_S64x768)))
    (Scalar.select (Scalar.cmpi .eq (idx c) 7#32) o (shapeCast S64x768 (b 7) shapeCasts_S1x64x768_S64x768)))
    (Scalar.select (Scalar.cmpi .eq (idx c) 8#32) o (shapeCast S64x768 (b 8) shapeCasts_S1x64x768_S64x768)))
    (Scalar.select (Scalar.cmpi .eq (idx c) 9#32) o (shapeCast S64x768 (b 9) shapeCasts_S1x64x768_S64x768)))
    (Scalar.select (Scalar.cmpi .eq (idx c) 10#32) o (shapeCast S64x768 (b 10) shapeCasts_S1x64x768_S64x768)))
    (Scalar.select (Scalar.cmpi .eq (idx c) 11#32) o (shapeCast S64x768 (b 11) shapeCasts_S1x64x768_S64x768)))
    (Scalar.select (Scalar.cmpi .eq (idx c) 12#32) o (shapeCast S64x768 (b 12) shapeCasts_S1x64x768_S64x768)))
    (Scalar.select (Scalar.cmpi .eq (idx c) 13#32) o (shapeCast S64x768 (b 13) shapeCasts_S1x64x768_S64x768)))
    (Scalar.select (Scalar.cmpi .eq (idx c) 14#32) o (shapeCast S64x768 (b 14) shapeCasts_S1x64x768_S64x768)))
    (Scalar.select (Scalar.cmpi .eq (idx c) 15#32) o (shapeCast S64x768 (b 15) shapeCasts_S1x64x768_S64x768)))

theorem sumB_congr (o : FVec F S64x768 .f32) (c : Dev nD) (b b' : Fin 16 → S1x64x768.Idx → F .f32) (h : ∀ k, k ≠ c → b k = b' k) :
    sumB o c b = sumB o c b' := by
  have e (k : Fin 16) := sel_congr k c o (shapeCast S64x768 (b k) shapeCasts_S1x64x768_S64x768) (shapeCast S64x768 (b' k) shapeCasts_S1x64x768_S64x768)
    fun hk => by rw [h k hk]
  unfold sumB
  have e0 : (Scalar.select (Scalar.cmpi .eq (idx c) 0#32) o (shapeCast S64x768 (b 0) shapeCasts_S1x64x768_S64x768) : S64x768.Idx → F .f32) = Scalar.select (Scalar.cmpi .eq (idx c) 0#32) o (shapeCast S64x768 (b' 0) shapeCasts_S1x64x768_S64x768) := e 0
  have e1 : (Scalar.select (Scalar.cmpi .eq (idx c) 1#32) o (shapeCast S64x768 (b 1) shapeCasts_S1x64x768_S64x768) : S64x768.Idx → F .f32) = Scalar.select (Scalar.cmpi .eq (idx c) 1#32) o (shapeCast S64x768 (b' 1) shapeCasts_S1x64x768_S64x768) := e 1
  have e2 : (Scalar.select (Scalar.cmpi .eq (idx c) 2#32) o (shapeCast S64x768 (b 2) shapeCasts_S1x64x768_S64x768) : S64x768.Idx → F .f32) = Scalar.select (Scalar.cmpi .eq (idx c) 2#32) o (shapeCast S64x768 (b' 2) shapeCasts_S1x64x768_S64x768) := e 2
  have e3 : (Scalar.select (Scalar.cmpi .eq (idx c) 3#32) o (shapeCast S64x768 (b 3) shapeCasts_S1x64x768_S64x768) : S64x768.Idx → F .f32) = Scalar.select (Scalar.cmpi .eq (idx c) 3#32) o (shapeCast S64x768 (b' 3) shapeCasts_S1x64x768_S64x768) := e 3
  have e4 : (Scalar.select (Scalar.cmpi .eq (idx c) 4#32) o (shapeCast S64x768 (b 4) shapeCasts_S1x64x768_S64x768) : S64x768.Idx → F .f32) = Scalar.select (Scalar.cmpi .eq (idx c) 4#32) o (shapeCast S64x768 (b' 4) shapeCasts_S1x64x768_S64x768) := e 4
  have e5 : (Scalar.select (Scalar.cmpi .eq (idx c) 5#32) o (shapeCast S64x768 (b 5) shapeCasts_S1x64x768_S64x768) : S64x768.Idx → F .f32) = Scalar.select (Scalar.cmpi .eq (idx c) 5#32) o (shapeCast S64x768 (b' 5) shapeCasts_S1x64x768_S64x768) := e 5
  have e6 : (Scalar.select (Scalar.cmpi .eq (idx c) 6#32) o (shapeCast S64x768 (b 6) shapeCasts_S1x64x768_S64x768) : S64x768.Idx → F .f32) = Scalar.select (Scalar.cmpi .eq (idx c) 6#32) o (shapeCast S64x768 (b' 6) shapeCasts_S1x64x768_S64x768) := e 6
  have e7 : (Scalar.select (Scalar.cmpi .eq (idx c) 7#32) o (shapeCast S64x768 (b 7) shapeCasts_S1x64x768_S64x768) : S64x768.Idx → F .f32) = Scalar.select (Scalar.cmpi .eq (idx c) 7#32) o (shapeCast S64x768 (b' 7) shapeCasts_S1x64x768_S64x768) := e 7
  have e8 : (Scalar.select (Scalar.cmpi .eq (idx c) 8#32) o (shapeCast S64x768 (b 8) shapeCasts_S1x64x768_S64x768) : S64x768.Idx → F .f32) = Scalar.select (Scalar.cmpi .eq (idx c) 8#32) o (shapeCast S64x768 (b' 8) shapeCasts_S1x64x768_S64x768) := e 8
  have e9 : (Scalar.select (Scalar.cmpi .eq (idx c) 9#32) o (shapeCast S64x768 (b 9) shapeCasts_S1x64x768_S64x768) : S64x768.Idx → F .f32) = Scalar.select (Scalar.cmpi .eq (idx c) 9#32) o (shapeCast S64x768 (b' 9) shapeCasts_S1x64x768_S64x768) := e 9
  have e10 : (Scalar.select (Scalar.cmpi .eq (idx c) 10#32) o (shapeCast S64x768 (b 10) shapeCasts_S1x64x768_S64x768) : S64x768.Idx → F .f32) = Scalar.select (Scalar.cmpi .eq (idx c) 10#32) o (shapeCast S64x768 (b' 10) shapeCasts_S1x64x768_S64x768) := e 10
  have e11 : (Scalar.select (Scalar.cmpi .eq (idx c) 11#32) o (shapeCast S64x768 (b 11) shapeCasts_S1x64x768_S64x768) : S64x768.Idx → F .f32) = Scalar.select (Scalar.cmpi .eq (idx c) 11#32) o (shapeCast S64x768 (b' 11) shapeCasts_S1x64x768_S64x768) := e 11
  have e12 : (Scalar.select (Scalar.cmpi .eq (idx c) 12#32) o (shapeCast S64x768 (b 12) shapeCasts_S1x64x768_S64x768) : S64x768.Idx → F .f32) = Scalar.select (Scalar.cmpi .eq (idx c) 12#32) o (shapeCast S64x768 (b' 12) shapeCasts_S1x64x768_S64x768) := e 12
  have e13 : (Scalar.select (Scalar.cmpi .eq (idx c) 13#32) o (shapeCast S64x768 (b 13) shapeCasts_S1x64x768_S64x768) : S64x768.Idx → F .f32) = Scalar.select (Scalar.cmpi .eq (idx c) 13#32) o (shapeCast S64x768 (b' 13) shapeCasts_S1x64x768_S64x768) := e 13
  have e14 : (Scalar.select (Scalar.cmpi .eq (idx c) 14#32) o (shapeCast S64x768 (b 14) shapeCasts_S1x64x768_S64x768) : S64x768.Idx → F .f32) = Scalar.select (Scalar.cmpi .eq (idx c) 14#32) o (shapeCast S64x768 (b' 14) shapeCasts_S1x64x768_S64x768) := e 14
  have e15 : (Scalar.select (Scalar.cmpi .eq (idx c) 15#32) o (shapeCast S64x768 (b 15) shapeCasts_S1x64x768_S64x768) : S64x768.Idx → F .f32) = Scalar.select (Scalar.cmpi .eq (idx c) 15#32) o (shapeCast S64x768 (b' 15) shapeCasts_S1x64x768_S64x768) := e 15
  rw [e0, e1, e2, e3, e4, e5, e6, e7, e8, e9, e10, e11, e12, e13, e14, e15]

theorem v1177_eq (W : Fill F) (c : Dev nD) (f₀ : S16x64x768.Idx → F .f32) : V_v1177 W c f₀ = sumB (k0_pay90 (blk c (W.sb c))) c (rsB W c f₀) := rfl

/-- The result tile device `c` writes. -/
def tileV (W : Fill F) (c : Dev nD) : FVec F S64x768 .f32 :=
  sumB (k0_pay90 (blk c (W.sb c))) c fun k => blk k (landR W c)

theorem v1177_tile (W : Fill F) (c : Dev nD) (f₀ : S16x64x768.Idx → F .f32) : V_v1177 W c f₀ = tileV W c := by
  rw [v1177_eq]
  exact sumB_congr _ c _ _ fun k hk => rsB_ne W c f₀ hk

/-- The outgoing blocks hold what the operands give. -/
def HS (W : Fill F) (c : Dev nD) (I : Inp F) : Prop := ∀ (k : Fin 16) r d, sbv I k (ix3 0 r d) = W.sb c (ix3 k r d)
/-- What is stored as the result tile is the result tile. -/
def HT (W : Fill F) (c : Dev nD) : Prop := ∀ (f₀ : S16x64x768.Idx → F .f32) i,
  k0_pay100 (V_v1050 W c f₀) (V_v1169 W c f₀) (Scalar.cmpi .eq (idx c) 15#32) (V_v1175 W c f₀) i = W.own c i

theorem HT_of (W : Fill F) (c : Dev nD) (h : tileV W c = W.own c) : HT W c := fun f₀ i => by
  have e : k0_pay100 (V_v1050 W c f₀) (V_v1169 W c f₀) (Scalar.cmpi .eq (idx c) 15#32) (V_v1175 W c f₀)
      = shapeCast S64x768 (V_v1177 W c f₀) shapeCasts_S64x768_S64x768 := rfl
  rw [e, shapeCast_self, v1177_tile, h]

theorem one_block (k : Fin 16) (g : S16x64x768.Idx → F .f32) (i : S64x768.Idx) :
    shapeCast S64x768 (blk k g) shapeCasts_S1x64x768_S64x768 i = g (ix3 k ⟨(i 0).val, (i 0).isLt⟩ ⟨(i 1).val, (i 1).isLt⟩) := by
  have hr : Shape.reshapeEquiv shapeCasts_S1x64x768_S64x768 i = (ix3 0 ⟨(i 0).val, (i 0).isLt⟩ ⟨(i 1).val, (i 1).isLt⟩ : S1x64x768.Idx) := by
    exact (congrArg (Shape.reshapeEquiv shapeCasts_S1x64x768_S64x768) (eq_ix2 i)).trans (reshapeEquiv_ix2_1ab shapeCasts_S1x64x768_S64x768 _ _)
  show blk k g (Shape.reshapeEquiv shapeCasts_S1x64x768_S64x768 i) = _
  rw [hr]
  rfl

/-- What is stored at device `k`'s rows of the result. -/
theorem out_val (W : Fill F) (c : Dev nD) (f₁ : S16x64x768.Idx → F .f32) (k : Fin 16) (i : S64x768.Idx) :
    (Scalar.select (Scalar.cmpi .eq (idx c) (BitVec.ofNat 32 k.val)) (W.own c) (shapeCast S64x768 (agB W c f₁ k) shapeCasts_S1x64x768_S64x768) :
      S64x768.Idx → F .f32) i = W.own k i := by
  by_cases hk : k = c
  · have e := (ceq k c).mpr hk
    rw [e, hk]; rfl
  · have e : Scalar.cmpi .eq (idx c) (BitVec.ofNat 32 k.val) = 0#1 := by
      have h := mt (ceq k c).mp hk
      revert h; generalize Scalar.cmpi .eq (idx c) (BitVec.ofNat 32 k.val) = b; revert b; decide
    rw [e]
    show shapeCast S64x768 (agB W c f₁ k) shapeCasts_S1x64x768_S64x768 i = _
    rw [agB_ne W c f₁ hk, one_block]
    refine congrArg (W.own k) ?_
    funext a
    fin_cases a <;> rfl

/-! ## A conditional operation, then the rest -/

theorem WP_if {α : Type} {c : Dev nD} {P : Prop} {iP : Decidable P} {e : P → TpuEff nD τ sig (Elt F) Λ₀ .tc PUnit} {kk : Prog (TpuEff nD τ sig (Elt F) Λ₀ .tc) α}
    {X : sProp (𝕄' F)} {Q : α → sProp (𝕄' F)}
    (h : X ⊢ WP c (if h : P then .op (e h) (fun _ => .ret ⟨⟩) else .ret ⟨⟩) (fun _ : PUnit => WP c kk Q)) :
    X ⊢ WP c (if h : P then .op (e h) (fun _ => kk) else kk) Q := by
  refine h.trans (Entails.of_eq ?_)
  rw [← WP_bind c _ (fun _ : PUnit => kk) Q]
  by_cases hP : P
  · rw [dif_pos hP, dif_pos hP]; rfl
  · rw [dif_neg hP, dif_neg hP]; rfl

theorem WP_done {α : Type} {c : Dev nD} {a : α} {X : sProp (𝕄' F)} {Q : α → sProp (𝕄' F)} (h : X ⊢ Q a) : X ⊢ WP c (.ret a) Q :=
  (h.trans fupd_intro).trans (Entails.of_eq (WP_ret c a Q).symm)

/-! ## Transitions -/

variable (W : Fill F) (K : GSem nD τ sig → ℕ) (c : Dev nD)
variable {J R : sProp (𝕄' F)}

/-- What the sends of the result tile need beside the tile. -/
def agPre : sProp (𝕄' F) :=
  iprop(OwesE c (agDue c 0) ∗ restP (turn c) 0 (agRes c) ∗ restP (Fin.val : Fin 15 → ℕ) 0 (fun i => dutyTok ER (agSC c i) 0 c))

theorem own_split : iprop(Ctx W K c ∗ J ∗ ownPt c fullShare (W.own c) ∗ agPre c ∗ R)
    ⊢ iprop(Ctx W K c ∗ J ∗ agSt W c 0 ∗ ownPt c (shareDrop fullShare 15) (W.own c) ∗ R) := by
  unfold agPre agSt
  rw [restP_zero (Fin.val : Fin 15 → ℕ), restP_zero (Fin.val : Fin 15 → ℕ), doneP_zero]
  iintro ⟨HC, HJ, Ho, ⟨HO, HS, HT⟩, HR⟩
  ihave Ho := (pointsTo_toks_split fullShare 15) $$ Ho
  icases Ho with ⟨Hd, Ho⟩
  isplitl [HC]; · iexact HC
  isplitl [HJ]; · iexact HJ
  isplitr [Hd HR]
  · isplitl [HO]; · iexact HO
    isplitl [HS]; · iexact HS
    isplitl [Ho HT]
    · have e : (bigSep Finset.univ fun i : Fin 15 => agLend W c i)
          = iprop((bigSep Finset.univ fun i : Fin 15 => ownPt c (shareTok fullShare 15 i) (W.own c)) ∗ bigSep Finset.univ fun i : Fin 15 => dutyTok ER (agSC c i) 0 c) := by
        unfold agLend
        exact bigSep_sep _ _ _
      iapply (Entails.of_eq e.symm)
      isplitl [Ho]; · iexact Ho
      iexact HT
    iempintro
  isplitl [Hd]; · iexact Hd
  iexact HR

theorem to_got (f₁ : S16x64x768.Idx → F .f32) : iprop(Ctx W K c ∗ J ∗ agSt W c 15 ∗ restP (Fin.val : Fin 16 → ℕ) 0 (agWait c f₁) ∗ outP c W 0 ∗ R)
    ⊢ iprop(Ctx W K c ∗ J ∗ gotSt W c f₁ 0 ∗ outP c W 0 ∗ doneP (Fin.val : Fin 15 → ℕ) 15 (agSent c) ∗ R) := by
  unfold agSt gotSt
  rw [agDue_end, doneP_zero (Fin.val : Fin 16 → ℕ)]
  iintro ⟨HC, HJ, ⟨HO, -, -, HD⟩, HW, HP, HR⟩
  isplitl [HC]; · iexact HC
  isplitl [HJ]; · iexact HJ
  isplitl [HO HW]
  · isplitl [HO]; · iexact HO
    isplitl [HW]; · iexact HW
    iempintro
  isplitl [HP]; · iexact HP
  isplitl [HD]; · iexact HD
  iexact HR

theorem to_back (f₁ : S16x64x768.Idx → F .f32) : iprop(Ctx W K c ∗ J ∗ gotSt W c f₁ 16 ∗ outP c W 16 ∗ restP (Fin.val : Fin 16 → ℕ) 0 (rsOwn c W) ∗ R)
    ⊢ iprop(Ctx W K c ∗ J ∗ backSt c W 0 ∗ outP c W 16 ∗ doneP (Fin.val : Fin 16 → ℕ) 16 (agGot W c f₁) ∗ R) := by
  unfold gotSt backSt
  rw [doneP_zero (Fin.val : Fin 16 → ℕ)]
  iintro ⟨HC, HJ, ⟨HO, -, HD⟩, HP, HW, HR⟩
  isplitl [HC]; · iexact HC
  isplitl [HJ]; · iexact HJ
  isplitl [HO HW]
  · isplitl [HO]; · iexact HO
    isplitl [HW]; · iexact HW
    iempintro
  isplitl [HP]; · iexact HP
  isplitl [HD]; · iexact HD
  iexact HR

theorem to_fin : iprop(Ctx W K c ∗ J ∗ backSt c W 16 ∗ restP (Fin.val : Fin 15 → ℕ) 0 (agOwn c) ∗ R)
    ⊢ iprop(Ctx W K c ∗ J ∗ finSt c W 0 ∗ doneP (Fin.val : Fin 16 → ℕ) 16 (rsBack c W) ∗ R) := by
  unfold backSt finSt
  rw [doneP_zero (Fin.val : Fin 15 → ℕ)]
  iintro ⟨HC, HJ, ⟨HO, -, HD⟩, HW, HR⟩
  isplitl [HC]; · iexact HC
  isplitl [HJ]; · iexact HJ
  isplitl [HO HW]
  · isplitl [HO]; · iexact HO
    isplitl [HW]; · iexact HW
    iempintro
  isplitl [HD]; · iexact HD
  iexact HR

end Cert.KernelIdeal.Mesh

end
-- ==== Proof.PartsA.lean ====
/-
  The pieces of the kernel numbered 1 to 9: each from the state it starts in to the state it leaves.
-/
module

public import proofs.«01_k».proof.Proof.Glue

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

attribute [local irreducible] wp

variable (W : Fill F) (K : GSem nD τ sig → ℕ) (c : Dev nD) (I : Inp F)
variable {J R X : sProp (𝕄' F)}

theorem part_1 {Q : (Σ' (_ : Dev nD) (_ : BitVec 32) (_ : Sems sig S_), BitVec 32) → sProp (𝕄' F)}
    (hk : iprop(Ctx W K c ∗ J ∗ sigSt c 7 ∗ R) ⊢ Q ⟨c, (idx c), (SemArray.scalar (sig.barrier 0 rfl) : Sems sig S_), (Scalar.muli 7#32 1#32)⟩) :
    iprop(Ctx W K c ∗ J ∗ sigSt c 0 ∗ R)
      ⊢ WP c (k0_part1 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 ) Q := by
  rw [k0_part1_eq_skeleton]
  unfold k0_part1_skel
  simp only [semSignalWord, semWaitWord, Prog.lift, Prog.bind_op, Prog.bind_ret, Prog.pure_eq_ret, wp_deviceId]
  refine step_signal W K c 0 rfl ?_
  refine step_signal W K c 1 rfl ?_
  refine step_signal W K c 2 rfl ?_
  refine step_signal W K c 3 rfl ?_
  refine step_signal W K c 4 rfl ?_
  refine step_signal W K c 5 rfl ?_
  refine step_signal W K c 6 rfl ?_
  refine WP_done ?_
  exact hk

theorem part_2 {Q : (PUnit) → sProp (𝕄' F)}
    (hk : iprop(Ctx W K c ∗ J ∗ sigSt c 16 ∗ R) ⊢ Q ⟨⟩) :
    iprop(Ctx W K c ∗ J ∗ sigSt c 7 ∗ R)
      ⊢ WP c (k0_part2 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (SemArray.scalar (sig.barrier 0 rfl) : Sems sig S_) (Scalar.muli 7#32 1#32)) Q := by
  rw [k0_part2_eq_skeleton]
  unfold k0_part2_skel
  simp only [semSignalWord, semWaitWord, Prog.lift, Prog.bind_op, Prog.bind_ret, Prog.pure_eq_ret, wp_deviceId]
  refine step_signal W K c 7 rfl ?_
  refine step_signal W K c 8 rfl ?_
  refine step_signal W K c 9 rfl ?_
  refine step_signal W K c 10 rfl ?_
  refine step_signal W K c 11 rfl ?_
  refine step_signal W K c 12 rfl ?_
  refine step_signal W K c 13 rfl ?_
  refine step_signal W K c 14 rfl ?_
  refine step_signal W K c 15 rfl ?_
  refine WP_done ?_
  exact hk

theorem part_3 {Q : (Σ' (_ : FVec F S256x768 .f32) (_ : IVec S256x512 1) (_ : FVec F S256x768 .f32), FVec F S256x512 .f32) → sProp (𝕄' F)}
    (hk : iprop(Ctx W K c ∗ inpPts c I ∗ barPost c ∗ R) ⊢ Q ⟨(V_v37 I), (V_v51 I), (V_v52 I), (V_v71 I)⟩) :
    iprop(Ctx W K c ∗ inpPts c I ∗ barPre c ∗ R)
      ⊢ WP c (k0_part3 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (SemArray.scalar (sig.barrier 0 rfl) : Sems sig S_)) Q := by
  rw [k0_part3_eq_skeleton]
  unfold k0_part3_skel
  simp only [semSignalWord, semWaitWord, Prog.lift, Prog.bind_op, Prog.bind_ret, Prog.pure_eq_ret, wp_deviceId]
  refine step_barrier W K c ?_
  refine step_ldX c I W K ?_
  refine step_ldQ c I W K ?_
  refine step_ldK c I W K ?_
  refine WP_done ?_
  exact hk

theorem part_4 {Q : (Σ' (_ : FVec F S256x768 .f32) (_ : FVec F S256x64 .f32) (_ : FVec F S64x768 .f32), FVec F S256x768 .f32) → sProp (𝕄' F)}
    (hk : iprop(Ctx W K c ∗ inpPts c I ∗ X ∗ R) ⊢ Q ⟨(V_v78 I), (V_v100 I), (V_v102 I), (V_cst_95 I)⟩) :
    iprop(Ctx W K c ∗ inpPts c I ∗ X ∗ R)
      ⊢ WP c (k0_part4 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (V_v37 I) (V_v51 I) (V_v52 I) (V_v71 I)) Q := by
  rw [k0_part4_eq_skeleton]
  unfold k0_part4_skel
  simp only [semSignalWord, semWaitWord, Prog.lift, Prog.bind_op, Prog.bind_ret, Prog.pure_eq_ret, wp_deviceId]
  refine step_ldV c I W K ?_
  refine step_ldO c I W K ?_
  refine step_ldQ c I W K ?_
  refine step_ldK c I W K ?_
  refine step_ldV c I W K ?_
  refine step_ldO c I W K ?_
  refine WP_done ?_
  exact hk

theorem part_5 {Q : (Σ' (_ : FVec F S256x768 .f32), FVec F S256x64 .f32) → sProp (𝕄' F)}
    (hk : iprop(Ctx W K c ∗ inpPts c I ∗ X ∗ R) ⊢ Q ⟨(V_v130 I), (V_v133 I)⟩) :
    iprop(Ctx W K c ∗ inpPts c I ∗ X ∗ R)
      ⊢ WP c (k0_part5 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (V_v37 I) (V_v51 I) (V_v78 I) (V_v100 I) (V_v102 I) (V_cst_95 I)) Q := by
  rw [k0_part5_eq_skeleton]
  unfold k0_part5_skel
  simp only [semSignalWord, semWaitWord, Prog.lift, Prog.bind_op, Prog.bind_ret, Prog.pure_eq_ret, wp_deviceId]
  refine step_ldQ c I W K ?_
  refine step_ldK c I W K ?_
  refine step_ldV c I W K ?_
  refine step_ldO c I W K ?_
  refine step_ldQ c I W K ?_
  refine WP_done ?_
  exact hk

theorem part_6 {Q : (Σ' (_ : FVec F S256x768 .f32), FVec F S256x512 .f32) → sProp (𝕄' F)}
    (hk : iprop(Ctx W K c ∗ inpPts c I ∗ X ∗ R) ⊢ Q ⟨(V_v156 I), (V_v166 I)⟩) :
    iprop(Ctx W K c ∗ inpPts c I ∗ X ∗ R)
      ⊢ WP c (k0_part6 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (V_v37 I) (V_v51 I) (V_v130 I) (V_v133 I)) Q := by
  rw [k0_part6_eq_skeleton]
  unfold k0_part6_skel
  simp only [semSignalWord, semWaitWord, Prog.lift, Prog.bind_op, Prog.bind_ret, Prog.pure_eq_ret, wp_deviceId]
  refine step_ldK c I W K ?_
  refine step_ldV c I W K ?_
  refine step_ldO c I W K ?_
  refine step_ldQ c I W K ?_
  refine step_ldK c I W K ?_
  refine WP_done ?_
  exact hk

theorem part_7 {Q : (Σ' (_ : FVec F S256x768 .f32), FVec F S256x512 .f32) → sProp (𝕄' F)}
    (hk : iprop(Ctx W K c ∗ inpPts c I ∗ X ∗ R) ⊢ Q ⟨(V_v182 I), (V_v201 I)⟩) :
    iprop(Ctx W K c ∗ inpPts c I ∗ X ∗ R)
      ⊢ WP c (k0_part7 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (V_v37 I) (V_v51 I) (V_v156 I) (V_v166 I)) Q := by
  rw [k0_part7_eq_skeleton]
  unfold k0_part7_skel
  simp only [semSignalWord, semWaitWord, Prog.lift, Prog.bind_op, Prog.bind_ret, Prog.pure_eq_ret, wp_deviceId]
  refine step_ldV c I W K ?_
  refine step_ldO c I W K ?_
  refine step_ldQ c I W K ?_
  refine step_ldK c I W K ?_
  refine WP_done ?_
  exact hk

theorem part_8 {Q : (Σ' (_ : FVec F S256x768 .f32) (_ : FVec F S256x64 .f32) (_ : FVec F S64x768 .f32), FVec F S256x768 .f32) → sProp (𝕄' F)}
    (hk : iprop(Ctx W K c ∗ inpPts c I ∗ X ∗ R) ⊢ Q ⟨(V_v208 I), (V_v230 I), (V_v232 I), (V_cst_200 I)⟩) :
    iprop(Ctx W K c ∗ inpPts c I ∗ X ∗ R)
      ⊢ WP c (k0_part8 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (V_v37 I) (V_v51 I) (V_v182 I) (V_v201 I)) Q := by
  rw [k0_part8_eq_skeleton]
  unfold k0_part8_skel
  simp only [semSignalWord, semWaitWord, Prog.lift, Prog.bind_op, Prog.bind_ret, Prog.pure_eq_ret, wp_deviceId]
  refine step_ldV c I W K ?_
  refine step_ldO c I W K ?_
  refine step_ldQ c I W K ?_
  refine step_ldK c I W K ?_
  refine step_ldV c I W K ?_
  refine step_ldO c I W K ?_
  refine WP_done ?_
  exact hk

theorem part_9 (hS : HS W c I) {Q : (Σ' (_ : FVec F S256x768 .f32), BitVec 1) → sProp (𝕄' F)}
    (hk : iprop(Ctx W K c ∗ inpPts c I ∗ sendMid W c 0 0 ∗ R) ⊢ Q ⟨(V_v260 I), (Scalar.cmpi .ne (idx c) 0#32)⟩) :
    iprop(Ctx W K c ∗ inpPts c I ∗ sendSt W c 0 ∗ R)
      ⊢ WP c (k0_part9 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (idx c) (V_v37 I) (V_v51 I) (V_v208 I) (V_v230 I) (V_v232 I) (V_cst_200 I)) Q := by
  rw [k0_part9_eq_skeleton]
  unfold k0_part9_skel
  simp only [semSignalWord, semWaitWord, Prog.lift, Prog.bind_op, Prog.bind_ret, Prog.pure_eq_ret, wp_deviceId]
  refine step_ldQ c I W K ?_
  refine step_ldK c I W K ?_
  refine step_ldV c I W K ?_
  refine step_ldO c I W K ?_
  refine step_put W K c 0 rfl (by exact hS 0) rfl rfl ?_
  refine WP_done ?_
  exact hk

end Cert.KernelIdeal.Mesh

end
-- ==== Proof.PartsB.lean ====
/-
  The pieces of the kernel numbered 10 to 18: each from the state it starts in to the state it leaves.
-/
module

public import proofs.«01_k».proof.Proof.Glue

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

attribute [local irreducible] wp

variable (W : Fill F) (K : GSem nD τ sig → ℕ) (c : Dev nD) (I : Inp F)
variable {J R X : sProp (𝕄' F)}

theorem part_10 (hS : HS W c I) {Q : (Σ' (_ : FVec F S256x768 .f32) (_ : IVec S256x512 32) (_ : IVec S256x512 32), IVec S256x512 1) → sProp (𝕄' F)}
    (hk : iprop(Ctx W K c ∗ inpPts c I ∗ sendSt W c 4 ∗ R) ⊢ Q ⟨(V_v290 I), (V_v293 I), (V_v294 I), (V_v298 I)⟩) :
    iprop(Ctx W K c ∗ inpPts c I ∗ sendMid W c 0 0 ∗ R)
      ⊢ WP c (k0_part10 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 c (idx c) (V_v260 I) (Scalar.cmpi .ne (idx c) 0#32)) Q := by
  rw [k0_part10_eq_skeleton]
  unfold k0_part10_skel
  simp -zetaHave only [semSignalWord, semWaitWord, Prog.lift, Prog.bind_op, Prog.bind_ret, Prog.pure_eq_ret, wp_deviceId]
  try beta_reduce
  try extract_lets
  refine WP_if ?_
  refine step_send W K c 0 rfl (by exact cne 0 c) rfl rfl (by exact off_sem c) (by exact off_blk c) rfl ?_
  refine step_put W K c 1 rfl (by exact hS 1) rfl rfl ?_
  try beta_reduce
  try extract_lets
  refine WP_if ?_
  refine step_send W K c 1 rfl (by exact cne 1 c) rfl rfl (by exact off_sem c) (by exact off_blk c) rfl ?_
  refine step_put W K c 2 rfl (by exact hS 2) rfl rfl ?_
  try beta_reduce
  try extract_lets
  refine WP_if ?_
  refine step_send W K c 2 rfl (by exact cne 2 c) rfl rfl (by exact off_sem c) (by exact off_blk c) rfl ?_
  refine step_put W K c 3 rfl (by exact hS 3) rfl rfl ?_
  try beta_reduce
  try extract_lets
  refine WP_if ?_
  refine step_send W K c 3 rfl (by exact cne 3 c) rfl rfl (by exact off_sem c) (by exact off_blk c) rfl ?_
  refine step_ldX c I W K ?_
  refine WP_done ?_
  exact hk

theorem part_11 {Q : (Σ' (_ : IVec S256x512 1), FVec F S256x768 .f32) → sProp (𝕄' F)}
    (hk : iprop(Ctx W K c ∗ inpPts c I ∗ X ∗ R) ⊢ Q ⟨(V_v304 I), (V_v331 I)⟩) :
    iprop(Ctx W K c ∗ inpPts c I ∗ X ∗ R)
      ⊢ WP c (k0_part11 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (V_v290 I) (V_v293 I) (V_v294 I) (V_v298 I)) Q := by
  rw [k0_part11_eq_skeleton]
  unfold k0_part11_skel
  simp only [semSignalWord, semWaitWord, Prog.lift, Prog.bind_op, Prog.bind_ret, Prog.pure_eq_ret, wp_deviceId]
  refine step_ldQ c I W K ?_
  refine step_ldK c I W K ?_
  refine step_ldV c I W K ?_
  refine step_ldO c I W K ?_
  refine WP_done ?_
  exact hk

theorem part_12 {Q : (Σ' (_ : FVec F S256x768 .f32) (_ : FVec F S256x64 .f32) (_ : FVec F S512x64 .f32), FVec F S256x512 .f32) → sProp (𝕄' F)}
    (hk : iprop(Ctx W K c ∗ inpPts c I ∗ X ∗ R) ⊢ Q ⟨(V_v357 I), (V_v360 I), (V_v362 I), (V_cst_299 I)⟩) :
    iprop(Ctx W K c ∗ inpPts c I ∗ X ∗ R)
      ⊢ WP c (k0_part12 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (V_v290 I) (V_v304 I) (V_v331 I)) Q := by
  rw [k0_part12_eq_skeleton]
  unfold k0_part12_skel
  simp only [semSignalWord, semWaitWord, Prog.lift, Prog.bind_op, Prog.bind_ret, Prog.pure_eq_ret, wp_deviceId]
  refine step_ldQ c I W K ?_
  refine step_ldK c I W K ?_
  refine step_ldV c I W K ?_
  refine step_ldO c I W K ?_
  refine step_ldQ c I W K ?_
  refine step_ldK c I W K ?_
  refine WP_done ?_
  exact hk

theorem part_13 {Q : (Σ' (_ : FVec F S256x768 .f32), FVec F S256x512 .f32) → sProp (𝕄' F)}
    (hk : iprop(Ctx W K c ∗ inpPts c I ∗ X ∗ R) ⊢ Q ⟨(V_v383 I), (V_v397 I)⟩) :
    iprop(Ctx W K c ∗ inpPts c I ∗ X ∗ R)
      ⊢ WP c (k0_part13 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (V_v290 I) (V_v304 I) (V_v357 I) (V_v360 I) (V_v362 I) (V_cst_299 I)) Q := by
  rw [k0_part13_eq_skeleton]
  unfold k0_part13_skel
  simp only [semSignalWord, semWaitWord, Prog.lift, Prog.bind_op, Prog.bind_ret, Prog.pure_eq_ret, wp_deviceId]
  refine step_ldV c I W K ?_
  refine step_ldO c I W K ?_
  refine step_ldQ c I W K ?_
  refine step_ldK c I W K ?_
  refine WP_done ?_
  exact hk

theorem part_14 {Q : (Σ' (_ : FVec F S256x768 .f32) (_ : FVec F S256x512 .f32), FVec F S512x64 .f32) → sProp (𝕄' F)}
    (hk : iprop(Ctx W K c ∗ inpPts c I ∗ X ∗ R) ⊢ Q ⟨(V_v409 I), (V_v428 I), (V_v430 I)⟩) :
    iprop(Ctx W K c ∗ inpPts c I ∗ X ∗ R)
      ⊢ WP c (k0_part14 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (V_v290 I) (V_v304 I) (V_v383 I) (V_v397 I)) Q := by
  rw [k0_part14_eq_skeleton]
  unfold k0_part14_skel
  simp only [semSignalWord, semWaitWord, Prog.lift, Prog.bind_op, Prog.bind_ret, Prog.pure_eq_ret, wp_deviceId]
  refine step_ldV c I W K ?_
  refine step_ldO c I W K ?_
  refine step_ldQ c I W K ?_
  refine step_ldK c I W K ?_
  refine step_ldV c I W K ?_
  refine WP_done ?_
  exact hk

theorem part_15 {Q : (FVec F S256x768 .f32) → sProp (𝕄' F)}
    (hk : iprop(Ctx W K c ∗ inpPts c I ∗ X ∗ R) ⊢ Q (V_v461 I)) :
    iprop(Ctx W K c ∗ inpPts c I ∗ X ∗ R)
      ⊢ WP c (k0_part15 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (V_v290 I) (V_v304 I) (V_v409 I) (V_v428 I) (V_v430 I)) Q := by
  rw [k0_part15_eq_skeleton]
  unfold k0_part15_skel
  simp only [semSignalWord, semWaitWord, Prog.lift, Prog.bind_op, Prog.bind_ret, Prog.pure_eq_ret, wp_deviceId]
  refine step_ldO c I W K ?_
  refine step_ldQ c I W K ?_
  refine step_ldK c I W K ?_
  refine step_ldV c I W K ?_
  refine step_ldO c I W K ?_
  refine WP_done ?_
  exact hk

theorem part_16 {Q : (Σ' (_ : FVec F S256x768 .f32) (_ : FVec F S256x64 .f32) (_ : FVec F S512x64 .f32), FVec F S256x512 .f32) → sProp (𝕄' F)}
    (hk : iprop(Ctx W K c ∗ inpPts c I ∗ X ∗ R) ⊢ Q ⟨(V_v487 I), (V_v490 I), (V_v492 I), (V_cst_409 I)⟩) :
    iprop(Ctx W K c ∗ inpPts c I ∗ X ∗ R)
      ⊢ WP c (k0_part16 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (V_v290 I) (V_v304 I) (V_v461 I)) Q := by
  rw [k0_part16_eq_skeleton]
  unfold k0_part16_skel
  simp only [semSignalWord, semWaitWord, Prog.lift, Prog.bind_op, Prog.bind_ret, Prog.pure_eq_ret, wp_deviceId]
  refine step_ldQ c I W K ?_
  refine step_ldK c I W K ?_
  refine step_ldV c I W K ?_
  refine step_ldO c I W K ?_
  refine step_ldQ c I W K ?_
  refine step_ldK c I W K ?_
  refine WP_done ?_
  exact hk

theorem part_17 (hS : HS W c I) {Q : (Σ' (_ : FVec F S256x768 .f32) (_ : BitVec 32), BitVec 32) → sProp (𝕄' F)}
    (hk : iprop(Ctx W K c ∗ inpPts c I ∗ sendMid W c 5 5 ∗ R) ⊢ Q ⟨(V_v513 I), (Scalar.extui (Scalar.cmpi .ne (idx c) 5#32)), 0#32⟩) :
    iprop(Ctx W K c ∗ inpPts c I ∗ sendSt W c 4 ∗ R)
      ⊢ WP c (k0_part17 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 c (idx c) (V_v304 I) (V_v487 I) (V_v490 I) (V_v492 I) (V_cst_409 I)) Q := by
  rw [k0_part17_eq_skeleton]
  unfold k0_part17_skel
  simp -zetaHave only [semSignalWord, semWaitWord, Prog.lift, Prog.bind_op, Prog.bind_ret, Prog.pure_eq_ret, wp_deviceId]
  refine step_ldV c I W K ?_
  refine step_ldO c I W K ?_
  refine step_put W K c 4 rfl (by exact hS 4) rfl rfl ?_
  try beta_reduce
  try extract_lets
  refine WP_if ?_
  refine step_send W K c 4 rfl (by exact cne 4 c) rfl rfl (by exact off_sem c) (by exact off_blk c) rfl ?_
  refine step_put W K c 5 rfl (by exact hS 5) rfl rfl ?_
  refine WP_done ?_
  exact hk

theorem part_18 (hS : HS W c I) {Q : (Σ' (_ : FVec F S256x768 .f32) (_ : IVec S256x512 1) (_ : FVec F S256x768 .f32) (_ : FVec F S768x64 .f32), FVec F S256x64 .f32) → sProp (𝕄' F)}
    (hk : iprop(Ctx W K c ∗ inpPts c I ∗ sendSt W c 8 ∗ R) ⊢ Q ⟨(V_v543 I), (V_v557 I), (V_v558 I), (V_v560 I), (V_cst_452 I)⟩) :
    iprop(Ctx W K c ∗ inpPts c I ∗ sendMid W c 5 5 ∗ R)
      ⊢ WP c (k0_part18 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 c (idx c) (V_v513 I) (Scalar.extui (Scalar.cmpi .ne (idx c) 5#32)) 0#32) Q := by
  rw [k0_part18_eq_skeleton]
  unfold k0_part18_skel
  simp -zetaHave only [semSignalWord, semWaitWord, Prog.lift, Prog.bind_op, Prog.bind_ret, Prog.pure_eq_ret, wp_deviceId]
  try beta_reduce
  try extract_lets
  refine WP_if ?_
  refine step_send W K c 5 rfl (by exact cne 5 c) rfl rfl (by exact off_sem c) (by exact off_blk c) rfl ?_
  refine step_put W K c 6 rfl (by exact hS 6) rfl rfl ?_
  try beta_reduce
  try extract_lets
  refine WP_if ?_
  refine step_send W K c 6 rfl (by exact cne 6 c) rfl rfl (by exact off_sem c) (by exact off_blk c) rfl ?_
  refine step_put W K c 7 rfl (by exact hS 7) rfl rfl ?_
  try beta_reduce
  try extract_lets
  refine WP_if ?_
  refine step_send W K c 7 rfl (by exact cne 7 c) rfl rfl (by exact off_sem c) (by exact off_blk c) rfl ?_
  refine step_ldX c I W K ?_
  refine step_ldQ c I W K ?_
  refine WP_done ?_
  exact hk

end Cert.KernelIdeal.Mesh

end
-- ==== Proof.PartsC.lean ====
/-
  The pieces of the kernel numbered 19 to 26: each from the state it starts in to the state it leaves.
-/
module

public import proofs.«01_k».proof.Proof.Glue

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

attribute [local irreducible] wp

variable (W : Fill F) (K : GSem nD τ sig → ℕ) (c : Dev nD) (I : Inp F)
variable {J R X : sProp (𝕄' F)}

theorem part_19 {Q : (Σ' (_ : FVec F S256x768 .f32), FVec F S256x512 .f32) → sProp (𝕄' F)}
    (hk : iprop(Ctx W K c ∗ inpPts c I ∗ X ∗ R) ⊢ Q ⟨(V_v584 I), (V_v592 I)⟩) :
    iprop(Ctx W K c ∗ inpPts c I ∗ X ∗ R)
      ⊢ WP c (k0_part19 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (V_v543 I) (V_v557 I) (V_v558 I) (V_v560 I) (V_cst_452 I)) Q := by
  rw [k0_part19_eq_skeleton]
  unfold k0_part19_skel
  simp only [semSignalWord, semWaitWord, Prog.lift, Prog.bind_op, Prog.bind_ret, Prog.pure_eq_ret, wp_deviceId]
  refine step_ldK c I W K ?_
  refine step_ldV c I W K ?_
  refine step_ldO c I W K ?_
  refine step_ldQ c I W K ?_
  refine step_ldK c I W K ?_
  refine WP_done ?_
  exact hk

theorem part_20 {Q : (Σ' (_ : FVec F S256x768 .f32) (_ : FVec F S256x512 .f32), FVec F S256x1 .f32) → sProp (𝕄' F)}
    (hk : iprop(Ctx W K c ∗ inpPts c I ∗ X ∗ R) ⊢ Q ⟨(V_v610 I), (V_v625 I), (V_v627 I)⟩) :
    iprop(Ctx W K c ∗ inpPts c I ∗ X ∗ R)
      ⊢ WP c (k0_part20 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (V_v543 I) (V_v557 I) (V_v584 I) (V_v592 I)) Q := by
  rw [k0_part20_eq_skeleton]
  unfold k0_part20_skel
  simp only [semSignalWord, semWaitWord, Prog.lift, Prog.bind_op, Prog.bind_ret, Prog.pure_eq_ret, wp_deviceId]
  refine step_ldV c I W K ?_
  refine step_ldO c I W K ?_
  refine step_ldQ c I W K ?_
  refine step_ldK c I W K ?_
  refine WP_done ?_
  exact hk

theorem part_21 {Q : (Σ' (_ : FVec F S256x768 .f32), FVec F S256x64 .f32) → sProp (𝕄' F)}
    (hk : iprop(Ctx W K c ∗ inpPts c I ∗ X ∗ R) ⊢ Q ⟨(V_v636 I), (V_v658 I)⟩) :
    iprop(Ctx W K c ∗ inpPts c I ∗ X ∗ R)
      ⊢ WP c (k0_part21 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (V_v543 I) (V_v557 I) (V_v610 I) (V_v625 I) (V_v627 I)) Q := by
  rw [k0_part21_eq_skeleton]
  unfold k0_part21_skel
  simp only [semSignalWord, semWaitWord, Prog.lift, Prog.bind_op, Prog.bind_ret, Prog.pure_eq_ret, wp_deviceId]
  refine step_ldV c I W K ?_
  refine step_ldO c I W K ?_
  refine step_ldQ c I W K ?_
  refine step_ldK c I W K ?_
  refine step_ldV c I W K ?_
  refine WP_done ?_
  exact hk

theorem part_22 {Q : (Σ' (_ : FVec F S256x768 .f32) (_ : FVec F S768x64 .f32), FVec F S256x64 .f32) → sProp (𝕄' F)}
    (hk : iprop(Ctx W K c ∗ inpPts c I ∗ X ∗ R) ⊢ Q ⟨(V_v688 I), (V_v690 I), (V_cst_562 I)⟩) :
    iprop(Ctx W K c ∗ inpPts c I ∗ X ∗ R)
      ⊢ WP c (k0_part22 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (V_v543 I) (V_v557 I) (V_v636 I) (V_v658 I)) Q := by
  rw [k0_part22_eq_skeleton]
  unfold k0_part22_skel
  simp only [semSignalWord, semWaitWord, Prog.lift, Prog.bind_op, Prog.bind_ret, Prog.pure_eq_ret, wp_deviceId]
  refine step_ldO c I W K ?_
  refine step_ldQ c I W K ?_
  refine step_ldK c I W K ?_
  refine step_ldV c I W K ?_
  refine step_ldO c I W K ?_
  refine step_ldQ c I W K ?_
  refine WP_done ?_
  exact hk

theorem part_23 {Q : (Σ' (_ : FVec F S256x768 .f32), FVec F S256x512 .f32) → sProp (𝕄' F)}
    (hk : iprop(Ctx W K c ∗ inpPts c I ∗ X ∗ R) ⊢ Q ⟨(V_v714 I), (V_v722 I)⟩) :
    iprop(Ctx W K c ∗ inpPts c I ∗ X ∗ R)
      ⊢ WP c (k0_part23 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (V_v543 I) (V_v557 I) (V_v688 I) (V_v690 I) (V_cst_562 I)) Q := by
  rw [k0_part23_eq_skeleton]
  unfold k0_part23_skel
  simp only [semSignalWord, semWaitWord, Prog.lift, Prog.bind_op, Prog.bind_ret, Prog.pure_eq_ret, wp_deviceId]
  refine step_ldK c I W K ?_
  refine step_ldV c I W K ?_
  refine step_ldO c I W K ?_
  refine step_ldQ c I W K ?_
  refine step_ldK c I W K ?_
  refine WP_done ?_
  exact hk

theorem part_24 {Q : (Σ' (_ : FVec F S256x768 .f32) (_ : FVec F S256x512 .f32), FVec F S256x1 .f32) → sProp (𝕄' F)}
    (hk : iprop(Ctx W K c ∗ inpPts c I ∗ X ∗ R) ⊢ Q ⟨(V_v740 I), (V_v755 I), (V_v757 I)⟩) :
    iprop(Ctx W K c ∗ inpPts c I ∗ X ∗ R)
      ⊢ WP c (k0_part24 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (V_v543 I) (V_v557 I) (V_v714 I) (V_v722 I)) Q := by
  rw [k0_part24_eq_skeleton]
  unfold k0_part24_skel
  simp only [semSignalWord, semWaitWord, Prog.lift, Prog.bind_op, Prog.bind_ret, Prog.pure_eq_ret, wp_deviceId]
  refine step_ldV c I W K ?_
  refine step_ldO c I W K ?_
  refine step_ldQ c I W K ?_
  refine step_ldK c I W K ?_
  refine WP_done ?_
  exact hk

theorem part_25 (hS : HS W c I) {Q : (FVec F S256x768 .f32) → sProp (𝕄' F)}
    (hk : iprop(Ctx W K c ∗ inpPts c I ∗ sendSt W c 11 ∗ R) ⊢ Q (V_v766 I)) :
    iprop(Ctx W K c ∗ inpPts c I ∗ sendSt W c 8 ∗ R)
      ⊢ WP c (k0_part25 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 c (idx c) (V_v740 I) (V_v755 I) (V_v757 I)) Q := by
  rw [k0_part25_eq_skeleton]
  unfold k0_part25_skel
  simp -zetaHave only [semSignalWord, semWaitWord, Prog.lift, Prog.bind_op, Prog.bind_ret, Prog.pure_eq_ret, wp_deviceId]
  refine step_ldV c I W K ?_
  refine step_ldO c I W K ?_
  refine step_put W K c 8 rfl (by exact hS 8) rfl rfl ?_
  try beta_reduce
  try extract_lets
  refine WP_if ?_
  refine step_send W K c 8 rfl (by exact cne 8 c) rfl rfl (by exact off_sem c) (by exact off_blk c) rfl ?_
  refine step_put W K c 9 rfl (by exact hS 9) rfl rfl ?_
  try beta_reduce
  try extract_lets
  refine WP_if ?_
  refine step_send W K c 9 rfl (by exact cne 9 c) rfl rfl (by exact off_sem c) (by exact off_blk c) rfl ?_
  refine step_put W K c 10 rfl (by exact hS 10) rfl rfl ?_
  try beta_reduce
  try extract_lets
  refine WP_if ?_
  refine step_send W K c 10 rfl (by exact cne 10 c) rfl rfl (by exact off_sem c) (by exact off_blk c) rfl ?_
  refine WP_done ?_
  exact hk

theorem part_26 (hS : HS W c I) {Q : (Σ' (_ : FVec F S256x768 .f32) (_ : IVec S256x512 1) (_ : FVec F S256x768 .f32), FVec F S256x512 .f32) → sProp (𝕄' F)}
    (hk : iprop(Ctx W K c ∗ inpPts c I ∗ sendSt W c 12 ∗ R) ⊢ Q ⟨(V_v796 I), (V_v810 I), (V_v811 I), (V_v821 I)⟩) :
    iprop(Ctx W K c ∗ inpPts c I ∗ sendSt W c 11 ∗ R)
      ⊢ WP c (k0_part26 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 c (idx c) (V_v766 I)) Q := by
  rw [k0_part26_eq_skeleton]
  unfold k0_part26_skel
  simp -zetaHave only [semSignalWord, semWaitWord, Prog.lift, Prog.bind_op, Prog.bind_ret, Prog.pure_eq_ret, wp_deviceId]
  refine step_put W K c 11 rfl (by exact hS 11) rfl rfl ?_
  try beta_reduce
  try extract_lets
  refine WP_if ?_
  refine step_send W K c 11 rfl (by exact cne 11 c) rfl rfl (by exact off_sem c) (by exact off_blk c) rfl ?_
  refine step_ldX c I W K ?_
  refine step_ldQ c I W K ?_
  refine step_ldK c I W K ?_
  refine WP_done ?_
  exact hk

end Cert.KernelIdeal.Mesh

end
-- ==== Proof.PartsD.lean ====
/-
  The pieces of the kernel numbered 27 to 33: each from the state it starts in to the state it leaves.
-/
module

public import proofs.«01_k».proof.Proof.Glue

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

attribute [local irreducible] wp

variable (W : Fill F) (K : GSem nD τ sig → ℕ) (c : Dev nD) (I : Inp F)
variable {J R X : sProp (𝕄' F)}

theorem part_27 {Q : (Σ' (_ : FVec F S256x768 .f32), FVec F S256x512 .f32) → sProp (𝕄' F)}
    (hk : iprop(Ctx W K c ∗ inpPts c I ∗ X ∗ R) ⊢ Q ⟨(V_v837 I), (V_v856 I)⟩) :
    iprop(Ctx W K c ∗ inpPts c I ∗ X ∗ R)
      ⊢ WP c (k0_part27 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (V_v796 I) (V_v810 I) (V_v811 I) (V_v821 I)) Q := by
  rw [k0_part27_eq_skeleton]
  unfold k0_part27_skel
  simp only [semSignalWord, semWaitWord, Prog.lift, Prog.bind_op, Prog.bind_ret, Prog.pure_eq_ret, wp_deviceId]
  refine step_ldV c I W K ?_
  refine step_ldO c I W K ?_
  refine step_ldQ c I W K ?_
  refine step_ldK c I W K ?_
  refine WP_done ?_
  exact hk

theorem part_28 {Q : (Σ' (_ : FVec F S256x768 .f32) (_ : FVec F S256x64 .f32) (_ : FVec F S64x768 .f32), FVec F S256x768 .f32) → sProp (𝕄' F)}
    (hk : iprop(Ctx W K c ∗ inpPts c I ∗ X ∗ R) ⊢ Q ⟨(V_v863 I), (V_v885 I), (V_v887 I), (V_cst_712 I)⟩) :
    iprop(Ctx W K c ∗ inpPts c I ∗ X ∗ R)
      ⊢ WP c (k0_part28 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (V_v796 I) (V_v810 I) (V_v837 I) (V_v856 I)) Q := by
  rw [k0_part28_eq_skeleton]
  unfold k0_part28_skel
  simp only [semSignalWord, semWaitWord, Prog.lift, Prog.bind_op, Prog.bind_ret, Prog.pure_eq_ret, wp_deviceId]
  refine step_ldV c I W K ?_
  refine step_ldO c I W K ?_
  refine step_ldQ c I W K ?_
  refine step_ldK c I W K ?_
  refine step_ldV c I W K ?_
  refine step_ldO c I W K ?_
  refine WP_done ?_
  exact hk

theorem part_29 {Q : (Σ' (_ : FVec F S256x768 .f32), FVec F S256x64 .f32) → sProp (𝕄' F)}
    (hk : iprop(Ctx W K c ∗ inpPts c I ∗ X ∗ R) ⊢ Q ⟨(V_v915 I), (V_v918 I)⟩) :
    iprop(Ctx W K c ∗ inpPts c I ∗ X ∗ R)
      ⊢ WP c (k0_part29 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (V_v796 I) (V_v810 I) (V_v863 I) (V_v885 I) (V_v887 I) (V_cst_712 I)) Q := by
  rw [k0_part29_eq_skeleton]
  unfold k0_part29_skel
  simp only [semSignalWord, semWaitWord, Prog.lift, Prog.bind_op, Prog.bind_ret, Prog.pure_eq_ret, wp_deviceId]
  refine step_ldQ c I W K ?_
  refine step_ldK c I W K ?_
  refine step_ldV c I W K ?_
  refine step_ldO c I W K ?_
  refine step_ldQ c I W K ?_
  refine WP_done ?_
  exact hk

theorem part_30 {Q : (Σ' (_ : FVec F S256x768 .f32), FVec F S256x512 .f32) → sProp (𝕄' F)}
    (hk : iprop(Ctx W K c ∗ inpPts c I ∗ X ∗ R) ⊢ Q ⟨(V_v941 I), (V_v951 I)⟩) :
    iprop(Ctx W K c ∗ inpPts c I ∗ X ∗ R)
      ⊢ WP c (k0_part30 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (V_v796 I) (V_v810 I) (V_v915 I) (V_v918 I)) Q := by
  rw [k0_part30_eq_skeleton]
  unfold k0_part30_skel
  simp only [semSignalWord, semWaitWord, Prog.lift, Prog.bind_op, Prog.bind_ret, Prog.pure_eq_ret, wp_deviceId]
  refine step_ldK c I W K ?_
  refine step_ldV c I W K ?_
  refine step_ldO c I W K ?_
  refine step_ldQ c I W K ?_
  refine step_ldK c I W K ?_
  refine WP_done ?_
  exact hk

theorem part_31 {Q : (Σ' (_ : FVec F S256x768 .f32), FVec F S256x512 .f32) → sProp (𝕄' F)}
    (hk : iprop(Ctx W K c ∗ inpPts c I ∗ X ∗ R) ⊢ Q ⟨(V_v967 I), (V_v986 I)⟩) :
    iprop(Ctx W K c ∗ inpPts c I ∗ X ∗ R)
      ⊢ WP c (k0_part31 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (V_v796 I) (V_v810 I) (V_v941 I) (V_v951 I)) Q := by
  rw [k0_part31_eq_skeleton]
  unfold k0_part31_skel
  simp only [semSignalWord, semWaitWord, Prog.lift, Prog.bind_op, Prog.bind_ret, Prog.pure_eq_ret, wp_deviceId]
  refine step_ldV c I W K ?_
  refine step_ldO c I W K ?_
  refine step_ldQ c I W K ?_
  refine step_ldK c I W K ?_
  refine WP_done ?_
  exact hk

theorem part_32 {Q : (Σ' (_ : FVec F S256x768 .f32) (_ : FVec F S256x64 .f32) (_ : FVec F S64x768 .f32), FVec F S256x768 .f32) → sProp (𝕄' F)}
    (hk : iprop(Ctx W K c ∗ inpPts c I ∗ X ∗ R) ⊢ Q ⟨(V_v993 I), (V_v1015 I), (V_v1017 I), (V_cst_822 I)⟩) :
    iprop(Ctx W K c ∗ inpPts c I ∗ X ∗ R)
      ⊢ WP c (k0_part32 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (V_v796 I) (V_v810 I) (V_v967 I) (V_v986 I)) Q := by
  rw [k0_part32_eq_skeleton]
  unfold k0_part32_skel
  simp only [semSignalWord, semWaitWord, Prog.lift, Prog.bind_op, Prog.bind_ret, Prog.pure_eq_ret, wp_deviceId]
  refine step_ldV c I W K ?_
  refine step_ldO c I W K ?_
  refine step_ldQ c I W K ?_
  refine step_ldK c I W K ?_
  refine step_ldV c I W K ?_
  refine step_ldO c I W K ?_
  refine WP_done ?_
  exact hk

theorem part_33 (hS : HS W c I) {Q : (PUnit) → sProp (𝕄' F)}
    (hk : iprop(Ctx W K c ∗ inpPts c I ∗ sendSt W c 16 ∗ R) ⊢ Q ⟨⟩) :
    iprop(Ctx W K c ∗ inpPts c I ∗ sendSt W c 12 ∗ R)
      ⊢ WP c (k0_part33 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 c (idx c) (V_v993 I) (V_v1015 I) (V_v1017 I) (V_cst_822 I)) Q := by
  rw [k0_part33_eq_skeleton]
  unfold k0_part33_skel
  simp -zetaHave only [semSignalWord, semWaitWord, Prog.lift, Prog.bind_op, Prog.bind_ret, Prog.pure_eq_ret, wp_deviceId]
  refine step_put W K c 12 rfl (by exact hS 12) rfl rfl ?_
  try beta_reduce
  try extract_lets
  refine WP_if ?_
  refine step_send W K c 12 rfl (by exact cne 12 c) rfl rfl (by exact off_sem c) (by exact off_blk c) rfl ?_
  refine step_put W K c 13 rfl (by exact hS 13) rfl rfl ?_
  try beta_reduce
  try extract_lets
  refine WP_if ?_
  refine step_send W K c 13 rfl (by exact cne 13 c) rfl rfl (by exact off_sem c) (by exact off_blk c) rfl ?_
  refine step_put W K c 14 rfl (by exact hS 14) rfl rfl ?_
  try beta_reduce
  try extract_lets
  refine WP_if ?_
  refine step_send W K c 14 rfl (by exact cne 14 c) rfl rfl (by exact off_sem c) (by exact off_blk c) rfl ?_
  refine step_put W K c 15 rfl (by exact hS 15) rfl rfl ?_
  try beta_reduce
  try extract_lets
  refine WP_if ?_
  refine step_send W K c 15 rfl (by exact cne 15 c) rfl rfl (by exact off_sem c) (by exact off_blk c) rfl ?_
  refine WP_done ?_
  exact hk

end Cert.KernelIdeal.Mesh

end
-- ==== Proof.PartsE.lean ====
/-
  The pieces of the kernel numbered 34 to 38: each from the state it starts in to the state it leaves.
-/
module

public import proofs.«01_k».proof.Proof.Glue

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

attribute [local irreducible] wp

variable (W : Fill F) (K : GSem nD τ sig → ℕ) (c : Dev nD) (I : Inp F)
variable {J R X : sProp (𝕄' F)}

theorem part_34 (f₀ : S16x64x768.Idx → F .f32) {Q : (Σ' (_ : FVec F S64x768 .f32) (_ : FVec F S64x768 .f32) (_ : BitVec 1), FVec F S64x768 .f32) → sProp (𝕄' F)}
    (hk : iprop(Ctx W K c ∗ J ∗ recvSt W c f₀ 4 ∗ sbPt c c (W.sb c) ∗ R) ⊢ Q ⟨(V_v1050 W c f₀), (V_v1073 W c f₀), (Scalar.cmpi .eq (idx c) 3#32), (V_v1079 W c f₀)⟩) :
    iprop(Ctx W K c ∗ J ∗ recvSt W c f₀ 0 ∗ sbPt c c (W.sb c) ∗ R)
      ⊢ WP c (k0_part34 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 c (idx c)) Q := by
  rw [k0_part34_eq_skeleton]
  unfold k0_part34_skel
  simp -zetaHave only [semSignalWord, semWaitWord, Prog.lift, Prog.bind_op, Prog.bind_ret, Prog.pure_eq_ret, wp_deviceId]
  refine step_own W K c (by exact off_own c) ?_
  try beta_reduce
  try extract_lets
  refine WP_if ?_
  refine step_recv W K c f₀ 0 rfl (by exact cne 0 c) (by exact rfl) (by exact rfl) ?_
  refine step_read W K c f₀ 0 rfl rfl ?_
  try beta_reduce
  try extract_lets
  refine WP_if ?_
  refine step_recv W K c f₀ 1 rfl (by exact cne 1 c) (by exact rfl) (by exact rfl) ?_
  refine step_read W K c f₀ 1 rfl rfl ?_
  try beta_reduce
  try extract_lets
  refine WP_if ?_
  refine step_recv W K c f₀ 2 rfl (by exact cne 2 c) (by exact rfl) (by exact rfl) ?_
  refine step_read W K c f₀ 2 rfl rfl ?_
  try beta_reduce
  try extract_lets
  refine WP_if ?_
  refine step_recv W K c f₀ 3 rfl (by exact cne 3 c) (by exact rfl) (by exact rfl) ?_
  refine step_read W K c f₀ 3 rfl rfl ?_
  refine WP_done ?_
  exact hk

theorem part_35 (f₀ : S16x64x768.Idx → F .f32) {Q : (Σ' (_ : FVec F S64x768 .f32) (_ : BitVec 1), FVec F S64x768 .f32) → sProp (𝕄' F)}
    (hk : iprop(Ctx W K c ∗ J ∗ recvSt W c f₀ 8 ∗ R) ⊢ Q ⟨(V_v1105 W c f₀), (Scalar.cmpi .eq (idx c) 7#32), (V_v1111 W c f₀)⟩) :
    iprop(Ctx W K c ∗ J ∗ recvSt W c f₀ 4 ∗ R)
      ⊢ WP c (k0_part35 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (idx c) (V_v1050 W c f₀) (V_v1073 W c f₀) (Scalar.cmpi .eq (idx c) 3#32) (V_v1079 W c f₀)) Q := by
  rw [k0_part35_eq_skeleton]
  unfold k0_part35_skel
  simp -zetaHave only [semSignalWord, semWaitWord, Prog.lift, Prog.bind_op, Prog.bind_ret, Prog.pure_eq_ret, wp_deviceId]
  try beta_reduce
  try extract_lets
  refine WP_if ?_
  refine step_recv W K c f₀ 4 rfl (by exact cne 4 c) (by exact rfl) (by exact rfl) ?_
  refine step_read W K c f₀ 4 rfl rfl ?_
  try beta_reduce
  try extract_lets
  refine WP_if ?_
  refine step_recv W K c f₀ 5 rfl (by exact cne 5 c) (by exact rfl) (by exact rfl) ?_
  refine step_read W K c f₀ 5 rfl rfl ?_
  try beta_reduce
  try extract_lets
  refine WP_if ?_
  refine step_recv W K c f₀ 6 rfl (by exact cne 6 c) (by exact rfl) (by exact rfl) ?_
  refine step_read W K c f₀ 6 rfl rfl ?_
  try beta_reduce
  try extract_lets
  refine WP_if ?_
  refine step_recv W K c f₀ 7 rfl (by exact cne 7 c) (by exact rfl) (by exact rfl) ?_
  refine step_read W K c f₀ 7 rfl rfl ?_
  refine WP_done ?_
  exact hk

theorem part_36 (f₀ : S16x64x768.Idx → F .f32) {Q : (Σ' (_ : FVec F S64x768 .f32) (_ : BitVec 1), FVec F S64x768 .f32) → sProp (𝕄' F)}
    (hk : iprop(Ctx W K c ∗ J ∗ recvSt W c f₀ 12 ∗ R) ⊢ Q ⟨(V_v1137 W c f₀), (Scalar.cmpi .eq (idx c) 11#32), (V_v1143 W c f₀)⟩) :
    iprop(Ctx W K c ∗ J ∗ recvSt W c f₀ 8 ∗ R)
      ⊢ WP c (k0_part36 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (idx c) (V_v1050 W c f₀) (V_v1105 W c f₀) (Scalar.cmpi .eq (idx c) 7#32) (V_v1111 W c f₀)) Q := by
  rw [k0_part36_eq_skeleton]
  unfold k0_part36_skel
  simp -zetaHave only [semSignalWord, semWaitWord, Prog.lift, Prog.bind_op, Prog.bind_ret, Prog.pure_eq_ret, wp_deviceId]
  try beta_reduce
  try extract_lets
  refine WP_if ?_
  refine step_recv W K c f₀ 8 rfl (by exact cne 8 c) (by exact rfl) (by exact rfl) ?_
  refine step_read W K c f₀ 8 rfl rfl ?_
  try beta_reduce
  try extract_lets
  refine WP_if ?_
  refine step_recv W K c f₀ 9 rfl (by exact cne 9 c) (by exact rfl) (by exact rfl) ?_
  refine step_read W K c f₀ 9 rfl rfl ?_
  try beta_reduce
  try extract_lets
  refine WP_if ?_
  refine step_recv W K c f₀ 10 rfl (by exact cne 10 c) (by exact rfl) (by exact rfl) ?_
  refine step_read W K c f₀ 10 rfl rfl ?_
  try beta_reduce
  try extract_lets
  refine WP_if ?_
  refine step_recv W K c f₀ 11 rfl (by exact cne 11 c) (by exact rfl) (by exact rfl) ?_
  refine step_read W K c f₀ 11 rfl rfl ?_
  refine WP_done ?_
  exact hk

theorem part_37 (f₀ : S16x64x768.Idx → F .f32) {Q : (Σ' (_ : FVec F S64x768 .f32) (_ : BitVec 1), FVec F S64x768 .f32) → sProp (𝕄' F)}
    (hk : iprop(Ctx W K c ∗ J ∗ recvSt W c f₀ 16 ∗ R) ⊢ Q ⟨(V_v1169 W c f₀), (Scalar.cmpi .eq (idx c) 15#32), (V_v1175 W c f₀)⟩) :
    iprop(Ctx W K c ∗ J ∗ recvSt W c f₀ 12 ∗ R)
      ⊢ WP c (k0_part37 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (idx c) (V_v1050 W c f₀) (V_v1137 W c f₀) (Scalar.cmpi .eq (idx c) 11#32) (V_v1143 W c f₀)) Q := by
  rw [k0_part37_eq_skeleton]
  unfold k0_part37_skel
  simp -zetaHave only [semSignalWord, semWaitWord, Prog.lift, Prog.bind_op, Prog.bind_ret, Prog.pure_eq_ret, wp_deviceId]
  try beta_reduce
  try extract_lets
  refine WP_if ?_
  refine step_recv W K c f₀ 12 rfl (by exact cne 12 c) (by exact rfl) (by exact rfl) ?_
  refine step_read W K c f₀ 12 rfl rfl ?_
  try beta_reduce
  try extract_lets
  refine WP_if ?_
  refine step_recv W K c f₀ 13 rfl (by exact cne 13 c) (by exact rfl) (by exact rfl) ?_
  refine step_read W K c f₀ 13 rfl rfl ?_
  try beta_reduce
  try extract_lets
  refine WP_if ?_
  refine step_recv W K c f₀ 14 rfl (by exact cne 14 c) (by exact rfl) (by exact rfl) ?_
  refine step_read W K c f₀ 14 rfl rfl ?_
  try beta_reduce
  try extract_lets
  refine WP_if ?_
  refine step_recv W K c f₀ 15 rfl (by exact cne 15 c) (by exact rfl) (by exact rfl) ?_
  refine step_read W K c f₀ 15 rfl rfl ?_
  refine WP_done ?_
  exact hk

theorem part_38 (f₀ : S16x64x768.Idx → F .f32) (hT0 : HT W c) (hT : V_v1177 W c f₀ = W.own c) {Q : (FVec F S64x768 .f32) → sProp (𝕄' F)}
    (hk : iprop(Ctx W K c ∗ J ∗ agSt W c 2 ∗ ownPt c (shareDrop fullShare 15) (W.own c) ∗ R) ⊢ Q (W.own c)) :
    iprop(Ctx W K c ∗ J ∗ (∃ f, ownPt c fullShare f) ∗ agPre c ∗ R)
      ⊢ WP c (k0_part38 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 c (idx c) (V_v1050 W c f₀) (V_v1169 W c f₀) (Scalar.cmpi .eq (idx c) 15#32) (V_v1175 W c f₀)) Q := by
  rw [k0_part38_eq_skeleton]
  unfold k0_part38_skel
  simp only [semSignalWord, semWaitWord, Prog.lift, Prog.bind_op, Prog.bind_ret, Prog.pure_eq_ret, wp_deviceId]
  refine step_tile W K c (by exact hT0 f₀) rfl rfl ?_
  refine (own_split W K c).trans ?_
  refine step_gather W K c 0 rfl rfl (by exact off_agS c) (by exact off_agB c) (dev_0 c) ?_
  refine step_gather W K c 1 rfl rfl (by exact off_agS c) (by exact off_agB c) (dev_1 c) ?_
  refine WP_done ?_
  exact hk.trans (Entails.of_eq (congrArg Q hT.symm))

end Cert.KernelIdeal.Mesh

end
-- ==== Proof.PartsF.lean ====
/-
  The pieces of the kernel numbered 39 to 44: each from the state it starts in to the state it leaves.
-/
module

public import proofs.«01_k».proof.Proof.Glue

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

attribute [local irreducible] wp

variable (W : Fill F) (K : GSem nD τ sig → ℕ) (c : Dev nD) (I : Inp F)
variable {J R X : sProp (𝕄' F)}

theorem part_39 {Q : (BitVec 32) → sProp (𝕄' F)}
    (hk : iprop(Ctx W K c ∗ J ∗ agSt W c 6 ∗ R) ⊢ Q (Scalar.remsi (Scalar.addi (idx c) 7#32) 16#32)) :
    iprop(Ctx W K c ∗ J ∗ agSt W c 2 ∗ R)
      ⊢ WP c (k0_part39 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 c (idx c)) Q := by
  rw [k0_part39_eq_skeleton]
  unfold k0_part39_skel
  simp only [semSignalWord, semWaitWord, Prog.lift, Prog.bind_op, Prog.bind_ret, Prog.pure_eq_ret, wp_deviceId]
  refine step_gather W K c 2 rfl rfl (by exact off_agS c) (by exact off_agB c) (dev_2 c) ?_
  refine step_gather W K c 3 rfl rfl (by exact off_agS c) (by exact off_agB c) (dev_3 c) ?_
  refine step_gather W K c 4 rfl rfl (by exact off_agS c) (by exact off_agB c) (dev_4 c) ?_
  refine step_gather W K c 5 rfl rfl (by exact off_agS c) (by exact off_agB c) (dev_5 c) ?_
  refine WP_done ?_
  exact hk

theorem part_40 {Q : (PUnit) → sProp (𝕄' F)}
    (hk : iprop(Ctx W K c ∗ J ∗ agSt W c 9 ∗ R) ⊢ Q ⟨⟩) :
    iprop(Ctx W K c ∗ J ∗ agSt W c 6 ∗ R)
      ⊢ WP c (k0_part40 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 c (idx c) (Scalar.remsi (Scalar.addi (idx c) 7#32) 16#32)) Q := by
  rw [k0_part40_eq_skeleton]
  unfold k0_part40_skel
  simp only [semSignalWord, semWaitWord, Prog.lift, Prog.bind_op, Prog.bind_ret, Prog.pure_eq_ret, wp_deviceId]
  refine step_gather W K c 6 rfl rfl (by exact off_agS c) (by exact off_agB c) (dev_6 c) ?_
  refine step_gather W K c 7 rfl rfl (by exact off_agS c) (by exact off_agB c) (dev_7 c) ?_
  refine step_gather W K c 8 rfl rfl (by exact off_agS c) (by exact off_agB c) (dev_8 c) ?_
  refine WP_done ?_
  exact hk

theorem part_41 {Q : (PUnit) → sProp (𝕄' F)}
    (hk : iprop(Ctx W K c ∗ J ∗ agSt W c 12 ∗ R) ⊢ Q ⟨⟩) :
    iprop(Ctx W K c ∗ J ∗ agSt W c 9 ∗ R)
      ⊢ WP c (k0_part41 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 c (idx c)) Q := by
  rw [k0_part41_eq_skeleton]
  unfold k0_part41_skel
  simp only [semSignalWord, semWaitWord, Prog.lift, Prog.bind_op, Prog.bind_ret, Prog.pure_eq_ret, wp_deviceId]
  refine step_gather W K c 9 rfl rfl (by exact off_agS c) (by exact off_agB c) (dev_9 c) ?_
  refine step_gather W K c 10 rfl rfl (by exact off_agS c) (by exact off_agB c) (dev_10 c) ?_
  refine step_gather W K c 11 rfl rfl (by exact off_agS c) (by exact off_agB c) (dev_11 c) ?_
  refine WP_done ?_
  exact hk

theorem part_42 (f₁ : S16x64x768.Idx → F .f32) {Q : (Σ' (_ : BitVec 32), BitVec 32) → sProp (𝕄' F)}
    (hk : iprop(Ctx W K c ∗ J ∗ gotSt W c f₁ 1 ∗ outP c W 1 ∗ doneP (Fin.val : Fin 15 → ℕ) 15 (agSent c) ∗ R) ⊢ Q ⟨(Scalar.extui (Scalar.cmpi .ne (idx c) 1#32)), 0#32⟩) :
    iprop(Ctx W K c ∗ J ∗ agSt W c 12 ∗ restP (Fin.val : Fin 16 → ℕ) 0 (agWait c f₁) ∗ outP c W 0 ∗ R)
      ⊢ WP c (k0_part42 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 c (idx c) (W.own c)) Q := by
  rw [k0_part42_eq_skeleton]
  unfold k0_part42_skel
  simp -zetaHave only [semSignalWord, semWaitWord, Prog.lift, Prog.bind_op, Prog.bind_ret, Prog.pure_eq_ret, wp_deviceId]
  refine step_gather W K c 12 rfl rfl (by exact off_agS c) (by exact off_agB c) (dev_12 c) ?_
  refine step_gather W K c 13 rfl rfl (by exact off_agS c) (by exact off_agB c) (dev_13 c) ?_
  refine step_gather W K c 14 rfl rfl (by exact off_agS c) (by exact off_agB c) (dev_14 c) ?_
  refine (to_got W K c f₁).trans ?_
  try beta_reduce
  try extract_lets
  refine WP_if ?_
  refine step_got W K c f₁ 0 rfl (by exact cne 0 c) (by exact rfl) (by exact rfl) ?_
  refine step_look W K c f₁ 0 rfl rfl ?_
  refine step_out c W K 0 rfl (by exact out_val W c f₁ 0) rfl rfl ?_
  refine WP_done ?_
  exact hk

theorem part_43 (f₁ : S16x64x768.Idx → F .f32) {Q : (BitVec 1) → sProp (𝕄' F)}
    (hk : iprop(Ctx W K c ∗ J ∗ gotMid W c f₁ 4 4 ∗ outP c W 4 ∗ R) ⊢ Q (Scalar.cmpi .eq (idx c) 4#32)) :
    iprop(Ctx W K c ∗ J ∗ gotSt W c f₁ 1 ∗ outP c W 1 ∗ R)
      ⊢ WP c (k0_part43 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (idx c) (W.own c) (Scalar.extui (Scalar.cmpi .ne (idx c) 1#32)) 0#32) Q := by
  rw [k0_part43_eq_skeleton]
  unfold k0_part43_skel
  simp -zetaHave only [semSignalWord, semWaitWord, Prog.lift, Prog.bind_op, Prog.bind_ret, Prog.pure_eq_ret, wp_deviceId]
  try beta_reduce
  try extract_lets
  refine WP_if ?_
  refine step_got W K c f₁ 1 rfl (by exact cne 1 c) (by exact rfl) (by exact rfl) ?_
  refine step_look W K c f₁ 1 rfl rfl ?_
  refine step_out c W K 1 rfl (by exact out_val W c f₁ 1) rfl rfl ?_
  try beta_reduce
  try extract_lets
  refine WP_if ?_
  refine step_got W K c f₁ 2 rfl (by exact cne 2 c) (by exact rfl) (by exact rfl) ?_
  refine step_look W K c f₁ 2 rfl rfl ?_
  refine step_out c W K 2 rfl (by exact out_val W c f₁ 2) rfl rfl ?_
  try beta_reduce
  try extract_lets
  refine WP_if ?_
  refine step_got W K c f₁ 3 rfl (by exact cne 3 c) (by exact rfl) (by exact rfl) ?_
  refine step_look W K c f₁ 3 rfl rfl ?_
  refine step_out c W K 3 rfl (by exact out_val W c f₁ 3) rfl rfl ?_
  try beta_reduce
  try extract_lets
  refine WP_if ?_
  refine step_got W K c f₁ 4 rfl (by exact cne 4 c) (by exact rfl) (by exact rfl) ?_
  refine WP_done ?_
  exact hk

theorem part_44 (f₁ : S16x64x768.Idx → F .f32) {Q : (FVec F S64x768 .f32) → sProp (𝕄' F)}
    (hk : iprop(Ctx W K c ∗ J ∗ gotSt W c f₁ 8 ∗ outP c W 7 ∗ R) ⊢ Q (k0_pay108 (idx c) (W.own c) (agB W c f₁ 7))) :
    iprop(Ctx W K c ∗ J ∗ gotMid W c f₁ 4 4 ∗ outP c W 4 ∗ R)
      ⊢ WP c (k0_part44 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (idx c) (W.own c) (Scalar.cmpi .eq (idx c) 4#32)) Q := by
  rw [k0_part44_eq_skeleton]
  unfold k0_part44_skel
  simp -zetaHave only [semSignalWord, semWaitWord, Prog.lift, Prog.bind_op, Prog.bind_ret, Prog.pure_eq_ret, wp_deviceId]
  refine step_look W K c f₁ 4 rfl rfl ?_
  refine step_out c W K 4 rfl (by exact out_val W c f₁ 4) rfl rfl ?_
  try beta_reduce
  try extract_lets
  refine WP_if ?_
  refine step_got W K c f₁ 5 rfl (by exact cne 5 c) (by exact rfl) (by exact rfl) ?_
  refine step_look W K c f₁ 5 rfl rfl ?_
  refine step_out c W K 5 rfl (by exact out_val W c f₁ 5) rfl rfl ?_
  try beta_reduce
  try extract_lets
  refine WP_if ?_
  refine step_got W K c f₁ 6 rfl (by exact cne 6 c) (by exact rfl) (by exact rfl) ?_
  refine step_look W K c f₁ 6 rfl rfl ?_
  refine step_out c W K 6 rfl (by exact out_val W c f₁ 6) rfl rfl ?_
  try beta_reduce
  try extract_lets
  refine WP_if ?_
  refine step_got W K c f₁ 7 rfl (by exact cne 7 c) (by exact rfl) (by exact rfl) ?_
  refine step_look W K c f₁ 7 rfl rfl ?_
  refine WP_done ?_
  exact hk

end Cert.KernelIdeal.Mesh

end
-- ==== Proof.PartsG.lean ====
/-
  The pieces of the kernel numbered 45 to 51: each from the state it starts in to the state it leaves.
-/
module

public import proofs.«01_k».proof.Proof.Glue

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

attribute [local irreducible] wp

variable (W : Fill F) (K : GSem nD τ sig → ℕ) (c : Dev nD) (I : Inp F)
variable {J R X : sProp (𝕄' F)}

theorem part_45 (f₁ : S16x64x768.Idx → F .f32) {Q : (Σ' (_ : BitVec 32), BitVec 32) → sProp (𝕄' F)}
    (hk : iprop(Ctx W K c ∗ J ∗ gotSt W c f₁ 11 ∗ outP c W 11 ∗ R) ⊢ Q ⟨(Scalar.extui (Scalar.cmpi .ne (idx c) 11#32)), 0#32⟩) :
    iprop(Ctx W K c ∗ J ∗ gotSt W c f₁ 8 ∗ outP c W 7 ∗ R)
      ⊢ WP c (k0_part45 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (idx c) (W.own c) (k0_pay108 (idx c) (W.own c) (agB W c f₁ 7))) Q := by
  rw [k0_part45_eq_skeleton]
  unfold k0_part45_skel
  simp -zetaHave only [semSignalWord, semWaitWord, Prog.lift, Prog.bind_op, Prog.bind_ret, Prog.pure_eq_ret, wp_deviceId]
  refine step_out c W K 7 rfl (by exact out_val W c f₁ 7) rfl rfl ?_
  try beta_reduce
  try extract_lets
  refine WP_if ?_
  refine step_got W K c f₁ 8 rfl (by exact cne 8 c) (by exact rfl) (by exact rfl) ?_
  refine step_look W K c f₁ 8 rfl rfl ?_
  refine step_out c W K 8 rfl (by exact out_val W c f₁ 8) rfl rfl ?_
  try beta_reduce
  try extract_lets
  refine WP_if ?_
  refine step_got W K c f₁ 9 rfl (by exact cne 9 c) (by exact rfl) (by exact rfl) ?_
  refine step_look W K c f₁ 9 rfl rfl ?_
  refine step_out c W K 9 rfl (by exact out_val W c f₁ 9) rfl rfl ?_
  try beta_reduce
  try extract_lets
  refine WP_if ?_
  refine step_got W K c f₁ 10 rfl (by exact cne 10 c) (by exact rfl) (by exact rfl) ?_
  refine step_look W K c f₁ 10 rfl rfl ?_
  refine step_out c W K 10 rfl (by exact out_val W c f₁ 10) rfl rfl ?_
  refine WP_done ?_
  exact hk

theorem part_46 (f₁ : S16x64x768.Idx → F .f32) {Q : (BitVec 1) → sProp (𝕄' F)}
    (hk : iprop(Ctx W K c ∗ J ∗ gotMid W c f₁ 14 14 ∗ outP c W 14 ∗ R) ⊢ Q (Scalar.cmpi .eq (idx c) 14#32)) :
    iprop(Ctx W K c ∗ J ∗ gotSt W c f₁ 11 ∗ outP c W 11 ∗ R)
      ⊢ WP c (k0_part46 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (idx c) (W.own c) (Scalar.extui (Scalar.cmpi .ne (idx c) 11#32)) 0#32) Q := by
  rw [k0_part46_eq_skeleton]
  unfold k0_part46_skel
  simp -zetaHave only [semSignalWord, semWaitWord, Prog.lift, Prog.bind_op, Prog.bind_ret, Prog.pure_eq_ret, wp_deviceId]
  try beta_reduce
  try extract_lets
  refine WP_if ?_
  refine step_got W K c f₁ 11 rfl (by exact cne 11 c) (by exact rfl) (by exact rfl) ?_
  refine step_look W K c f₁ 11 rfl rfl ?_
  refine step_out c W K 11 rfl (by exact out_val W c f₁ 11) rfl rfl ?_
  try beta_reduce
  try extract_lets
  refine WP_if ?_
  refine step_got W K c f₁ 12 rfl (by exact cne 12 c) (by exact rfl) (by exact rfl) ?_
  refine step_look W K c f₁ 12 rfl rfl ?_
  refine step_out c W K 12 rfl (by exact out_val W c f₁ 12) rfl rfl ?_
  try beta_reduce
  try extract_lets
  refine WP_if ?_
  refine step_got W K c f₁ 13 rfl (by exact cne 13 c) (by exact rfl) (by exact rfl) ?_
  refine step_look W K c f₁ 13 rfl rfl ?_
  refine step_out c W K 13 rfl (by exact out_val W c f₁ 13) rfl rfl ?_
  try beta_reduce
  try extract_lets
  refine WP_if ?_
  refine step_got W K c f₁ 14 rfl (by exact cne 14 c) (by exact rfl) (by exact rfl) ?_
  refine WP_done ?_
  exact hk

theorem part_47 (f₁ : S16x64x768.Idx → F .f32) {Q : (Σ' (_ : BitVec 32), BitVec 32) → sProp (𝕄' F)}
    (hk : iprop(Ctx W K c ∗ J ∗ backSt c W 5 ∗ outP c W 16 ∗ doneP (Fin.val : Fin 16 → ℕ) 16 (agGot W c f₁) ∗ R) ⊢ Q ⟨(Scalar.extui (Scalar.cmpi .ne (idx c) 5#32)), 0#32⟩) :
    iprop(Ctx W K c ∗ J ∗ gotMid W c f₁ 14 14 ∗ outP c W 14 ∗ restP (Fin.val : Fin 16 → ℕ) 0 (rsOwn c W) ∗ R)
      ⊢ WP c (k0_part47 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (idx c) (W.own c) (Scalar.cmpi .eq (idx c) 14#32)) Q := by
  rw [k0_part47_eq_skeleton]
  unfold k0_part47_skel
  simp -zetaHave only [semSignalWord, semWaitWord, Prog.lift, Prog.bind_op, Prog.bind_ret, Prog.pure_eq_ret, wp_deviceId]
  refine step_look W K c f₁ 14 rfl rfl ?_
  refine step_out c W K 14 rfl (by exact out_val W c f₁ 14) rfl rfl ?_
  try beta_reduce
  try extract_lets
  refine WP_if ?_
  refine step_got W K c f₁ 15 rfl (by exact cne 15 c) (by exact rfl) (by exact rfl) ?_
  refine step_look W K c f₁ 15 rfl rfl ?_
  refine step_out c W K 15 rfl (by exact out_val W c f₁ 15) rfl rfl ?_
  refine (to_back W K c f₁).trans ?_
  try beta_reduce
  try extract_lets
  refine WP_if ?_
  refine step_back c W K 0 rfl (by exact cne 0 c) (by exact rfl) (by exact rfl) ?_
  try beta_reduce
  try extract_lets
  refine WP_if ?_
  refine step_back c W K 1 rfl (by exact cne 1 c) (by exact rfl) (by exact rfl) ?_
  try beta_reduce
  try extract_lets
  refine WP_if ?_
  refine step_back c W K 2 rfl (by exact cne 2 c) (by exact rfl) (by exact rfl) ?_
  try beta_reduce
  try extract_lets
  refine WP_if ?_
  refine step_back c W K 3 rfl (by exact cne 3 c) (by exact rfl) (by exact rfl) ?_
  try beta_reduce
  try extract_lets
  refine WP_if ?_
  refine step_back c W K 4 rfl (by exact cne 4 c) (by exact rfl) (by exact rfl) ?_
  refine WP_done ?_
  exact hk

theorem part_48 {Q : (Σ' (_ : BitVec 32), BitVec 32) → sProp (𝕄' F)}
    (hk : iprop(Ctx W K c ∗ J ∗ backSt c W 15 ∗ R) ⊢ Q ⟨(Scalar.extui (Scalar.cmpi .ne (idx c) 15#32)), 0#32⟩) :
    iprop(Ctx W K c ∗ J ∗ backSt c W 5 ∗ R)
      ⊢ WP c (k0_part48 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (idx c) (Scalar.extui (Scalar.cmpi .ne (idx c) 5#32)) 0#32) Q := by
  rw [k0_part48_eq_skeleton]
  unfold k0_part48_skel
  simp -zetaHave only [semSignalWord, semWaitWord, Prog.lift, Prog.bind_op, Prog.bind_ret, Prog.pure_eq_ret, wp_deviceId]
  try beta_reduce
  try extract_lets
  refine WP_if ?_
  refine step_back c W K 5 rfl (by exact cne 5 c) (by exact rfl) (by exact rfl) ?_
  try beta_reduce
  try extract_lets
  refine WP_if ?_
  refine step_back c W K 6 rfl (by exact cne 6 c) (by exact rfl) (by exact rfl) ?_
  try beta_reduce
  try extract_lets
  refine WP_if ?_
  refine step_back c W K 7 rfl (by exact cne 7 c) (by exact rfl) (by exact rfl) ?_
  try beta_reduce
  try extract_lets
  refine WP_if ?_
  refine step_back c W K 8 rfl (by exact cne 8 c) (by exact rfl) (by exact rfl) ?_
  try beta_reduce
  try extract_lets
  refine WP_if ?_
  refine step_back c W K 9 rfl (by exact cne 9 c) (by exact rfl) (by exact rfl) ?_
  try beta_reduce
  try extract_lets
  refine WP_if ?_
  refine step_back c W K 10 rfl (by exact cne 10 c) (by exact rfl) (by exact rfl) ?_
  try beta_reduce
  try extract_lets
  refine WP_if ?_
  refine step_back c W K 11 rfl (by exact cne 11 c) (by exact rfl) (by exact rfl) ?_
  try beta_reduce
  try extract_lets
  refine WP_if ?_
  refine step_back c W K 12 rfl (by exact cne 12 c) (by exact rfl) (by exact rfl) ?_
  try beta_reduce
  try extract_lets
  refine WP_if ?_
  refine step_back c W K 13 rfl (by exact cne 13 c) (by exact rfl) (by exact rfl) ?_
  try beta_reduce
  try extract_lets
  refine WP_if ?_
  refine step_back c W K 14 rfl (by exact cne 14 c) (by exact rfl) (by exact rfl) ?_
  refine WP_done ?_
  exact hk

theorem part_49 {Q : (PUnit) → sProp (𝕄' F)}
    (hk : iprop(Ctx W K c ∗ J ∗ finSt c W 4 ∗ doneP (Fin.val : Fin 16 → ℕ) 16 (rsBack c W) ∗ R) ⊢ Q ⟨⟩) :
    iprop(Ctx W K c ∗ J ∗ backSt c W 15 ∗ restP (Fin.val : Fin 15 → ℕ) 0 (agOwn c) ∗ R)
      ⊢ WP c (k0_part49 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 (Scalar.extui (Scalar.cmpi .ne (idx c) 15#32)) 0#32) Q := by
  rw [k0_part49_eq_skeleton]
  unfold k0_part49_skel
  simp -zetaHave only [semSignalWord, semWaitWord, Prog.lift, Prog.bind_op, Prog.bind_ret, Prog.pure_eq_ret, wp_deviceId]
  try beta_reduce
  try extract_lets
  refine WP_if ?_
  refine step_back c W K 15 rfl (by exact cne 15 c) (by exact rfl) (by exact rfl) ?_
  refine (to_fin W K c).trans ?_
  refine step_fin c W K 0 rfl (by exact rfl) (by exact rfl) ?_
  refine step_fin c W K 1 rfl (by exact rfl) (by exact rfl) ?_
  refine step_fin c W K 2 rfl (by exact rfl) (by exact rfl) ?_
  refine step_fin c W K 3 rfl (by exact rfl) (by exact rfl) ?_
  refine WP_done ?_
  exact hk

theorem part_50 {Q : (PUnit) → sProp (𝕄' F)}
    (hk : iprop(Ctx W K c ∗ J ∗ finSt c W 9 ∗ R) ⊢ Q ⟨⟩) :
    iprop(Ctx W K c ∗ J ∗ finSt c W 4 ∗ R)
      ⊢ WP c (k0_part50 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 ) Q := by
  rw [k0_part50_eq_skeleton]
  unfold k0_part50_skel
  simp only [semSignalWord, semWaitWord, Prog.lift, Prog.bind_op, Prog.bind_ret, Prog.pure_eq_ret, wp_deviceId]
  refine step_fin c W K 4 rfl (by exact rfl) (by exact rfl) ?_
  refine step_fin c W K 5 rfl (by exact rfl) (by exact rfl) ?_
  refine step_fin c W K 6 rfl (by exact rfl) (by exact rfl) ?_
  refine step_fin c W K 7 rfl (by exact rfl) (by exact rfl) ?_
  refine step_fin c W K 8 rfl (by exact rfl) (by exact rfl) ?_
  refine WP_done ?_
  exact hk

theorem part_51 {Q : (PUnit) → sProp (𝕄' F)}
    (hk : iprop(Ctx W K c ∗ J ∗ finSt c W 14 ∗ R) ⊢ Q ⟨⟩) :
    iprop(Ctx W K c ∗ J ∗ finSt c W 9 ∗ R)
      ⊢ WP c (k0_part51 xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7 ) Q := by
  rw [k0_part51_eq_skeleton]
  unfold k0_part51_skel
  simp only [semSignalWord, semWaitWord, Prog.lift, Prog.bind_op, Prog.bind_ret, Prog.pure_eq_ret, wp_deviceId]
  refine step_fin c W K 9 rfl (by exact rfl) (by exact rfl) ?_
  refine step_fin c W K 10 rfl (by exact rfl) (by exact rfl) ?_
  refine step_fin c W K 11 rfl (by exact rfl) (by exact rfl) ?_
  refine step_fin c W K 12 rfl (by exact rfl) (by exact rfl) ?_
  refine step_fin c W K 13 rfl (by exact rfl) (by exact rfl) ?_
  refine WP_done ?_
  exact hk

end Cert.KernelIdeal.Mesh

end
-- ==== Proof.Turns.lean ====
/-
  The whole run of the kernel on one device: what it starts with, what it ends with, and how the state one phase leaves
  is handed to the next.
-/
module

public import proofs.«01_k».proof.Proof.Glue

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

variable (W : Fill F) (K : GSem nD τ sig → ℕ) (c : Dev nD) (I : Inp F) (f₀ f₁ : S16x64x768.Idx → F .f32)

theorem bigSep_two {ι : Type} [Fintype ι] (Φ Ψ : ι → sProp (𝕄' F)) :
    (bigSep Finset.univ fun i => iprop(Φ i ∗ Ψ i)) = iprop((bigSep Finset.univ fun i => Φ i) ∗ bigSep Finset.univ fun i => Ψ i) := bigSep_sep _ _ _
theorem bigSep_out {ι : Type} [Fintype ι] [DecidableEq ι] (i : ι) (Φ : ι → sProp (𝕄' F)) :
    (bigSep Finset.univ fun i => Φ i) = iprop(Φ i ∗ bigSep (Finset.univ.erase i) fun i => Φ i) := bigSep_univ_split i

/-- The duties of sending a block to device `k`. -/
def rsTok (k : Fin 16) : sProp (𝕄' F) := if k = c then iprop(emp) else iprop(dutyTok ER (rsSC c k) 0 c ∗ dutyTok ER (rsRC k c) 0 c)
/-- The duty of sending the result tile to device `k`. -/
def agTok (k : Fin 16) : sProp (𝕄' F) := if k = c then iprop(emp) else dutyTok ER (agRC k c) 0 c
/-- The place on the semaphore that counts the copy to device `k` out. -/
def rsPos (k : Fin 16) : sProp (𝕄' F) := if k = c then iprop(emp) else atPos ER (rsSC c k) 0 ∅ 0

def pSb : sProp (𝕄' F) := bigSep Finset.univ fun k => sbAny c k
def pRs : sProp (𝕄' F) := bigSep Finset.univ fun k => rsTok c k
def pAg : sProp (𝕄' F) := bigSep Finset.univ fun k => agTok c k
def pRw : sProp (𝕄' F) := bigSep Finset.univ fun k => rsWait c f₀ k
def pOwn : sProp (𝕄' F) := iprop(∃ f, ownPt c fullShare f)
def pDs : sProp (𝕄' F) := bigSep Finset.univ fun i : Fin 15 => dutyTok ER (agSC c i) 0 c
def pAw : sProp (𝕄' F) := bigSep Finset.univ fun k => agWait c f₁ k
def pRp : sProp (𝕄' F) := bigSep Finset.univ fun k => rsPos c k
def pAp : sProp (𝕄' F) := bigSep Finset.univ fun i : Fin 15 => atPos ER (agSC c i) 0 ∅ 0
def pAr : sProp (𝕄' F) := bigSep Finset.univ fun k => agRes c k
def pRo : sProp (𝕄' F) := bigSep (Finset.univ.erase c) fun k => rsOwn c W k
def pRg : sProp (𝕄' F) := bigSep Finset.univ fun k => rsGot W c f₀ k

/-- What the run on device `c` starts from. -/
def runPre : sProp (𝕄' F) :=
  iprop(Ctx W K c ∗ inpPts c I ∗ sigSt c 0 ∗ (cred (tallyAt (barC c) () 16) ∗ atPos ER (barC c) 0 ∅ 0)
    ∗ pSb c ∗ pRs c ∗ pAg c ∗ pRw c f₀ ∗ pOwn c ∗ pDs c ∗ pAw c f₁ ∗ outP c W 0 ∗ pRp c ∗ pAp c)
/-- What it ends in. -/
def runPost : sProp (𝕄' F) :=
  iprop(Ctx W K c ∗ inpPts c I ∗ finSt c W 15 ∗ doneP (Fin.val : Fin 16 → ℕ) 16 (rsBack c W)
    ∗ outP c W 16 ∗ doneP (Fin.val : Fin 16 → ℕ) 16 (agGot W c f₁) ∗ ownPt c (shareDrop fullShare 15) (W.own c) ∗ pRg W c f₀ ∗ atPos ER (barC c) 1 ∅ 0)

/-- All signalled: on to the barrier. -/
theorem turn_bar {J R : sProp (𝕄' F)} : iprop(Ctx W K c ∗ J ∗ sigSt c 16 ∗ (cred (tallyAt (barC c) () 16) ∗ atPos ER (barC c) 0 ∅ 0) ∗ R)
    ⊢ iprop(Ctx W K c ∗ J ∗ barPre c ∗ R) := by
  unfold sigSt barPre
  rw [barDue_end, add_zero]
  iintro ⟨HC, HJ, ⟨HO, -⟩, ⟨Hc, Hp⟩, HR⟩
  isplitl [HC]; · iexact HC
  isplitl [HJ]; · iexact HJ
  isplitr [HR]
  · isplitl [HO]; · iexact HO
    isplitl [Hc]; · iexact Hc
    iexact Hp
  iexact HR

theorem lend_split (d : Fin 16) : iprop(lend d c ∗ rsTok c d ∗ agTok c d) ⊢ (iprop(rsRes c d ∗ agRes c d) : sProp (𝕄' F)) := by
  unfold lend rsTok agTok rsRes agRes
  by_cases h : d = c
  · rw [if_pos h, if_pos h, if_pos h, if_pos h, if_pos h]
    iintro -
    isplitl []; · iempintro
    iempintro
  · rw [if_neg h, if_neg h, if_neg h, if_neg h, if_neg h]
    iintro ⟨⟨Hr, Ha, #Hor, #Hoa⟩, ⟨Ht1, Ht2⟩, Ht3⟩
    isplitl [Hr Ht1 Ht2]
    · isplitl [Hr]; · iexact Hr
      isplitr; · iexact Hor
      isplitl [Ht1]; · iexact Ht1
      iexact Ht2
    isplitl [Ha]; · iexact Ha
    isplitr; · iexact Hoa
    iexact Ht3

theorem lends_split : iprop((bigSep Finset.univ fun d : Fin 16 => lend d c) ∗ pRs c ∗ pAg c)
    ⊢ (iprop((bigSep Finset.univ fun d : Fin 16 => rsRes c d) ∗ pAr c) : sProp (𝕄' F)) := by
  unfold pRs pAg pAr
  refine BIBase.Entails.trans (Entails.of_eq ?_) (BIBase.Entails.trans (bigSep_mono (s := Finset.univ) fun d _ => lend_split c d) (Entails.of_eq ?_))
  · rw [bigSep_two (fun d : Fin 16 => lend d c) fun d => iprop(rsTok c d ∗ agTok c d), bigSep_two (fun d => rsTok c d) fun d => agTok c d]
  · exact bigSep_two (fun d => rsRes c d) fun d => agRes c d

/-- Every device ready: on to the blocks. -/
theorem turn_send {J R : sProp (𝕄' F)} : iprop(Ctx W K c ∗ J ∗ barPost c ∗ pSb c ∗ pRs c ∗ pAg c ∗ R)
    ⊢ iprop(Ctx W K c ∗ J ∗ sendSt W c 0 ∗ pAr c ∗ atPos ER (barC c) 1 ∅ 0 ∗ R) := by
  unfold barPost sendSt
  rw [restP_zero (Fin.val : Fin 16 → ℕ), restP_zero (Fin.val : Fin 16 → ℕ), doneP_zero (Fin.val : Fin 16 → ℕ)]
  iintro ⟨HC, HJ, ⟨HO, Hp, HL⟩, Hs, Hr, Ha, HR⟩
  ihave H := (lends_split c) $$ [HL Hr Ha]
  · isplitl [HL]; · iexact HL
    isplitl [Hr]; · iexact Hr
    iexact Ha
  icases H with ⟨HL, Ha⟩
  isplitl [HC]; · iexact HC
  isplitl [HJ]; · iexact HJ
  isplitl [HO Hs HL]
  · isplitl [HO]; · iexact HO
    isplitl [Hs]; · unfold pSb; iexact Hs
    isplitl [HL]; · iexact HL
    iempintro
  isplitl [Ha]; · iexact Ha
  isplitl [Hp]; · iexact Hp
  iexact HR

theorem own_join (k : Fin 16) : iprop(rsSent W c k ∗ rsPos c k) ⊢ rsOwn c W k := by
  unfold rsSent rsPos rsOwn
  by_cases h : k = c
  · rw [if_pos h, if_pos h, if_pos h]
    iintro ⟨H, -⟩
    iexact H
  · rw [if_neg h, if_neg h, if_neg h]

theorem owns_join : iprop((bigSep Finset.univ fun k : Fin 16 => rsSent W c k) ∗ pRp c)
    ⊢ (iprop(sbPt c c (W.sb c) ∗ pRo W c) : sProp (𝕄' F)) := by
  unfold pRp pRo
  refine BIBase.Entails.trans (Entails.of_eq ?_) (BIBase.Entails.trans (bigSep_mono (s := Finset.univ) fun d _ => own_join W c d) (Entails.of_eq ?_))
  · exact (bigSep_two (fun d => rsSent W c d) fun d => rsPos c d).symm
  · rw [bigSep_out c, rsOwn_self c W rfl]

/-- All sent: on to receiving. -/
theorem turn_recv {A B C D E G J R : sProp (𝕄' F)} : iprop(Ctx W K c ∗ J ∗ sendSt W c 16 ∗ A ∗ B ∗ pRw c f₀ ∗ C ∗ D ∗ E ∗ G ∗ pRp c ∗ R)
    ⊢ iprop(Ctx W K c ∗ J ∗ recvSt W c f₀ 0 ∗ sbPt c c (W.sb c) ∗ pRo W c ∗ A ∗ B ∗ C ∗ D ∗ E ∗ G ∗ R) := by
  unfold sendSt recvSt
  rw [restP_zero (Fin.val : Fin 16 → ℕ), doneP_zero (Fin.val : Fin 16 → ℕ), doneP_all (Fin.val : Fin 16 → ℕ) (fun k => k.isLt), rsDue_end, zero_add]
  iintro ⟨HC, HJ, ⟨HO, -, -, HD⟩, HA, HB, Hw, HK, HL, HE, HG, Hp, HR⟩
  ihave H := (owns_join W c) $$ [HD Hp]
  · isplitl [HD]; · iexact HD
    iexact Hp
  icases H with ⟨Hs, Ho⟩
  isplitl [HC]; · iexact HC
  isplitl [HJ]; · iexact HJ
  isplitl [HO Hw]
  · isplitl [HO]; · iexact HO
    isplitl [Hw]; · unfold pRw; iexact Hw
    iempintro
  isplitl [Hs]; · iexact Hs
  isplitl [Ho]; · iexact Ho
  isplitl [HA]; · iexact HA
  isplitl [HB]; · iexact HB
  isplitl [HK]; · iexact HK
  isplitl [HL]; · iexact HL
  isplitl [HE]; · iexact HE
  isplitl [HG]; · iexact HG
  iexact HR

/-- All received: on to the result tile. -/
theorem turn_tile {B J R : sProp (𝕄' F)} : iprop(Ctx W K c ∗ J ∗ recvSt W c f₀ 16 ∗ sbPt c c (W.sb c) ∗ pRo W c ∗ pAr c ∗ B ∗ pOwn c ∗ pDs c ∗ R)
    ⊢ iprop(Ctx W K c ∗ J ∗ (∃ f, ownPt c fullShare f) ∗ agPre c ∗ restP (Fin.val : Fin 16 → ℕ) 0 (rsOwn c W) ∗ pRg W c f₀ ∗ B ∗ R) := by
  unfold recvSt agPre
  rw [restP_zero (Fin.val : Fin 16 → ℕ), restP_zero (turn c), restP_zero (Fin.val : Fin 15 → ℕ), doneP_all (Fin.val : Fin 16 → ℕ) (fun k => k.isLt)]
  iintro ⟨HC, HJ, ⟨HO, -, HD⟩, Hs, Hro, Ha, HB, Ho, Hd, HR⟩
  isplitl [HC]; · iexact HC
  isplitl [HJ]; · iexact HJ
  isplitl [Ho]; · unfold pOwn; iexact Ho
  isplitl [HO Ha Hd]
  · isplitl [HO]; · iexact HO
    isplitl [Ha]; · unfold pAr; iexact Ha
    unfold pDs; iexact Hd
  isplitl [Hs Hro]
  · rw [bigSep_out c, rsOwn_self c W rfl]
    unfold pRo
    isplitl [Hs]; · iexact Hs
    iexact Hro
  isplitl [HD]; · unfold pRg; iexact HD
  isplitl [HB]; · iexact HB
  iexact HR

/-- All tiles sent: on to the others' tiles. -/
theorem turn_got {A B D E J R : sProp (𝕄' F)} : iprop(Ctx W K c ∗ J ∗ agSt W c 12 ∗ D ∗ A ∗ B ∗ E ∗ pAw c f₁ ∗ outP c W 0 ∗ R)
    ⊢ iprop(Ctx W K c ∗ J ∗ agSt W c 12 ∗ restP (Fin.val : Fin 16 → ℕ) 0 (agWait c f₁) ∗ outP c W 0 ∗ D ∗ A ∗ B ∗ E ∗ R) := by
  rw [restP_zero (Fin.val : Fin 16 → ℕ)]
  iintro ⟨HC, HJ, Ha, HD, HA, HB, HE, Hw, Ho, HR⟩
  isplitl [HC]; · iexact HC
  isplitl [HJ]; · iexact HJ
  isplitl [Ha]; · iexact Ha
  isplitl [Hw]; · unfold pAw; iexact Hw
  isplitl [Ho]; · iexact Ho
  isplitl [HD]; · iexact HD
  isplitl [HA]; · iexact HA
  isplitl [HB]; · iexact HB
  isplitl [HE]; · iexact HE
  iexact HR

/-- The tiles read but for the last: the semaphores of the sends. -/
theorem turn_back {B D E J : sProp (𝕄' F)} : iprop(Ctx W K c ∗ J ∗ gotMid W c f₁ 14 14 ∗ outP c W 14 ∗ doneP (Fin.val : Fin 15 → ℕ) 15 (agSent c) ∗ D ∗ restP (Fin.val : Fin 16 → ℕ) 0 (rsOwn c W) ∗ B ∗ E ∗ pAp c)
    ⊢ iprop(Ctx W K c ∗ J ∗ gotMid W c f₁ 14 14 ∗ outP c W 14 ∗ restP (Fin.val : Fin 16 → ℕ) 0 (rsOwn c W) ∗ restP (Fin.val : Fin 15 → ℕ) 0 (agOwn c) ∗ D ∗ B ∗ E) := by
  rw [restP_zero (Fin.val : Fin 15 → ℕ), doneP_all (Fin.val : Fin 15 → ℕ) (fun k => k.isLt)]
  iintro ⟨HC, HJ, Hg, Ho, Hs, HD, Hw, HB, HE, Hp⟩
  isplitl [HC]; · iexact HC
  isplitl [HJ]; · iexact HJ
  isplitl [Hg]; · iexact Hg
  isplitl [Ho]; · iexact Ho
  isplitl [Hw]; · iexact Hw
  isplitl [Hs Hp]
  · have e : (bigSep Finset.univ fun i : Fin 15 => agOwn (F := F) c i)
        = iprop((bigSep Finset.univ fun i : Fin 15 => agSent c i) ∗ bigSep Finset.univ fun i : Fin 15 => atPos ER (agSC c i) 0 ∅ 0) := by
      unfold agOwn agSent
      exact bigSep_sep _ _ _
    iapply (Entails.of_eq e.symm)
    isplitl [Hs]; · iexact Hs
    unfold pAp; iexact Hp
  isplitl [HD]; · iexact HD
  isplitl [HB]; · iexact HB
  iexact HE

/-- The sends of the tile. -/
theorem turn_fin {A B J R : sProp (𝕄' F)} : iprop(Ctx W K c ∗ J ∗ backSt c W 15 ∗ A ∗ B ∗ restP (Fin.val : Fin 15 → ℕ) 0 (agOwn c) ∗ R)
    ⊢ iprop(Ctx W K c ∗ J ∗ backSt c W 15 ∗ restP (Fin.val : Fin 15 → ℕ) 0 (agOwn c) ∗ A ∗ B ∗ R) := by
  iintro ⟨HC, HJ, Hb, HA, HB, Hw, HR⟩
  isplitl [HC]; · iexact HC
  isplitl [HJ]; · iexact HJ
  isplitl [Hb]; · iexact Hb
  isplitl [Hw]; · iexact Hw
  isplitl [HA]; · iexact HA
  isplitl [HB]; · iexact HB
  iexact HR

end Cert.KernelIdeal.Mesh

end
-- ==== Proof.Body.lean ====
/-
  The whole run of the kernel on one device: its pieces one after the other.
-/
module

public import proofs.«01_k».proof.Proof.PartsA
public import proofs.«01_k».proof.Proof.PartsB
public import proofs.«01_k».proof.Proof.PartsC
public import proofs.«01_k».proof.Proof.PartsD
public import proofs.«01_k».proof.Proof.PartsE
public import proofs.«01_k».proof.Proof.PartsF
public import proofs.«01_k».proof.Proof.PartsG
public import proofs.«01_k».proof.Proof.Turns

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

theorem WP_then {α β : Type} {c : Dev nD} {p : Prog (TpuEff nD τ sig (Elt F) Λ₀ .tc) α} {k : α → Prog (TpuEff nD τ sig (Elt F) Λ₀ .tc) β}
    {X : sProp (𝕄' F)} {Q : β → sProp (𝕄' F)} (h : X ⊢ WP c p fun a => WP c (k a) Q) : X ⊢ WP c (p >>= k) Q :=
  h.trans (Entails.of_eq (WP_bind c p k Q).symm)

attribute [local irreducible] wp

variable (W : Fill F) (K : GSem nD τ sig → ℕ) (c : Dev nD) (I : Inp F) (f₀ f₁ : S16x64x768.Idx → F .f32)

theorem body_run (hS : HS W c I) (hT0 : HT W c) (hT : V_v1177 W c f₀ = W.own c) {Q : PUnit → sProp (𝕄' F)}
    (hk : runPost W K c I f₀ f₁ ⊢ Q ⟨⟩) :
    runPre W K c I f₀ f₁
      ⊢ WP c (cc0__fused_body xM (Memref.isWhole_whole _) qM (Memref.isWhole_whole _) kM (Memref.isWhole_whole _) vM (Memref.isWhole_whole _) oM (Memref.isWhole_whole _) outM (Memref.isWhole_whole _) sbM (Memref.isWhole_whole _) rbM (Memref.isWhole_whole _) abM (Memref.isWhole_whole _) ownM (Memref.isWhole_whole _) cc0_scratch4 cc0_scratch5 cc0_scratch6 cc0_scratch7) Q := by
  unfold runPre
  rw [cc0__fused_body_eq_skeleton]
  unfold cc0__fused_body_skel
  refine WP_then ?_
  refine part_1 W K c ?_
  refine WP_then ?_
  refine part_2 W K c ?_
  refine BIBase.Entails.trans (turn_bar W K c) ?_
  refine WP_then ?_
  refine part_3 W K c I ?_
  refine WP_then ?_
  refine part_4 W K c I ?_
  refine WP_then ?_
  refine part_5 W K c I ?_
  refine WP_then ?_
  refine part_6 W K c I ?_
  refine WP_then ?_
  refine part_7 W K c I ?_
  refine WP_then ?_
  refine part_8 W K c I ?_
  refine BIBase.Entails.trans (turn_send W K c) ?_
  refine WP_then ?_
  refine part_9 W K c I hS ?_
  refine WP_then ?_
  refine part_10 W K c I hS ?_
  refine WP_then ?_
  refine part_11 W K c I ?_
  refine WP_then ?_
  refine part_12 W K c I ?_
  refine WP_then ?_
  refine part_13 W K c I ?_
  refine WP_then ?_
  refine part_14 W K c I ?_
  refine WP_then ?_
  refine part_15 W K c I ?_
  refine WP_then ?_
  refine part_16 W K c I ?_
  refine WP_then ?_
  refine part_17 W K c I hS ?_
  refine WP_then ?_
  refine part_18 W K c I hS ?_
  refine WP_then ?_
  refine part_19 W K c I ?_
  refine WP_then ?_
  refine part_20 W K c I ?_
  refine WP_then ?_
  refine part_21 W K c I ?_
  refine WP_then ?_
  refine part_22 W K c I ?_
  refine WP_then ?_
  refine part_23 W K c I ?_
  refine WP_then ?_
  refine part_24 W K c I ?_
  refine WP_then ?_
  refine part_25 W K c I hS ?_
  refine WP_then ?_
  refine part_26 W K c I hS ?_
  refine WP_then ?_
  refine part_27 W K c I ?_
  refine WP_then ?_
  refine part_28 W K c I ?_
  refine WP_then ?_
  refine part_29 W K c I ?_
  refine WP_then ?_
  refine part_30 W K c I ?_
  refine WP_then ?_
  refine part_31 W K c I ?_
  refine WP_then ?_
  refine part_32 W K c I ?_
  refine WP_then ?_
  refine part_33 W K c I hS ?_
  refine BIBase.Entails.trans (turn_recv W K c f₀) ?_
  refine WP_then ?_
  refine part_34 W K c f₀ ?_
  refine WP_then ?_
  refine part_35 W K c f₀ ?_
  refine WP_then ?_
  refine part_36 W K c f₀ ?_
  refine WP_then ?_
  refine part_37 W K c f₀ ?_
  refine BIBase.Entails.trans (turn_tile W K c f₀) ?_
  refine WP_then ?_
  refine part_38 W K c f₀ hT0 hT ?_
  refine WP_then ?_
  refine part_39 W K c ?_
  refine WP_then ?_
  refine part_40 W K c ?_
  refine WP_then ?_
  refine part_41 W K c ?_
  refine BIBase.Entails.trans (turn_got W K c f₁) ?_
  refine WP_then ?_
  refine part_42 W K c f₁ ?_
  refine WP_then ?_
  refine part_43 W K c f₁ ?_
  refine WP_then ?_
  refine part_44 W K c f₁ ?_
  refine WP_then ?_
  refine part_45 W K c f₁ ?_
  refine WP_then ?_
  refine part_46 W K c f₁ ?_
  refine BIBase.Entails.trans (turn_back W K c f₁) ?_
  refine WP_then ?_
  refine part_47 W K c f₁ ?_
  refine WP_then ?_
  refine part_48 W K c ?_
  refine BIBase.Entails.trans (turn_fin W K c) ?_
  refine WP_then ?_
  refine part_49 W K c ?_
  refine WP_then ?_
  refine part_50 W K c ?_
  refine WP_then ?_
  refine part_51 W K c ?_
  refine WP_then ?_
  refine step_fin c W K 14 rfl (by exact rfl) (by exact rfl) ?_
  refine WP_done ?_
  refine WP_done ?_
  exact hk

end Cert.KernelIdeal.Mesh

end
-- ==== Proof.Enter.lean ====
/-
  Into the kernel: what the program's launch deals a device is opened and split into what the run on one device starts from.
-/
module

public import proofs.«01_k».proof.Proof.Body

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

variable (W : Fill F) (K : GSem nD τ sig → ℕ) (c : Dev nD) (I : Inp F) (f₀ f₁ : S16x64x768.Idx → F .f32)

/-! ## The kernel's own semaphores -/

/-- The kernel's own DMA semaphores: those of the partial sums (out, in), those of the result tiles (out, in). -/
abbrev OwnK : Type := (Fin 16 ⊕ Fin 16) ⊕ (Fin 15 ⊕ Fin 16)
/-- Where each is. -/
def osem : OwnK → SemLoc sig
  | .inl (.inl k) => .dma (rsS k)
  | .inl (.inr k) => .dma (rsR k)
  | .inr (.inl j) => .dma (agS j)
  | .inr (.inr k) => .dma (agR k)

theorem osem_inj : Function.Injective osem := fun a b h => by
  have h' := congrArg role h
  rcases a with (a | a) | (a | a) <;> rcases b with (b | b) | (b | b) <;> simp only [osem, role_rsS, role_rsR, role_agS, role_agR] at h' <;> cases h' <;> rfl

theorem osem_ne_bar (k : OwnK) : osem k ≠ .reg barS := fun h => by
  rcases k with (a | a) | (a | a) <;> cases h

theorem stage_role : ∀ (w : Fin 6) (s : Fin (spec0 w).nbuf), role (.dma ((spec0 w).sem s)) = .other := by decide

theorem own_facts : Pipeline.OwnSemFacts spec0 osem where
  isScoped k := by
    rcases k with (a | a) | (a | a) <;> revert a <;> decide
  inj := osem_inj
  disj k w s h := by
    have h' := congrArg role h
    rw [stage_role] at h'
    rcases k with (a | a) | (a | a) <;> simp only [osem, role_rsS, role_rsR, role_agS, role_agR] at h' <;> cases h'

/-- A family over the kernel's own semaphores, array by array. -/
theorem own_fam (Φ : SemLoc sig → sProp (𝕄' F)) : (bigSep Finset.univ fun k : OwnK => Φ (osem k))
    = iprop(((bigSep Finset.univ fun k : Fin 16 => Φ (.dma (rsS k))) ∗ bigSep Finset.univ fun k : Fin 16 => Φ (.dma (rsR k)))
      ∗ (bigSep Finset.univ fun j : Fin 15 => Φ (.dma (agS j))) ∗ bigSep Finset.univ fun k : Fin 16 => Φ (.dma (agR k))) := by
  refine (bigSep_univ_sum _).trans ?_
  refine (congrArg₂ _ (bigSep_univ_sum _) (bigSep_univ_sum _)).trans ?_
  rfl

/-- A cell of the kernel's own. -/
abbrev ownC (k : OwnK) : GSem nD τ sig := ((c : Thread nD τ), osem k)

theorem recs_own (k : OwnK) : recs W K ⊢ cellInv ER (sched W) (K (ownC c k)) (ownC c k) := by
  rcases k with (a | a) | (a | a)
  · exact recs_rsS W K c a
  · exact recs_rsR W K c a
  · exact recs_agS W K c a
  · exact recs_agR W K c a

/-! ## What a device brings to the kernel -/

/-- The duties device `c` pays. -/
def duesP : sProp (𝕄' F) := iprop((bigSep Finset.univ fun k : Fin 16 => dutyTok ER (barC k) 0 c) ∗ pRs c ∗ pAg c ∗ pDs c)
/-- The credit device `c` waits with for device `k`'s copies. -/
def rsCr (k : Fin 16) : sProp (𝕄' F) := if k = c then iprop(emp) else cred (tallyAt (rsRC c k) () N)
def agCr (k : Fin 16) : sProp (𝕄' F) := if k = c then iprop(emp) else cred (tallyAt (agRC c k) () N)
/-- All its credit. -/
def credP : sProp (𝕄' F) :=
  iprop(cred (tallyAt (barC c) () 16) ∗ (bigSep Finset.univ fun k : Fin 16 => rsCr c k) ∗ bigSep Finset.univ fun k : Fin 16 => agCr c k)

/-- What the program's launch deals device `c`. -/
def dealt : sProp (𝕄' F) :=
  iprop((∃ K, recs W K) ∗ atPos ER (barC c) 0 ∅ 0 ∗ (bigSep Finset.univ fun k : OwnK => openTok ER (ownC c k)) ∗ duesP c ∗ credP c)
/-- The same once its cells are open. -/
def opened : sProp (𝕄' F) :=
  iprop((∃ K, Ctx W K c) ∗ atPos ER (barC c) 0 ∅ 0 ∗ (bigSep Finset.univ fun k : OwnK => atPos ER (ownC c k) 0 ∅ 0) ∗ duesP c ∗ credP c)

theorem open_one (k : OwnK) : iprop(recs W K ∗ (openTok ER (ownC c k) ∗ semVal (ownC c k) 0))
    ⊢ (|={Set.univ}=> (atPos ER (ownC c k) 0 ∅ 0 ∗ reached ER (ownC c k) 0) : sProp (𝕄' F)) := by
  iintro ⟨#HR, Ho, Hs⟩
  iapply (Rounds.cell_open ER (sched W) (g := ownC c k) (Set.mem_univ (K (ownC c k))))
  isplitr; · iapply (recs_own W K c k); iexact HR
  isplitl [Ho]; · iexact Ho
  iexact Hs

theorem opens_of : (bigSep Finset.univ fun k : OwnK => reached ER (ownC c k) 0) ⊢ (opens c : sProp (𝕄' F)) := by
  rw [own_fam (F := F) (fun sm => reached ER ((c : Thread nD τ), sm) 0)]
  unfold opens
  iintro ⟨⟨H1, H2⟩, H3, H4⟩
  isplitl [H1]; · iexact H1
  isplitl [H2]; · iexact H2
  isplitl [H3]; · iexact H3
  iexact H4

theorem open_all : iprop(dealt W c ∗ Pipeline.ownSems0 osem c ∗ levAts L lv) ⊢ (|={Set.univ}=> opened W c : sProp (𝕄' F)) := by
  unfold dealt opened Pipeline.ownSems0
  iintro ⟨⟨⟨%K, #HR⟩, Hb, Ho, Hd, Hc⟩, Hs, #Hl⟩
  ihave H := (Entails.of_eq (bigSep_two (fun k : OwnK => (openTok ER (ownC c k) : sProp (𝕄' F))) (fun k : OwnK => (semVal (ownC c k) 0 : sProp (𝕄' F)))).symm) $$ [Ho Hs]
  · isplitl [Ho]; · iexact Ho
    iexact Hs
  imod (BIBase.Entails.trans (bigSep_with_persistent (S := Finset.univ) (R := recs W K) fun k _ => open_one W K c k) (bigSep_fupd _ _)) $$ [H] with H
  · isplitr; · iexact HR
    iexact H
  ihave H := (Entails.of_eq (bigSep_two (fun k : OwnK => (atPos ER (ownC c k) 0 ∅ 0 : sProp (𝕄' F))) (fun k : OwnK => (reached ER (ownC c k) 0 : sProp (𝕄' F))))) $$ H
  icases H with ⟨Ha, Hr⟩
  ihave #Hr := (opens_of c) $$ Hr
  imodintro
  isplitr
  · iexists K
    unfold Ctx
    rw [Levs_eq]
    isplitr; · iexact HR
    isplitr; · iexact Hr
    iexact Hl
  isplitl [Hb]; · iexact Hb
  isplitl [Ha]; · iexact Ha
  isplitl [Hd]; · iexact Hd
  iexact Hc

/-! ## In -/

/-- What stays aside: the places on the semaphores of the device's copies to itself, of which there are none. -/
def selfP : sProp (𝕄' F) := iprop(atPos ER (rsSC c c) 0 ∅ 0 ∗ atPos ER (rsRC c c) 0 ∅ 0 ∗ atPos ER (agRC c c) 0 ∅ 0)
def selfK (k : Fin 16) : sProp (𝕄' F) := if k = c then selfP c else iprop(emp)

/-- What device `c` holds for device `k`. -/
def bring (f : S16x64x768.Idx → F .f32) (k : Fin 16) : sProp (𝕄' F) :=
  iprop((atPos ER (rsSC c k) 0 ∅ 0 ∗ atPos ER (rsRC c k) 0 ∅ 0 ∗ atPos ER (agRC c k) 0 ∅ 0) ∗ (rsCr c k ∗ agCr c k) ∗ dutyTok ER (barC k) 0 c
    ∗ sbPt c k f ∗ rbPt c k f₀ ∗ abPt c k f₁)
/-- The same as the kernel uses it. -/
def brought (k : Fin 16) : sProp (𝕄' F) :=
  iprop(sbAny c k ∗ sigRes c k ∗ rsWait c f₀ k ∗ agWait c f₁ k ∗ rsPos c k ∗ selfK c k)

theorem bring_one (f : S16x64x768.Idx → F .f32) (k : Fin 16) : iprop(opens c ∗ bring c f₀ f₁ f k) ⊢ brought c f₀ f₁ k := by
  unfold bring brought sbAny sigRes
  by_cases h : k = c
  · rw [rsWait_self c f₀ h, agWait_self c f₁ h, show (rsPos c k : sProp (𝕄' F)) = iprop(emp) from if_pos h,
      show (selfK c k : sProp (𝕄' F)) = selfP c from if_pos h, show (lend c k : sProp (𝕄' F)) = iprop(emp) from if_pos h.symm]
    unfold selfP
    subst h
    iintro ⟨-, ⟨H1, H2, H3⟩, -, Ht, Hs, Hr, Ha⟩
    isplitl [Hs]; · iexists f; iexact Hs
    isplitl [Ht]
    · isplitl [Ht]; · iexact Ht
      iempintro
    isplitl [Hr]; · iexact Hr
    isplitl [Ha]; · iexact Ha
    isplitr; · iempintro
    isplitl [H1]; · iexact H1
    isplitl [H2]; · iexact H2
    iexact H3
  · rw [rsWait_ne c f₀ h, agWait_ne c f₁ h, show (rsPos c k : sProp (𝕄' F)) = atPos ER (rsSC c k) 0 ∅ 0 from if_neg h,
      show (selfK c k : sProp (𝕄' F)) = iprop(emp) from if_neg h, show (rsCr c k : sProp (𝕄' F)) = cred (tallyAt (rsRC c k) () N) from if_neg h,
      show (agCr c k : sProp (𝕄' F)) = cred (tallyAt (agRC c k) () N) from if_neg h,
      show (lend c k : sProp (𝕄' F)) = iprop((∃ f, rbPt c k f) ∗ (∃ f, abPt c k f) ∗ reached ER (rsRC c k) 0 ∗ reached ER (agRC c k) 0) from if_neg fun e => h e.symm]
    iintro ⟨#HO, ⟨H1, H2, H3⟩, ⟨Hc1, Hc2⟩, Ht, Hs, Hr, Ha⟩
    isplitl [Hs]; · iexists f; iexact Hs
    isplitl [Ht Hr Ha]
    · isplitl [Ht]; · iexact Ht
      isplitl [Hr]; · iexists f₀; iexact Hr
      isplitl [Ha]; · iexists f₁; iexact Ha
      isplitr; · iapply (opens_rsR c k); iexact HO
      iapply (opens_agR c k); iexact HO
    isplitl [Hc1 H2]
    · isplitl [Hc1]; · iexact Hc1
      iexact H2
    isplitl [Hc2 H3]
    · isplitl [Hc2]; · iexact Hc2
      iexact H3
    isplitl [H1]; · iexact H1
    iempintro

theorem slot_dj (b b' : Fin 16) (h : b ≠ b') : Disjoint (slot b) (slot b') := slot_disjoint h

theorem sb_cover : (Finset.univ : Finset (Fin 16)).biUnion (β := Idx (sbM.view.loc (c : Thread nD τ))) slot = Finset.univ := by
  ext i
  simp only [Finset.mem_biUnion, Finset.mem_univ, true_and, iff_true]
  exact ⟨⟨(i 0).val, (i 0).isLt⟩, mem_slot.mpr rfl⟩
theorem rb_cover : (Finset.univ : Finset (Fin 16)).biUnion (β := Idx (rbM.view.loc (c : Thread nD τ))) slot = Finset.univ := by
  ext i
  simp only [Finset.mem_biUnion, Finset.mem_univ, true_and, iff_true]
  exact ⟨⟨(i 0).val, (i 0).isLt⟩, mem_slot.mpr rfl⟩
theorem ab_cover : (Finset.univ : Finset (Fin 16)).biUnion (β := Idx (abM.view.loc (c : Thread nD τ))) slot = Finset.univ := by
  ext i
  simp only [Finset.mem_biUnion, Finset.mem_univ, true_and, iff_true]
  exact ⟨⟨(i 0).val, (i 0).isLt⟩, mem_slot.mpr rfl⟩
theorem sb_split (f : S16x64x768.Idx → F .f32) : (sbM.view.loc (c : Thread nD τ) ↦{fullShare} f : sProp (𝕄' F)) = bigSep Finset.univ fun k => sbPt c k f := by
  have this := pointsTo_biUnion (nD := nD) (τ := τ) (sig := sig) (Ix := Unit) (Val := Elt F) (Name := ℕ) (U := UU) (Lvl := ℕ) (q := fullShare)
    (ℓ := sbM.view.loc (c : Thread nD τ)) (f := f) Finset.univ (K := slot) fun b _ b' _ h => slot_dj b b' h
  refine Eq.trans ?_ this
  rw [sb_cover c]
theorem rb_split (f : S16x64x768.Idx → F .f32) : (rbM.view.loc (c : Thread nD τ) ↦{fullShare} f : sProp (𝕄' F)) = bigSep Finset.univ fun k => rbPt c k f := by
  have this := pointsTo_biUnion (nD := nD) (τ := τ) (sig := sig) (Ix := Unit) (Val := Elt F) (Name := ℕ) (U := UU) (Lvl := ℕ) (q := fullShare)
    (ℓ := rbM.view.loc (c : Thread nD τ)) (f := f) Finset.univ (K := slot) fun b _ b' _ h => slot_dj b b' h
  refine Eq.trans ?_ this
  rw [rb_cover c]
theorem ab_split (f : S16x64x768.Idx → F .f32) : (abM.view.loc (c : Thread nD τ) ↦{fullShare} f : sProp (𝕄' F)) = bigSep Finset.univ fun k => abPt c k f := by
  have this := pointsTo_biUnion (nD := nD) (τ := τ) (sig := sig) (Ix := Unit) (Val := Elt F) (Name := ℕ) (U := UU) (Lvl := ℕ) (q := fullShare)
    (ℓ := abM.view.loc (c : Thread nD τ)) (f := f) Finset.univ (K := slot) fun b _ b' _ h => slot_dj b b' h
  refine Eq.trans ?_ this
  rw [ab_cover c]

/-- The scratch buffers, at any contents. -/
def scratch : sProp (𝕄' F) :=
  iprop((∃ f : S16x64x768.Idx → F .f32, sbM.view.loc (c : Thread nD τ) ↦{fullShare} f) ∗ (∃ f : S16x64x768.Idx → F .f32, rbM.view.loc (c : Thread nD τ) ↦{fullShare} f)
    ∗ (∃ f : S16x64x768.Idx → F .f32, abM.view.loc (c : Thread nD τ) ↦{fullShare} f) ∗ (∃ f : S64x768.Idx → F .f32, ownPt c fullShare f))

theorem bring_all (f : S16x64x768.Idx → F .f32) :
    iprop(opens c ∗ (bigSep Finset.univ fun k : OwnK => atPos ER (ownC c k) 0 ∅ 0) ∗ (bigSep Finset.univ fun k : Fin 16 => dutyTok ER (barC k) 0 c)
      ∗ (bigSep Finset.univ fun k : Fin 16 => rsCr c k) ∗ (bigSep Finset.univ fun k : Fin 16 => agCr c k)
      ∗ (sbM.view.loc (c : Thread nD τ) ↦{fullShare} f) ∗ (rbM.view.loc (c : Thread nD τ) ↦{fullShare} f₀) ∗ (abM.view.loc (c : Thread nD τ) ↦{fullShare} f₁))
    ⊢ iprop(pAp c ∗ pSb c ∗ (bigSep Finset.univ fun k : Fin 16 => sigRes c k) ∗ pRw c f₀ ∗ pAw c f₁ ∗ pRp c ∗ selfP c) := by
  have e1 : (bigSep Finset.univ fun k : Fin 16 => bring c f₀ f₁ f k)
      = iprop(((bigSep Finset.univ fun k : Fin 16 => atPos ER (rsSC c k) 0 ∅ 0) ∗ (bigSep Finset.univ fun k : Fin 16 => atPos ER (rsRC c k) 0 ∅ 0)
          ∗ (bigSep Finset.univ fun k : Fin 16 => atPos ER (agRC c k) 0 ∅ 0)) ∗ ((bigSep Finset.univ fun k : Fin 16 => rsCr c k) ∗ (bigSep Finset.univ fun k : Fin 16 => agCr c k))
        ∗ (bigSep Finset.univ fun k : Fin 16 => dutyTok ER (barC k) 0 c)
        ∗ (bigSep Finset.univ fun k : Fin 16 => sbPt c k f) ∗ (bigSep Finset.univ fun k : Fin 16 => rbPt c k f₀) ∗ (bigSep Finset.univ fun k : Fin 16 => abPt c k f₁)) := by
    unfold bring
    simp only [bigSep_two]
  have e2 : (bigSep Finset.univ fun k : Fin 16 => brought c f₀ f₁ k)
      = iprop(pSb c ∗ (bigSep Finset.univ fun k : Fin 16 => sigRes c k) ∗ pRw c f₀ ∗ pAw c f₁ ∗ pRp c ∗ (bigSep Finset.univ fun k : Fin 16 => selfK c k)) := by
    unfold brought pSb pRw pAw pRp
    simp only [bigSep_two]
  have e3 : (bigSep Finset.univ fun k : Fin 16 => (selfK c k : sProp (𝕄' F))) ⊢ selfP c :=
    BIBase.Entails.trans (bigSep_elim (Φ := fun k : Fin 16 => (selfK c k : sProp (𝕄' F))) (Finset.mem_univ c)) (Entails.of_eq (if_pos rfl))
  rw [own_fam (F := F) (fun sm => atPos ER ((c : Thread nD τ), sm) 0 ∅ 0), sb_split, rb_split, ab_split]
  iintro ⟨#HO, ⟨⟨Ha1, Ha2⟩, Ha3, Ha4⟩, Ht, Hc1, Hc2, Hs, Hr, Ha⟩
  ihave H := (Entails.of_eq e1.symm) $$ [Ha1 Ha2 Ha4 Ht Hc1 Hc2 Hs Hr Ha]
  · isplitl [Ha1 Ha2 Ha4]
    · isplitl [Ha1]; · iexact Ha1
      isplitl [Ha2]; · iexact Ha2
      iexact Ha4
    isplitl [Hc1 Hc2]
    · isplitl [Hc1]; · iexact Hc1
      iexact Hc2
    isplitl [Ht]; · iexact Ht
    isplitl [Hs]; · iexact Hs
    isplitl [Hr]; · iexact Hr
    iexact Ha
  ihave H := (bigSep_with_persistent (S := Finset.univ) (R := (opens c : sProp (𝕄' F))) fun k _ => bring_one c f₀ f₁ f k) $$ [H]
  · isplitr; · iexact HO
    iexact H
  ihave H := (Entails.of_eq e2) $$ H
  icases H with ⟨H1, H2, H3, H4, H5, H6⟩
  ihave H6 := e3 $$ H6
  isplitl [Ha3]; · unfold pAp; iexact Ha3
  isplitl [H1]; · iexact H1
  isplitl [H2]; · iexact H2
  isplitl [H3]; · iexact H3
  isplitl [H4]; · iexact H4
  isplitl [H5]; · iexact H5
  iexact H6

/-- What the kernel owes as it starts. -/
abbrev due₀ : CellTallies nD τ sig Unit := rsDue c 0 + agDue c 0 + barDue 0

/-- Into the kernel. -/
theorem enter : iprop(opened W c ∗ scratch c ∗ OwesE c (due₀ c) ∗ inpPts c I ∗ (∃ f : S1024x768.Idx → F .f32, outM.view.loc (c : Thread nD τ) ↦{fullShare} f))
    ⊢ iprop(∃ K f₀ f₁, runPre W K c I f₀ f₁ ∗ selfP c) := by
  unfold opened scratch duesP credP
  iintro ⟨⟨⟨%K, #HC⟩, Hb, Hat, ⟨Ht, Hrs, Hag, Hds⟩, Hcb, Hcr, Hca⟩, ⟨⟨%f, Hs⟩, ⟨%f₀, Hr⟩, ⟨%f₁, Ha⟩, Ho⟩, HO, HI, ⟨%fo, Hout⟩⟩
  ihave #HP := (Ctx_opens W K c) $$ HC
  ihave H := (bring_all c f₀ f₁ f) $$ [Hat Ht Hcr Hca Hs Hr Ha]
  · isplitr; · iexact HP
    isplitl [Hat]; · iexact Hat
    isplitl [Ht]; · iexact Ht
    isplitl [Hcr]; · iexact Hcr
    isplitl [Hca]; · iexact Hca
    isplitl [Hs]; · iexact Hs
    isplitl [Hr]; · iexact Hr
    iexact Ha
  icases H with ⟨Hap, Hsb, Hsig, Hrw, Haw, Hrp, Hself⟩
  iexists K, f₀, f₁
  isplitr [Hself]
  · unfold runPre sigSt outP pOwn
    rw [restP_zero (Fin.val : Fin 16 → ℕ)]
    isplitr; · iexact HC
    isplitl [HI]; · iexact HI
    isplitl [HO Hsig]
    · isplitl [HO]; · iexact HO
      iexact Hsig
    isplitl [Hcb Hb]
    · isplitl [Hcb]; · iexact Hcb
      iexact Hb
    isplitl [Hsb]; · iexact Hsb
    isplitl [Hrs]; · iexact Hrs
    isplitl [Hag]; · iexact Hag
    isplitl [Hrw]; · iexact Hrw
    isplitl [Ho]; · iexact Ho
    isplitl [Hds]; · iexact Hds
    isplitl [Haw]; · iexact Haw
    isplitl [Hout]
    · iexists fo
      isplitl [Hout]; · iexact Hout
      ipureintro
      exact fun i h => absurd h (by omega)
    isplitl [Hrp]; · iexact Hrp
    iexact Hap
  iexact Hself

end Cert.KernelIdeal.Mesh

end
-- ==== Proof.Exit.lean ====
/-
  Out of the kernel: what the run on one device ends with is joined, its cells are closed, and the device has its buffers and
  its semaphores at zero.
-/
module

public import proofs.«01_k».proof.Proof.Enter

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

variable (W : Fill F) (K : GSem nD τ sig → ℕ) (c : Dev nD) (I : Inp F) (f₀ f₁ : S16x64x768.Idx → F .f32)

/-! ## Closing the cells -/

/-- A place past every round of its cell that has a duty. -/
def past (g : GSem nD τ sig) : sProp (𝕄' F) := iprop(∃ R : ℕ, ⌜∀ r, R ≤ r → (sched W).duties g r = ∅⌝ ∗ atPos ER g R ∅ 0)

theorem past_one (g : GSem nD τ sig) : atPos ER g 1 ∅ 0 ⊢ past W g := by
  unfold past
  iintro H
  iexists 1
  isplitr; · ipureintro; exact duties_later W g
  iexact H
theorem past_zero {g : GSem nD τ sig} (h : (sched W).duties g 0 = ∅) : atPos ER g 0 ∅ 0 ⊢ past W g := by
  unfold past
  iintro H
  iexists 0
  isplitr
  · ipureintro
    intro r _
    rcases Nat.eq_zero_or_pos r with rfl | hr
    · exact h
    · exact duties_later W g r hr
  iexact H

theorem past_close (g : GSem nD τ sig) (κ : ℕ) : iprop(cellInv ER (sched W) κ g ∗ past W g) ⊢ (|={Set.univ}=> semVal g 0 : sProp (𝕄' F)) := by
  unfold past
  iintro ⟨#HI, ⟨%R, %h, H⟩⟩
  iapply (Rounds.cell_close ER (sched W) (Set.mem_univ κ) id h)
  isplitr; · iexact HI
  iexact H

theorem close_one (k : OwnK) : iprop(recs W K ∗ past W (ownC c k)) ⊢ (|={Set.univ}=> semVal (ownC c k) 0 : sProp (𝕄' F)) := by
  iintro ⟨#HR, H⟩
  iapply (past_close W (ownC c k) (K (ownC c k)))
  isplitr; · iapply (recs_own W K c k); iexact HR
  iexact H

theorem close_all : iprop(recs W K ∗ bigSep Finset.univ fun k : OwnK => past W (ownC c k)) ⊢ (|={Set.univ}=> Pipeline.ownSems0 osem c : sProp (𝕄' F)) := by
  unfold Pipeline.ownSems0
  exact BIBase.Entails.trans (bigSep_with_persistent (S := Finset.univ) (R := recs W K) fun k _ => close_one W K c k) (bigSep_fupd _ _)

/-! ## Out -/

/-- What device `c` has for device `k` as the kernel ends, -/
def left (k : Fin 16) : sProp (𝕄' F) := iprop(rsBack c W k ∗ agGot W c f₁ k ∗ rsGot W c f₀ k ∗ selfK c k)
/-- and what that comes to. -/
def leftover (k : Fin 16) : sProp (𝕄' F) :=
  iprop((∃ f : S16x64x768.Idx → F .f32, sbPt c k f) ∗ (∃ f : S16x64x768.Idx → F .f32, rbPt c k f) ∗ (∃ f : S16x64x768.Idx → F .f32, abPt c k f)
    ∗ past W (rsSC c k) ∗ past W (rsRC c k) ∗ past W (agRC c k))

theorem left_one (k : Fin 16) : left W c f₀ f₁ k ⊢ leftover W c k := by
  unfold left leftover
  by_cases h : k = c
  · rw [rsBack_self c W h, agGot_self W c f₁ h, rsGot_self W c f₀ h, show (selfK c k : sProp (𝕄' F)) = selfP c from if_pos h]
    unfold selfP
    subst h
    iintro ⟨Hs, Ha, Hr, H1, H2, H3⟩
    isplitl [Hs]; · iexists (W.sb k); iexact Hs
    isplitl [Hr]; · iexists f₀; iexact Hr
    isplitl [Ha]; · iexists f₁; iexact Ha
    isplitl [H1]; · iapply (past_zero W (duties_rsS_self W k)); iexact H1
    isplitl [H2]; · iapply (past_zero W (duties_rsR_self W k)); iexact H2
    iapply (past_zero W (duties_agR_self W k)); iexact H3
  · rw [rsBack_ne c W h, agGot_ne W c f₁ h, rsGot_ne W c f₀ h, show (selfK c k : sProp (𝕄' F)) = iprop(emp) from if_neg h]
    iintro ⟨⟨Hs, H1⟩, ⟨Ha, H3⟩, ⟨Hr, H2⟩, -⟩
    isplitl [Hs]; · iexists (W.sb c); iexact Hs
    isplitl [Hr]; · iexists (landR W c); iexact Hr
    isplitl [Ha]; · iexists (landA W); iexact Ha
    isplitl [H1]; · iapply (past_one W (rsSC c k)); iexact H1
    isplitl [H2]; · iapply (past_one W (rsRC c k)); iexact H2
    iapply (past_one W (agRC c k)); iexact H3

include f₀ in
theorem sb_join : (bigSep Finset.univ fun k : Fin 16 => iprop(∃ f : S16x64x768.Idx → F .f32, sbPt c k f))
    ⊢ (iprop(∃ f : S16x64x768.Idx → F .f32, sbM.view.loc (c : Thread nD τ) ↦{fullShare} f) : sProp (𝕄' F)) := by
  have hN : Nonempty (S16x64x768.Idx → F .f32) := ⟨f₀⟩
  refine BIBase.Entails.trans (bigSep_exists_pi Finset.univ fun (k : Fin 16) (f : S16x64x768.Idx → F .f32) => sbPt c k f) ?_
  iintro ⟨%fs, H⟩
  ihave H := (pointsTo_biUnion_join (nD := nD) (τ := τ) (sig := sig) (Ix := Unit) (Val := Elt F) (Name := ℕ) (U := UU) (Lvl := ℕ) (q := fullShare)
    (ℓ := sbM.view.loc (c : Thread nD τ)) Finset.univ slot fs f₀ fun b _ b' _ h => slot_dj b b' h) $$ H
  ihave H := (Entails.of_eq (congrArg (fun S => iprop(∃ g, ⌜∀ t ∈ (Finset.univ : Finset (Fin 16)), ∀ i ∈ slot t, g i = fs t i⌝
    ∗ (sbM.view.loc (c : Thread nD τ) ↦[S]{fullShare} g : sProp (𝕄' F)))) (sb_cover c))) $$ H
  icases H with ⟨%g, -, H⟩
  iexists g
  iexact H
include f₀ in
theorem rb_join : (bigSep Finset.univ fun k : Fin 16 => iprop(∃ f : S16x64x768.Idx → F .f32, rbPt c k f))
    ⊢ (iprop(∃ f : S16x64x768.Idx → F .f32, rbM.view.loc (c : Thread nD τ) ↦{fullShare} f) : sProp (𝕄' F)) := by
  have hN : Nonempty (S16x64x768.Idx → F .f32) := ⟨f₀⟩
  refine BIBase.Entails.trans (bigSep_exists_pi Finset.univ fun (k : Fin 16) (f : S16x64x768.Idx → F .f32) => rbPt c k f) ?_
  iintro ⟨%fs, H⟩
  ihave H := (pointsTo_biUnion_join (nD := nD) (τ := τ) (sig := sig) (Ix := Unit) (Val := Elt F) (Name := ℕ) (U := UU) (Lvl := ℕ) (q := fullShare)
    (ℓ := rbM.view.loc (c : Thread nD τ)) Finset.univ slot fs f₀ fun b _ b' _ h => slot_dj b b' h) $$ H
  ihave H := (Entails.of_eq (congrArg (fun S => iprop(∃ g, ⌜∀ t ∈ (Finset.univ : Finset (Fin 16)), ∀ i ∈ slot t, g i = fs t i⌝
    ∗ (rbM.view.loc (c : Thread nD τ) ↦[S]{fullShare} g : sProp (𝕄' F)))) (rb_cover c))) $$ H
  icases H with ⟨%g, -, H⟩
  iexists g
  iexact H
include f₀ in
theorem ab_join : (bigSep Finset.univ fun k : Fin 16 => iprop(∃ f : S16x64x768.Idx → F .f32, abPt c k f))
    ⊢ (iprop(∃ f : S16x64x768.Idx → F .f32, abM.view.loc (c : Thread nD τ) ↦{fullShare} f) : sProp (𝕄' F)) := by
  have hN : Nonempty (S16x64x768.Idx → F .f32) := ⟨f₀⟩
  refine BIBase.Entails.trans (bigSep_exists_pi Finset.univ fun (k : Fin 16) (f : S16x64x768.Idx → F .f32) => abPt c k f) ?_
  iintro ⟨%fs, H⟩
  ihave H := (pointsTo_biUnion_join (nD := nD) (τ := τ) (sig := sig) (Ix := Unit) (Val := Elt F) (Name := ℕ) (U := UU) (Lvl := ℕ) (q := fullShare)
    (ℓ := abM.view.loc (c : Thread nD τ)) Finset.univ slot fs f₀ fun b _ b' _ h => slot_dj b b' h) $$ H
  ihave H := (Entails.of_eq (congrArg (fun S => iprop(∃ g, ⌜∀ t ∈ (Finset.univ : Finset (Fin 16)), ∀ i ∈ slot t, g i = fs t i⌝
    ∗ (abM.view.loc (c : Thread nD τ) ↦[S]{fullShare} g : sProp (𝕄' F)))) (ab_cover c))) $$ H
  icases H with ⟨%g, -, H⟩
  iexists g
  iexact H

theorem self_in : (selfP c : sProp (𝕄' F)) ⊢ bigSep Finset.univ fun k : Fin 16 => selfK c k := by
  rw [bigSep_out c]
  iintro H
  isplitl [H]
  · ihave H := (Entails.of_eq (show (selfP c : sProp (𝕄' F)) = selfK c c from (if_pos rfl).symm)) $$ H
    iexact H
  iapply (Entails.of_eq (show (iprop(emp) : sProp (𝕄' F)) = bigSep (Finset.univ.erase c) fun k : Fin 16 => selfK c k from
    ((bigSep_congr fun k hk => if_neg (Finset.ne_of_mem_erase hk)).trans (bigSep_emp_const _)).symm))
  iempintro

/-- The tile, whole again. -/
theorem tile_join : iprop((bigSep Finset.univ fun i : Fin 15 => ownPt c (shareTok fullShare 15 i) (W.own c)) ∗ ownPt c (shareDrop fullShare 15) (W.own c))
    ⊢ (ownPt c fullShare (W.own c) : sProp (𝕄' F)) := by
  iintro ⟨H1, H2⟩
  iapply (pointsTo_toks_join fullShare 15)
  isplitl [H2]; · iexact H2
  iexact H1

theorem left_all :
    iprop((bigSep Finset.univ fun k : Fin 16 => rsBack c W k) ∗ (bigSep Finset.univ fun k : Fin 16 => agGot W c f₁ k) ∗ pRg W c f₀ ∗ selfP c
      ∗ (bigSep Finset.univ fun i : Fin 15 => agBack c W i) ∗ ownPt c (shareDrop fullShare 15) (W.own c))
    ⊢ iprop(scratch c ∗ bigSep Finset.univ fun k : OwnK => past W (ownC c k)) := by
  have e1 : (bigSep Finset.univ fun k : Fin 16 => left W c f₀ f₁ k)
      = iprop((bigSep Finset.univ fun k : Fin 16 => rsBack c W k) ∗ (bigSep Finset.univ fun k : Fin 16 => agGot W c f₁ k) ∗ pRg W c f₀
        ∗ (bigSep Finset.univ fun k : Fin 16 => selfK c k)) := by
    unfold left pRg
    simp only [bigSep_two]
  have e2 : (bigSep Finset.univ fun k : Fin 16 => leftover W c k)
      = iprop((bigSep Finset.univ fun k : Fin 16 => iprop(∃ f : S16x64x768.Idx → F .f32, sbPt c k f))
        ∗ (bigSep Finset.univ fun k : Fin 16 => iprop(∃ f : S16x64x768.Idx → F .f32, rbPt c k f))
        ∗ (bigSep Finset.univ fun k : Fin 16 => iprop(∃ f : S16x64x768.Idx → F .f32, abPt c k f))
        ∗ (bigSep Finset.univ fun k : Fin 16 => past W (rsSC c k)) ∗ (bigSep Finset.univ fun k : Fin 16 => past W (rsRC c k))
        ∗ (bigSep Finset.univ fun k : Fin 16 => past W (agRC c k))) := by
    unfold leftover
    simp only [bigSep_two]
  have e3 : (bigSep Finset.univ fun i : Fin 15 => agBack c W i) = iprop((bigSep Finset.univ fun i : Fin 15 => ownPt c (shareTok fullShare 15 i) (W.own c))
      ∗ (bigSep Finset.univ fun i : Fin 15 => atPos ER (agSC c i) 1 ∅ 0)) := by
    unfold agBack
    simp only [bigSep_two]
  rw [own_fam (F := F) (fun sm => past W ((c : Thread nD τ), sm))]
  unfold scratch
  iintro ⟨H1, H2, H3, H4, H5, H6⟩
  ihave H5 := (Entails.of_eq e3) $$ H5
  icases H5 with ⟨H5, H7⟩
  ihave Ho := (tile_join W c) $$ [H5 H6]
  · isplitl [H5]; · iexact H5
    iexact H6
  ihave H7 := (BIBase.Entails.trans (bigSep_mono (s := Finset.univ) fun (i : Fin 15) _ => past_one W (agSC c i)) BIBase.Entails.rfl) $$ H7
  ihave H4 := (self_in c) $$ H4
  ihave H := (Entails.of_eq e1.symm) $$ [H1 H2 H3 H4]
  · isplitl [H1]; · iexact H1
    isplitl [H2]; · iexact H2
    isplitl [H3]; · iexact H3
    iexact H4
  ihave H := (BIBase.Entails.trans (bigSep_mono (s := Finset.univ) fun (k : Fin 16) _ => left_one W c f₀ f₁ k) (Entails.of_eq e2)) $$ H
  icases H with ⟨Hs, Hr, Ha, P1, P2, P3⟩
  ihave Hs := (sb_join c f₀) $$ Hs
  ihave Hr := (rb_join c f₀) $$ Hr
  ihave Ha := (ab_join c f₀) $$ Ha
  isplitr [H7 P1 P2 P3]
  · isplitl [Hs]; · iexact Hs
    isplitl [Hr]; · iexact Hr
    isplitl [Ha]; · iexact Ha
    iexists (W.own c); iexact Ho
  isplitl [P1 P2]
  · isplitl [P1]; · iexact P1
    iexact P2
  isplitl [H7]; · iexact H7
  iexact P3

/-- What the kernel leaves. -/
def closed : sProp (𝕄' F) := iprop(semVal (barC c) 0 ∗ Pipeline.ownSems0 osem c)

theorem fin15 (k : Fin 15) : (k : ℕ) < 15 := k.isLt
theorem fin16 (k : Fin 16) : (k : ℕ) < 16 := k.isLt

/-- Out of the kernel. -/
theorem leave : iprop(runPost W K c I f₀ f₁ ∗ selfP c)
    ⊢ (|={Set.univ}=> (closed c ∗ scratch c ∗ OwesE c 0 ∗ inpPts c I ∗ (outM.view.loc (c : Thread nD τ) ↦{fullShare} (outW W : S1024x768.Idx → F .f32))) : sProp (𝕄' F)) := by
  unfold runPost finSt outP closed
  rw [doneP_all (Fin.val : Fin 15 → ℕ) fin15, doneP_all (Fin.val : Fin 16 → ℕ) fin16, doneP_all (Fin.val : Fin 16 → ℕ) fin16]
  iintro ⟨⟨#HC, HI, ⟨HO, -, Hab⟩, Hrb, ⟨%f, Hout, %hf⟩, Hag, Hod, Hrg, Hb⟩, Hself⟩
  have e : f = outW W := funext fun i => hf i (by have h : (i 0).val < 1024 := (i 0).isLt; omega)
  subst e
  ihave #HR := (Ctx_recs W K c) $$ HC
  ihave H := (left_all W c f₀ f₁) $$ [Hrb Hag Hrg Hself Hab Hod]
  · isplitl [Hrb]; · iexact Hrb
    isplitl [Hag]; · iexact Hag
    isplitl [Hrg]; · iexact Hrg
    isplitl [Hself]; · iexact Hself
    isplitl [Hab]; · iexact Hab
    iexact Hod
  icases H with ⟨Hsc, Hp⟩
  imod (close_all W K c) $$ [Hp] with Hp
  · isplitr; · iexact HR
    iexact Hp
  ihave Hb := (past_one W (barC c)) $$ Hb
  ihave #HB := (recs_bar W K c) $$ HR
  imod (past_close W (barC c) (K (barC c))) $$ [Hb] with Hb
  · isplitr
    · icases HB with ⟨H, -⟩; iexact H
    iexact Hb
  imodintro
  isplitl [Hb Hp]
  · isplitl [Hb]; · iexact Hb
    iexact Hp
  isplitl [Hsc]; · iexact Hsc
  isplitl [HO]; · iexact HO
  isplitl [HI]; · iexact HI
  iexact Hout

/-- The kernel on one device, from what it brings to what it leaves. -/
theorem kernel_run (hS : HS W c I) (hT : tileV W c = W.own c) {Q : PUnit → sProp (𝕄' F)}
    (hk : iprop(closed c ∗ scratch c ∗ OwesE c 0 ∗ inpPts c I ∗ (outM.view.loc (c : Thread nD τ) ↦{fullShare} (outW W : S1024x768.Idx → F .f32))) ⊢ Q ⟨⟩) :
    iprop(opened W c ∗ scratch c ∗ OwesE c (due₀ c) ∗ inpPts c I ∗ (∃ f : S1024x768.Idx → F .f32, outM.view.loc (c : Thread nD τ) ↦{fullShare} f))
    ⊢ WP c (cc0__fused_body xM (Memref.isWhole_whole _) qM (Memref.isWhole_whole _) kM (Memref.isWhole_whole _) vM (Memref.isWhole_whole _) oM (Memref.isWhole_whole _)
        outM (Memref.isWhole_whole _) sbM (Memref.isWhole_whole _) rbM (Memref.isWhole_whole _) abM (Memref.isWhole_whole _) ownM (Memref.isWhole_whole _)
        cc0_scratch4 cc0_scratch5 cc0_scratch6 cc0_scratch7) Q := by
  refine BIBase.Entails.trans (enter W c I) ?_
  iintro ⟨%K, %f₀, %f₁, H, Hself⟩
  have run := body_run W K c I f₀ f₁ hS (HT_of W c hT) ((v1177_tile W c f₀).trans hT) (Q := fun _ => runPost W K c I f₀ f₁) BIBase.Entails.rfl
  have fin : iprop(runPost W K c I f₀ f₁ ∗ selfP c) ⊢ (|={Set.univ}=> Q ⟨⟩ : sProp (𝕄' F)) :=
    BIBase.Entails.trans (leave W K c I f₀ f₁) (fupd_mono hk)
  ihave H := run $$ H
  iapply (BIBase.Entails.trans (wp_frame_r _ _ _) (BIBase.Entails.trans (wp_mono _ _ _ fun _ => fin) (wp_fupd _ _ _ _ _)))
  isplitl [H]; · iexact H
  iexact Hself

end Cert.KernelIdeal.Mesh

end
-- ==== Proof.Region.lean ====
/-
  The kernel's region.
-/
module

public import proofs.«01_k».proof.Proof.Exit
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit

@[expose] public section

set_option maxRecDepth 16384

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## What the devices hold -/

/-- The partial sums device `d` computes, all sixteen blocks. -/
def sbOf (I : Dev nD → Inp F) (d : Dev nD) : S16x64x768.Idx → F .f32 := fun i => sbv (I d) (i 0) (ValueIdx.ix3 0 (i 1) (i 2))
/-- What every device computes from the operands of all. -/
def fillOf (I : Dev nD → Inp F) : Fill F := ⟨sbOf I, fun d => tileV ⟨sbOf I, fun e i => sbOf I e (ValueIdx.ix3 0 (i 0) (i 1))⟩ d⟩

theorem fill_HS (I : Dev nD → Inp F) (c : Dev nD) : HS (fillOf I) c (I c) := fun _ _ _ => rfl
theorem fill_own (I : Dev nD → Inp F) (c : Dev nD) : tileV (fillOf I) c = (fillOf I).own c := rfl

variable (m : (ℓ : Loc nD τ sig) → Buf (Elt F) ℓ)

/-- The operands as the host leaves them for device `d`. -/
def inpAt (d : Dev nD) : Inp F := ⟨V1 m d main_v20, V1 m d main_v16, V1 m d main_v18, V1 m d main_v19, V1 m d main_v17⟩
/-- What the devices compute. -/
abbrev fillM : Fill F := fillOf (inpAt m)

/-! ## The kernel's region -/

/-- The kernel's proof data on device `c`. -/
def datM (c : Dev nD) : Pipeline.Dat τ (Elt F) Unit ℕ UU ℕ cfg0 c where
  A w := match w with
    | ⟨0, _⟩ => V1 m c main_v20
    | ⟨1, _⟩ => V1 m c main_v16
    | ⟨2, _⟩ => V1 m c main_v18
    | ⟨3, _⟩ => V1 m c main_v19
    | ⟨4, _⟩ => V1 m c main_v17
    | ⟨5, _⟩ => V1 m c main_v21
    | ⟨_ + 6, h⟩ => absurd h (Nat.not_lt.2 (Nat.le_add_left _ _))
  after w _ := match w with
    | ⟨0, _⟩ => (inpAt m c).x
    | ⟨1, _⟩ => (inpAt m c).wq
    | ⟨2, _⟩ => (inpAt m c).k
    | ⟨3, _⟩ => (inpAt m c).v
    | ⟨4, _⟩ => (inpAt m c).wo
    | ⟨5, _⟩ => outW (fillM m)
    | ⟨_ + 6, h⟩ => absurd h (Nat.not_lt.2 (Nat.le_add_left _ _))
  Φ t := if t.val = 0 then iprop(opened (fillM m) c ∗ scratch c ∗ ∃ r, prngReg c r) else iprop(closed c ∗ scratch c ∗ ∃ r, prngReg c r)
  q _ := fullShare
  owed t := if t.val = 0 then due₀ c else 0

def datsM : (p : Fin 1) → (c : Dev nD) → Pipeline.Dat τ (Elt F) Unit ℕ UU ℕ (cfgs p) c := fun _ c => datM m c

theorem Phi_first (c : Dev nD) : (datM m c).Φ (t0_0).castSucc = iprop(opened (fillM m) c ∗ scratch c ∗ ∃ r, prngReg c r) := by
  dsimp only [datM]; exact if_pos rfl
theorem Phi_zero (c : Dev nD) : (datM m c).Φ 0 = iprop(opened (fillM m) c ∗ scratch c ∗ ∃ r, prngReg c r) := by
  dsimp only [datM]; exact if_pos rfl
theorem Phi_succ (c : Dev nD) : (datM m c).Φ (t0_0).succ = iprop(closed c ∗ scratch c ∗ ∃ r, prngReg c r) := by
  dsimp only [datM]; exact if_neg (Nat.succ_ne_zero _)
theorem last_ne : (Fin.last cfg0.N).val ≠ 0 := by
  rw [Fin.val_last, show cfg0.N = 1 from N_0]; decide
theorem Phi_last (c : Dev nD) : (datM m c).Φ (Fin.last cfg0.N) = iprop(closed c ∗ scratch c ∗ ∃ r, prngReg c r) := by
  dsimp only [datM]; exact if_neg last_ne
theorem owed_first (c : Dev nD) : (datM m c).owed (t0_0).castSucc = due₀ c := by
  dsimp only [datM]; exact if_pos rfl
theorem owed_zero (c : Dev nD) : (datM m c).owed 0 = due₀ c := by
  dsimp only [datM]; exact if_pos rfl
theorem owed_succ (c : Dev nD) : (datM m c).owed (t0_0).succ = 0 := by
  dsimp only [datM]; exact if_neg (Nat.succ_ne_zero _)
theorem owed_last (c : Dev nD) : (datM m c).owed (Fin.last cfg0.N) = 0 := by
  dsimp only [datM]; exact if_neg last_ne

theorem owes_in (c : Dev nD) (t : Fin (cfg0.N + 1)) (O : CellTallies nD τ sig Unit) (h : (datM m c).owed t = O) :
    OwesE c O ⊢ ((datM m c).owesAt () t : sProp (𝕄' F)) := by
  unfold OwesE Pipeline.Dat.owesAt Pipeline.owesWithin Pipeline.Dat.bound
  rw [h]
  iintro ⟨%Wt, H⟩
  iexists Wt
  isplitr; · ipureintro; exact fun _ _ => Or.inl trivial
  iexact H
theorem owes_out (c : Dev nD) (t : Fin (cfg0.N + 1)) (O : CellTallies nD τ sig Unit) (h : (datM m c).owed t = O) :
    ((datM m c).owesAt () t : sProp (𝕄' F)) ⊢ OwesE c O := by
  unfold OwesE Pipeline.Dat.owesAt Pipeline.owesWithin
  rw [h]
  iintro ⟨%Wt, -, H⟩
  iexists Wt
  iexact H

/-- What the fetch puts in an input's buffer is the input. -/
theorem emb0 (y : ((win0 0).rect t0_0).shape.Idx) : ((View.whole main_v20).slice ((win0 0).rect t0_0)).emb y = y := by
  funext a
  refine Fin.ext ?_
  have h := (win0 0).rect_emb_val t0_0 y a
  refine h.trans ?_
  have hz : ∀ a, (win0 0).index t0_0 a = 0 := by decide +kernel
  rw [hz a, Nat.zero_mul, Nat.zero_add]
theorem before0 (c : Dev nD) (d) : (datM m c).before (0 : Fin 6) t0_0 d = (inpAt m c).x := by
  rw [Pipeline.Dat.before_fetched _ _ _ (fetch0_0 t0_0)]
  unfold Pipeline.Dat.fetched Pipeline.Dat.blockOf; dsimp only [datM]
  refine (show _ = View.read (Elt F) ((View.whole main_v20).slice ((win0 0).rect t0_0)) (V1 m c (Proc.tc.devRef main_v20)) from rfl).trans ?_
  unfold inpAt
  dsimp only
  generalize V1 m c (Proc.tc.devRef main_v20) = X
  funext y
  rw [View.read_apply]
  exact (cast_eq _ _).trans (congrArg X (emb0 y))
theorem emb1 (y : ((win0 1).rect t0_0).shape.Idx) : ((View.whole main_v16).slice ((win0 1).rect t0_0)).emb y = y := by
  funext a
  refine Fin.ext ?_
  have h := (win0 1).rect_emb_val t0_0 y a
  refine h.trans ?_
  have hz : ∀ a, (win0 1).index t0_0 a = 0 := by decide +kernel
  rw [hz a, Nat.zero_mul, Nat.zero_add]
theorem before1 (c : Dev nD) (d) : (datM m c).before (1 : Fin 6) t0_0 d = (inpAt m c).wq := by
  rw [Pipeline.Dat.before_fetched _ _ _ (fetch0_1 t0_0)]
  unfold Pipeline.Dat.fetched Pipeline.Dat.blockOf; dsimp only [datM]
  refine (show _ = View.read (Elt F) ((View.whole main_v16).slice ((win0 1).rect t0_0)) (V1 m c (Proc.tc.devRef main_v16)) from rfl).trans ?_
  unfold inpAt
  dsimp only
  generalize V1 m c (Proc.tc.devRef main_v16) = X
  funext y
  rw [View.read_apply]
  exact (cast_eq _ _).trans (congrArg X (emb1 y))
theorem emb2 (y : ((win0 2).rect t0_0).shape.Idx) : ((View.whole main_v18).slice ((win0 2).rect t0_0)).emb y = y := by
  funext a
  refine Fin.ext ?_
  have h := (win0 2).rect_emb_val t0_0 y a
  refine h.trans ?_
  have hz : ∀ a, (win0 2).index t0_0 a = 0 := by decide +kernel
  rw [hz a, Nat.zero_mul, Nat.zero_add]
theorem before2 (c : Dev nD) (d) : (datM m c).before (2 : Fin 6) t0_0 d = (inpAt m c).k := by
  rw [Pipeline.Dat.before_fetched _ _ _ (fetch0_2 t0_0)]
  unfold Pipeline.Dat.fetched Pipeline.Dat.blockOf; dsimp only [datM]
  refine (show _ = View.read (Elt F) ((View.whole main_v18).slice ((win0 2).rect t0_0)) (V1 m c (Proc.tc.devRef main_v18)) from rfl).trans ?_
  unfold inpAt
  dsimp only
  generalize V1 m c (Proc.tc.devRef main_v18) = X
  funext y
  rw [View.read_apply]
  exact (cast_eq _ _).trans (congrArg X (emb2 y))
theorem emb3 (y : ((win0 3).rect t0_0).shape.Idx) : ((View.whole main_v19).slice ((win0 3).rect t0_0)).emb y = y := by
  funext a
  refine Fin.ext ?_
  have h := (win0 3).rect_emb_val t0_0 y a
  refine h.trans ?_
  have hz : ∀ a, (win0 3).index t0_0 a = 0 := by decide +kernel
  rw [hz a, Nat.zero_mul, Nat.zero_add]
theorem before3 (c : Dev nD) (d) : (datM m c).before (3 : Fin 6) t0_0 d = (inpAt m c).v := by
  rw [Pipeline.Dat.before_fetched _ _ _ (fetch0_3 t0_0)]
  unfold Pipeline.Dat.fetched Pipeline.Dat.blockOf; dsimp only [datM]
  refine (show _ = View.read (Elt F) ((View.whole main_v19).slice ((win0 3).rect t0_0)) (V1 m c (Proc.tc.devRef main_v19)) from rfl).trans ?_
  unfold inpAt
  dsimp only
  generalize V1 m c (Proc.tc.devRef main_v19) = X
  funext y
  rw [View.read_apply]
  exact (cast_eq _ _).trans (congrArg X (emb3 y))
theorem emb4 (y : ((win0 4).rect t0_0).shape.Idx) : ((View.whole main_v17).slice ((win0 4).rect t0_0)).emb y = y := by
  funext a
  refine Fin.ext ?_
  have h := (win0 4).rect_emb_val t0_0 y a
  refine h.trans ?_
  have hz : ∀ a, (win0 4).index t0_0 a = 0 := by decide +kernel
  rw [hz a, Nat.zero_mul, Nat.zero_add]
theorem before4 (c : Dev nD) (d) : (datM m c).before (4 : Fin 6) t0_0 d = (inpAt m c).wo := by
  rw [Pipeline.Dat.before_fetched _ _ _ (fetch0_4 t0_0)]
  unfold Pipeline.Dat.fetched Pipeline.Dat.blockOf; dsimp only [datM]
  refine (show _ = View.read (Elt F) ((View.whole main_v17).slice ((win0 4).rect t0_0)) (V1 m c (Proc.tc.devRef main_v17)) from rfl).trans ?_
  unfold inpAt
  dsimp only
  generalize V1 m c (Proc.tc.devRef main_v17) = X
  funext y
  rw [View.read_apply]
  exact (cast_eq _ _).trans (congrArg X (emb4 y))

end Cert.KernelIdeal.Mesh

end
-- ==== Proof.RegionBody.lean ====
/-
  The kernel's body obligation: from the staged operands and what the launch dealt, the kernel runs and leaves the whole result
  in the staging buffer.
-/
module

public import proofs.«01_k».proof.Proof.Region

@[expose] public section

set_option maxRecDepth 16384

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

variable (m : (ℓ : Loc nD τ sig) → Buf (Elt F) ℓ)

theorem rest_eq (c : Dev nD) : (Pipeline.scopedRest spec0 c : sProp (𝕄' F)) = scratch c := scopedRest0_eq c

/-! A window's buffer is the whole staging buffer. -/
theorem stage0 (c : Dev nD) (X) : (owns (c : Thread nD τ) ((cfg0.win 0).stage (cfg0.slots t0_0 0)) fullShare X : sProp (𝕄' F))
    = (xM.view.loc (c : Thread nD τ) ↦{fullShare} X) := owns_whole (c : Thread nD τ) cc0_stg0_0 fullShare X
theorem stage1 (c : Dev nD) (X) : (owns (c : Thread nD τ) ((cfg0.win 1).stage (cfg0.slots t0_0 1)) fullShare X : sProp (𝕄' F))
    = (qM.view.loc (c : Thread nD τ) ↦{fullShare} X) := owns_whole (c : Thread nD τ) cc0_stg1_0 fullShare X
theorem stage2 (c : Dev nD) (X) : (owns (c : Thread nD τ) ((cfg0.win 2).stage (cfg0.slots t0_0 2)) fullShare X : sProp (𝕄' F))
    = (kM.view.loc (c : Thread nD τ) ↦{fullShare} X) := owns_whole (c : Thread nD τ) cc0_stg2_0 fullShare X
theorem stage3 (c : Dev nD) (X) : (owns (c : Thread nD τ) ((cfg0.win 3).stage (cfg0.slots t0_0 3)) fullShare X : sProp (𝕄' F))
    = (vM.view.loc (c : Thread nD τ) ↦{fullShare} X) := owns_whole (c : Thread nD τ) cc0_stg3_0 fullShare X
theorem stage4 (c : Dev nD) (X) : (owns (c : Thread nD τ) ((cfg0.win 4).stage (cfg0.slots t0_0 4)) fullShare X : sProp (𝕄' F))
    = (oM.view.loc (c : Thread nD τ) ↦{fullShare} X) := owns_whole (c : Thread nD τ) cc0_stg4_0 fullShare X
theorem stage5 (c : Dev nD) (X) : (owns (c : Thread nD τ) ((cfg0.win 5).stage (cfg0.slots t0_0 5)) fullShare X : sProp (𝕄' F))
    = (outM.view.loc (c : Thread nD τ) ↦{fullShare} X) := owns_whole (c : Thread nD τ) cc0_stg5_0 fullShare X
theorem stageIn0 (c : Dev nD) (d) : (owns (c : Thread nD τ) ((cfg0.win 0).stage (cfg0.slots t0_0 0)) fullShare ((datM m c).before (0 : Fin 6) t0_0 d) : sProp (𝕄' F))
    = (xM.view.loc (c : Thread nD τ) ↦{fullShare} (inpAt m c).x) := by
  rw [before0, stage0]
theorem stageOut0 (c : Dev nD) : (owns (c : Thread nD τ) ((cfg0.win 0).stage (cfg0.slots t0_0 0)) fullShare ((datM m c).after (0 : Fin 6) t0_0) : sProp (𝕄' F))
    = (xM.view.loc (c : Thread nD τ) ↦{fullShare} (inpAt m c).x) := stage0 c _
theorem stageIn1 (c : Dev nD) (d) : (owns (c : Thread nD τ) ((cfg0.win 1).stage (cfg0.slots t0_0 1)) fullShare ((datM m c).before (1 : Fin 6) t0_0 d) : sProp (𝕄' F))
    = (qM.view.loc (c : Thread nD τ) ↦{fullShare} (inpAt m c).wq) := by
  rw [before1, stage1]
theorem stageOut1 (c : Dev nD) : (owns (c : Thread nD τ) ((cfg0.win 1).stage (cfg0.slots t0_0 1)) fullShare ((datM m c).after (1 : Fin 6) t0_0) : sProp (𝕄' F))
    = (qM.view.loc (c : Thread nD τ) ↦{fullShare} (inpAt m c).wq) := stage1 c _
theorem stageIn2 (c : Dev nD) (d) : (owns (c : Thread nD τ) ((cfg0.win 2).stage (cfg0.slots t0_0 2)) fullShare ((datM m c).before (2 : Fin 6) t0_0 d) : sProp (𝕄' F))
    = (kM.view.loc (c : Thread nD τ) ↦{fullShare} (inpAt m c).k) := by
  rw [before2, stage2]
theorem stageOut2 (c : Dev nD) : (owns (c : Thread nD τ) ((cfg0.win 2).stage (cfg0.slots t0_0 2)) fullShare ((datM m c).after (2 : Fin 6) t0_0) : sProp (𝕄' F))
    = (kM.view.loc (c : Thread nD τ) ↦{fullShare} (inpAt m c).k) := stage2 c _
theorem stageIn3 (c : Dev nD) (d) : (owns (c : Thread nD τ) ((cfg0.win 3).stage (cfg0.slots t0_0 3)) fullShare ((datM m c).before (3 : Fin 6) t0_0 d) : sProp (𝕄' F))
    = (vM.view.loc (c : Thread nD τ) ↦{fullShare} (inpAt m c).v) := by
  rw [before3, stage3]
theorem stageOut3 (c : Dev nD) : (owns (c : Thread nD τ) ((cfg0.win 3).stage (cfg0.slots t0_0 3)) fullShare ((datM m c).after (3 : Fin 6) t0_0) : sProp (𝕄' F))
    = (vM.view.loc (c : Thread nD τ) ↦{fullShare} (inpAt m c).v) := stage3 c _
theorem stageIn4 (c : Dev nD) (d) : (owns (c : Thread nD τ) ((cfg0.win 4).stage (cfg0.slots t0_0 4)) fullShare ((datM m c).before (4 : Fin 6) t0_0 d) : sProp (𝕄' F))
    = (oM.view.loc (c : Thread nD τ) ↦{fullShare} (inpAt m c).wo) := by
  rw [before4, stage4]
theorem stageOut4 (c : Dev nD) : (owns (c : Thread nD τ) ((cfg0.win 4).stage (cfg0.slots t0_0 4)) fullShare ((datM m c).after (4 : Fin 6) t0_0) : sProp (𝕄' F))
    = (oM.view.loc (c : Thread nD τ) ↦{fullShare} (inpAt m c).wo) := stage4 c _
theorem stageOut5 (c : Dev nD) : (owns (c : Thread nD τ) ((cfg0.win 5).stage (cfg0.slots t0_0 5)) fullShare ((datM m c).after (5 : Fin 6) t0_0) : sProp (𝕄' F))
    = (outM.view.loc (c : Thread nD τ) ↦{fullShare} (outW (fillM m) : S1024x768.Idx → F .f32)) := stage5 c _

/-- The kernel's body obligation. -/
theorem body_ok (c : Dev nD) : Pipeline.BodyObligation (datM m c) defs₀ Variants.none () Set.univ := fun t => by
  obtain rfl := fin_N0 t
  rw [bigSep_W0, bigSep_W0]
  rw [Phi_first, Phi_succ]
  dsimp only
  iintro ⟨⟨Ho, Hs, Hp⟩, HO, ⟨%d0, H0⟩, ⟨%d1, H1⟩, ⟨%d2, H2⟩, ⟨%d3, H3⟩, ⟨%d4, H4⟩, ⟨%d5, H5⟩⟩
  ihave HO := (owes_out m c t0_0.castSucc (due₀ c) (owed_first m c)) $$ HO
  ihave H0 := (Entails.of_eq (stageIn0 m c d0)) $$ H0
  ihave H1 := (Entails.of_eq (stageIn1 m c d1)) $$ H1
  ihave H2 := (Entails.of_eq (stageIn2 m c d2)) $$ H2
  ihave H3 := (Entails.of_eq (stageIn3 m c d3)) $$ H3
  ihave H4 := (Entails.of_eq (stageIn4 m c d4)) $$ H4
  ihave H5 := (Entails.of_eq (stage5 c _)) $$ H5
  have run := kernel_run (fillM m) c (inpAt m c) (fill_HS (inpAt m) c) (fill_own (inpAt m) c)
    (Q := fun _ => iprop(closed c ∗ scratch c ∗ OwesE c 0 ∗ inpPts c (inpAt m c) ∗ (outM.view.loc (c : Thread nD τ) ↦{fullShare} (outW (fillM m) : S1024x768.Idx → F .f32)))) BIBase.Entails.rfl
  ihave H := run $$ [Ho Hs HO H0 H1 H2 H3 H4 H5]
  · isplitl [Ho]; · iexact Ho
    isplitl [Hs]; · iexact Hs
    isplitl [HO]; · iexact HO
    isplitl [H0 H1 H2 H3 H4]
    · unfold inpPts
      isplitl [H0]; · iexact H0
      isplitl [H1]; · iexact H1
      isplitl [H2]; · iexact H2
      isplitl [H3]; · iexact H3
      iexact H4
    iexists _; iexact H5
  have fin : iprop((closed c ∗ scratch c ∗ OwesE c 0 ∗ inpPts c (inpAt m c) ∗ (outM.view.loc (c : Thread nD τ) ↦{fullShare} (outW (fillM m) : S1024x768.Idx → F .f32)))
      ∗ ∃ r, prngReg c r)
      ⊢ iprop((closed c ∗ scratch c ∗ ∃ r, prngReg c r) ∗ (datM m c).owesAt () t0_0.succ
        ∗ owns (c : Thread nD τ) ((cfg0.win 0).stage (cfg0.slots t0_0 0)) fullShare ((datM m c).after (0 : Fin 6) t0_0)
        ∗ owns (c : Thread nD τ) ((cfg0.win 1).stage (cfg0.slots t0_0 1)) fullShare ((datM m c).after (1 : Fin 6) t0_0)
        ∗ owns (c : Thread nD τ) ((cfg0.win 2).stage (cfg0.slots t0_0 2)) fullShare ((datM m c).after (2 : Fin 6) t0_0)
        ∗ owns (c : Thread nD τ) ((cfg0.win 3).stage (cfg0.slots t0_0 3)) fullShare ((datM m c).after (3 : Fin 6) t0_0)
        ∗ owns (c : Thread nD τ) ((cfg0.win 4).stage (cfg0.slots t0_0 4)) fullShare ((datM m c).after (4 : Fin 6) t0_0)
        ∗ owns (c : Thread nD τ) ((cfg0.win 5).stage (cfg0.slots t0_0 5)) fullShare ((datM m c).after (5 : Fin 6) t0_0) : sProp (𝕄' F)) := by
    rw [stageOut0, stageOut1, stageOut2, stageOut3, stageOut4, stageOut5]
    unfold inpPts
    iintro ⟨⟨Hc, Hs, HO, ⟨H0, H1, H2, H3, H4⟩, H5⟩, Hp⟩
    isplitl [Hc Hs Hp]
    · isplitl [Hc]; · iexact Hc
      isplitl [Hs]; · iexact Hs
      iexact Hp
    isplitl [HO]
    · iapply (owes_in m c t0_0.succ 0 (owed_succ m c)); iexact HO
    isplitl [H0]; · iexact H0
    isplitl [H1]; · iexact H1
    isplitl [H2]; · iexact H2
    isplitl [H3]; · iexact H3
    isplitl [H4]; · iexact H4
    iexact H5
  iapply (BIBase.Entails.trans (wp_frame_r _ _ _) (wp_mono _ _ _ fun _ => fin))
  isplitl [H]; · iexact H
  iexact Hp

end Cert.KernelIdeal.Mesh

end
-- ==== Proof.RegionSeg.lean ====
/-
  The kernel's region as a segment of the program.
-/
module

public import proofs.«01_k».proof.Proof.RegionBody

@[expose] public section

set_option maxRecDepth 16384

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

variable (m : (ℓ : Loc nD τ sig) → Buf (Elt F) ℓ)

/-- What the region leaves: the whole result in its array, the rest as it was. -/
def outsM : Outs (F := F) := fun _ r c => Function.update (V1 m c) (Proc.devRef .tc main_v21) (outW (fillM m) : S1024x768.Idx → F .f32) (Proc.devRef .tc r)
theorem outsM_at (c : Dev nD) : outsM m 2 main_v21 c = (outW (fillM m) : S1024x768.Idx → F .f32) := Function.update_self _ _ _
theorem V2_out (c : Dev nD) : V2 m (outsM m) c main_v21 = (outW (fillM m) : S1024x768.Idx → F .f32) :=
  (Function.update_self _ _ _).trans (outsM_at m c)

theorem due_above (c : Dev nD) : Above 0 (due₀ c) :=
  ((above_rs c (l := 0) (by decide) 0).add (above_ag c (by decide) 0)).add
    (Above.restT fun k => Above.tally k (.reg barS) 1 (by rw [lv_bar]; decide))

/-- The unscoped buffers that are no operand or result of the kernel. -/
abbrev restRefs : Finset (DevRef τ sig) := Pipeline.ucRefs τ sig \ Pipeline.arrRefs spec0
theorem arr_sub : (Pipeline.arrRefs spec0 : Finset (DevRef τ sig)) ⊆ Pipeline.ucRefs τ sig := Pipeline.arrRefs_sub_ucRefs spec0 winFacts0.arr_unscoped
theorem out_mem : (Proc.devRef .tc main_v21 : DevRef τ sig) ∈ (Pipeline.arrRefs spec0 : Finset (DevRef τ sig)) :=
  Finset.mem_map.mpr ⟨main_v21, Finset.mem_image.mpr ⟨(5 : Fin 6), Finset.mem_univ _, rfl⟩, rfl⟩

theorem V2_rest (c : Dev nD) (b : DevRef τ sig) (hb : b ∈ restRefs) : V2 m (outsM m) c b = V1 m c b := by
  refine Function.update_of_ne ?_ _ _
  rintro rfl
  exact (Finset.mem_sdiff.mp hb).2 out_mem

theorem in0 (c : Dev nD) (n : ℕ) : (datM m c).arrAt (0 : Fin 6) n = V1 m c main_v20 := ((datM m c).arrAt_in (0 : Fin 6) rfl n).trans rfl
theorem in1 (c : Dev nD) (n : ℕ) : (datM m c).arrAt (1 : Fin 6) n = V1 m c main_v16 := ((datM m c).arrAt_in (1 : Fin 6) rfl n).trans rfl
theorem in2 (c : Dev nD) (n : ℕ) : (datM m c).arrAt (2 : Fin 6) n = V1 m c main_v18 := ((datM m c).arrAt_in (2 : Fin 6) rfl n).trans rfl
theorem in3 (c : Dev nD) (n : ℕ) : (datM m c).arrAt (3 : Fin 6) n = V1 m c main_v19 := ((datM m c).arrAt_in (3 : Fin 6) rfl n).trans rfl
theorem in4 (c : Dev nD) (n : ℕ) : (datM m c).arrAt (4 : Fin 6) n = V1 m c main_v17 := ((datM m c).arrAt_in (4 : Fin 6) rfl n).trans rfl

theorem out5 (c : Dev nD) : (datM m c).arrAt (5 : Fin 6) cfg0.N = (outW (fillM m) : S1024x768.Idx → F .f32) := by
  refine (datM m c).arrAt_eq_of_after_last (5 : Fin 6) t0_0 (by decide +kernel) _ fun j => ?_
  dsimp only [datM]
  rfl

theorem arr_first (c : Dev nD) : ∀ w : Fin 6, (datM m c).arrAt w 0 = V1 m c (Proc.devRef .tc (Pipeline.arrRef spec0 w))
  | ⟨0, _⟩ => in0 m c 0
  | ⟨1, _⟩ => in1 m c 0
  | ⟨2, _⟩ => in2 m c 0
  | ⟨3, _⟩ => in3 m c 0
  | ⟨4, _⟩ => in4 m c 0
  | ⟨5, _⟩ => rfl
  | ⟨_ + 6, h⟩ => absurd h (Nat.not_lt.2 (Nat.le_add_left _ _))
theorem arr_last (c : Dev nD) : ∀ w : Fin 6, (datM m c).arrAt w cfg0.N = V2 m (outsM m) c (Proc.devRef .tc (Pipeline.arrRef spec0 w))
  | ⟨0, _⟩ => (in0 m c _).trans (V2_of m (outsM m) c main_v20 (by decide)).symm
  | ⟨1, _⟩ => (in1 m c _).trans (V2_of m (outsM m) c main_v16 (by decide)).symm
  | ⟨2, _⟩ => (in2 m c _).trans (V2_of m (outsM m) c main_v18 (by decide)).symm
  | ⟨3, _⟩ => (in3 m c _).trans (V2_of m (outsM m) c main_v19 (by decide)).symm
  | ⟨4, _⟩ => (in4 m c _).trans (V2_of m (outsM m) c main_v17 (by decide)).symm
  | ⟨5, _⟩ => (out5 m c).trans (V2_out m c).symm
  | ⟨_ + 6, h⟩ => absurd h (Nat.not_lt.2 (Nat.le_add_left _ _))

theorem enterP (c : Dev nD) : iprop(Pipeline.scopedRest (Pipeline.pin (pcfgs (F := F)) adm 0).spec c ∗ (∃ r, prngReg c r)
      ∗ StableHlo.held (c.tc : Thread nD τ) ∅ (V1 m c) ∗ opened (fillM m) c) ⊢ ((datM m c).Φ 0 : sProp (𝕄' F)) := by
  rw [Phi_zero]
  iintro ⟨Hs, Hp, -, Ho⟩
  isplitl [Ho]; · iexact Ho
  isplitl [Hs]; · iapply (Entails.of_eq (rest_eq (F := F) c)); iexact Hs
  iexact Hp
theorem leaveP (c : Dev nD) : ((datM m c).Φ (Fin.last cfg0.N) : sProp (𝕄' F)) ⊢ iprop(Pipeline.scopedRest (Pipeline.pin (pcfgs (F := F)) adm 0).spec c ∗ (∃ r, prngReg c r)
      ∗ StableHlo.held (c.tc : Thread nD τ) ∅ (V2 m (outsM m) c) ∗ Pipeline.ownSems0 osem c ∗ semVal (barC c) 0) := by
  rw [Phi_last]
  unfold closed
  iintro ⟨⟨Hb, Ho⟩, Hs, Hp⟩
  isplitl [Hs]; · iapply (Entails.of_eq (rest_eq (F := F) c).symm); iexact Hs
  isplitl [Hp]; · iexact Hp
  isplitr
  · unfold StableHlo.held; rw [bigSep_empty]; iempintro
  isplitl [Ho]; · iexact Ho
  iexact Hb

set_option backward.isDefEq.respectTransparency.types false in
/-- The kernel's region, entered owing what the kernel pays and left owing nothing. -/
def regM : Pipeline.RegionSeg (pcfgs (F := F)) adm (datsM m) () defs₀ Variants.none L lv 0 :=
  Pipeline.RegionSeg.ofTalk (pcfgs (F := F)) adm (datsM m) () defs₀ Variants.none L lv 0 osem own_facts
    ∅ restRefs (Finset.empty_subset _) launch0.toP rfl (fun c => (body_ok m c).loose)
    (fun _ => 0) due₀ (fun c => (owed_zero m c).trans (zero_add _).symm) (owed_last m) (fun _ => rfl)
    (fun c w => by unfold Pipeline.Dat.share; split <;> rfl)
    (V1 m) (V2 m (outsM m)) (fun c b hb => V2_rest m c b (Finset.mem_sdiff.mp hb).1)
    (dealt (fillM m)) (fun c => semVal (barC c) 0) (opened (fillM m)) (fun c => semVal (barC c) 0)
    (open_all (fillM m)) (enterP m) (leaveP m) (fun c => by iintro H; imodintro; iexact H)
    (fun _ => 0)
    ⟨fun c w s => by rw [L_tc]; exact Finset.mem_singleton_self _,
      fun c w s => by unfold lv; rw [stage_role w s],
      fun c t g i h => by
        have e : (datsM m 0 c).owed t = if t.val = 0 then due₀ c else 0 := rfl
        rw [e] at h
        split at h
        · have hA := due_above c g i h
          exact ⟨by rw [show L g = {()} from if_pos hA.1]; exact Finset.mem_singleton_self _, hA.2⟩
        · exact absurd h (Nat.lt_irrefl 0)⟩
    (fun _ => iprop(emp))
    (arr_first m) (arr_last m)

end Cert.KernelIdeal.Mesh

end
-- ==== Proof.Deal.lean ====
module

public import proofs.«01_k».proof.Proof.RegionSeg

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! # What the program's launch deals every device -/

/-- Every device's barrier cell. -/
def barEmb : Dev nD ↪ GSem nD τ sig := ⟨fun c => barC c, fun _ _ h => congrArg (fun g : GSem nD τ sig => g.1.1) h⟩
/-- Every device's own DMA cells. -/
def ownEmb : Dev nD × OwnK ↪ GSem nD τ sig :=
  ⟨fun p => ownC p.1 p.2, fun _ _ h => Prod.ext (congrArg (fun g : GSem nD τ sig => g.1.1) h) (osem_inj (congrArg Prod.snd h))⟩
abbrev barCells : Finset (GSem nD τ sig) := Finset.univ.map barEmb
abbrev ownCells : Finset (GSem nD τ sig) := Finset.univ.map ownEmb

theorem cells_disjoint : Disjoint barCells ownCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

/-- A duty at one of device `c`'s cells: on its barrier cell one for every device, on every other cell one. -/
abbrev DutyK : Type := Fin 16 ⊕ OwnK
/-- The semaphore a duty lies at, -/
def dSem : DutyK → SemLoc sig
  | .inl _ => .reg barS
  | .inr k => osem k
/-- and who pays it: the cell's own device what its own copies send, the peer what arrives. -/
def dPay (c : Fin 16) : DutyK → Fin 16
  | .inl k => k
  | .inr (.inl (.inl _)) => c
  | .inr (.inl (.inr k)) => k
  | .inr (.inr (.inl _)) => c
  | .inr (.inr (.inr k)) => k

theorem duty_inj (c : Fin 16) (a b : DutyK) (hs : dSem a = dSem b) (hp : dPay c a = dPay c b) : a = b := by
  rcases a with a | a <;> rcases b with b | b
  · exact congrArg Sum.inl hp
  · exact absurd hs.symm (osem_ne_bar b)
  · exact absurd hs (osem_ne_bar a)
  · exact congrArg Sum.inr (osem_inj hs)

def dutyEmb : Dev nD × DutyK ↪ GSem nD τ sig × ℕ × Fin 16 :=
  ⟨fun p => (((p.1 : Thread nD τ), dSem p.2), 0, dPay p.1 p.2), fun a b h => by
    obtain ⟨c, a⟩ := a
    obtain ⟨c', b⟩ := b
    have hc : c = c' := congrArg (fun t : GSem nD τ sig × ℕ × Fin 16 => t.1.1.1) h
    subst hc
    exact Prod.ext rfl (duty_inj c a b (congrArg (fun t : GSem nD τ sig × ℕ × Fin 16 => t.1.2) h)
      (congrArg (fun t : GSem nD τ sig × ℕ × Fin 16 => t.2.2) h))⟩
/-- Every duty. -/
abbrev duties : Finset (GSem nD τ sig × ℕ × Fin 16) := Finset.univ.map dutyEmb

/-! ## The duties' tokens, each to who pays it -/

theorem duties_eq : (bigSep duties fun x => (dutyTok ER x.1 x.2.1 x.2.2 : sProp (𝕄' F)))
    = bigSep Finset.univ fun c : Dev nD => iprop((bigSep Finset.univ fun k : Fin 16 => dutyTok ER (barC c) 0 k)
      ∗ ((bigSep Finset.univ fun k : Fin 16 => dutyTok ER (rsSC c k) 0 c) ∗ bigSep Finset.univ fun k : Fin 16 => dutyTok ER (rsRC c k) 0 k)
      ∗ (bigSep Finset.univ fun i : Fin 15 => dutyTok ER (agSC c i) 0 c) ∗ bigSep Finset.univ fun k : Fin 16 => dutyTok ER (agRC c k) 0 k) := by
  unfold duties
  rw [bigSep_map, bigSep_univ_prod]
  refine bigSep_congr fun c _ => ?_
  refine (bigSep_univ_sum _).trans (congrArg₂ _ rfl ?_)
  refine (bigSep_univ_sum _).trans ?_
  refine (congrArg₂ _ (bigSep_univ_sum _) (bigSep_univ_sum _)).trans ?_
  rfl

theorem deal_dues (c : Fin 16) : iprop((bigSep Finset.univ fun k : Fin 16 => dutyTok ER (barC k) 0 c)
      ∗ ((bigSep Finset.univ fun k : Fin 16 => dutyTok ER (rsSC c k) 0 c) ∗ bigSep Finset.univ fun k : Fin 16 => dutyTok ER (rsRC k c) 0 c)
      ∗ (bigSep Finset.univ fun i : Fin 15 => dutyTok ER (agSC c i) 0 c) ∗ bigSep Finset.univ fun k : Fin 16 => dutyTok ER (agRC k c) 0 c)
    ⊢ (duesP c : sProp (𝕄' F)) := by
  unfold duesP pRs pAg pDs
  have h1 : ∀ k : Fin 16, iprop(dutyTok ER (rsSC c k) 0 c ∗ dutyTok ER (rsRC k c) 0 c) ⊢ (rsTok c k : sProp (𝕄' F)) := fun k => by
    unfold rsTok
    split
    · iintro -; iempintro
    · exact BIBase.Entails.rfl
  have h2 : ∀ k : Fin 16, (dutyTok ER (agRC k c) 0 c : sProp (𝕄' F)) ⊢ agTok c k := fun k => by
    unfold agTok
    split
    · iintro -; iempintro
    · exact BIBase.Entails.rfl
  iintro ⟨Hb, ⟨H1, H2⟩, H3, H4⟩
  isplitl [Hb]; · iexact Hb
  isplitl [H1 H2]
  · iapply (BIBase.Entails.trans (bigSep_mono (s := Finset.univ) fun k _ => h1 k) BIBase.Entails.rfl)
    iapply (Entails.of_eq (bigSep_two _ _).symm)
    isplitl [H1]; · iexact H1
    iexact H2
  isplitl [H4]
  · iapply (BIBase.Entails.trans (bigSep_mono (s := Finset.univ) fun k _ => h2 k) BIBase.Entails.rfl)
    iexact H4
  iexact H3

theorem duties_deal : (bigSep duties fun x => (dutyTok ER x.1 x.2.1 x.2.2 : sProp (𝕄' F))) ⊢ bigSep Finset.univ fun c : Dev nD => duesP c := by
  rw [duties_eq]
  refine BIBase.Entails.trans ?_ (bigSep_mono (s := Finset.univ) fun c _ => deal_dues c)
  simp only [bigSep_two]
  iintro ⟨Hb, ⟨H1, H2⟩, H3, H4⟩
  isplitl [Hb]
  · iapply (Entails.of_eq (bigSep_univ_comm (fun c k : Fin 16 => (dutyTok ER (barC c) 0 k : sProp (𝕄' F))))); iexact Hb
  isplitl [H1 H2]
  · isplitl [H1]; · iexact H1
    iapply (Entails.of_eq (bigSep_univ_comm (fun c k : Fin 16 => (dutyTok ER (rsRC c k) 0 k : sProp (𝕄' F))))); iexact H2
  isplitl [H3]; · iexact H3
  iapply (Entails.of_eq (bigSep_univ_comm (fun c k : Fin 16 => (dutyTok ER (agRC c k) 0 k : sProp (𝕄' F))))); iexact H4

/-! ## The cells' invariants -/

theorem recs_of (W : Fill F) (κ : GSem nD τ sig → ℕ) :
    iprop((bigSep (barCells ∪ ownCells) fun g => cellInv ER (sched W) (κ g) g) ∗ bigSep barCells fun g => reached ER g 0)
      ⊢ (recs W κ : sProp (𝕄' F)) := by
  have u : (bigSep (barCells ∪ ownCells) fun g => (cellInv ER (sched W) (κ g) g : sProp (𝕄' F)))
      = iprop((bigSep Finset.univ fun c : Dev nD => cellInv ER (sched W) (κ (barC c)) (barC c))
        ∗ bigSep Finset.univ fun c : Dev nD => bigSep Finset.univ fun k : OwnK => cellInv ER (sched W) (κ (ownC c k)) (ownC c k)) := by
    rw [bigSep_union cells_disjoint, bigSep_map, bigSep_map, bigSep_univ_prod]; rfl
  have r : (bigSep barCells fun g => (reached ER g 0 : sProp (𝕄' F))) = bigSep Finset.univ fun c : Dev nD => reached ER (barC c) 0 := by
    rw [bigSep_map]; rfl
  rw [u, r]
  unfold recs
  have e : (bigSep Finset.univ fun c : Dev nD => bigSep Finset.univ fun k : OwnK => (cellInv ER (sched W) (κ (ownC c k)) (ownC c k) : sProp (𝕄' F)))
      = bigSep Finset.univ fun c : Dev nD => iprop(((bigSep Finset.univ fun k : Fin 16 => cellInv ER (sched W) (κ (rsSC c k)) (rsSC c k))
          ∗ bigSep Finset.univ fun k : Fin 16 => cellInv ER (sched W) (κ (rsRC c k)) (rsRC c k))
        ∗ (bigSep Finset.univ fun j : Fin 15 => cellInv ER (sched W) (κ (agSC c j)) (agSC c j))
          ∗ bigSep Finset.univ fun k : Fin 16 => cellInv ER (sched W) (κ (agRC c k)) (agRC c k)) :=
    bigSep_congr fun c _ => own_fam (F := F) (fun sm => cellInv ER (sched W) (κ ((c : Thread nD τ), sm)) ((c : Thread nD τ), sm))
  simp only [bigSep_univ_prod, bigSep_two]
  simp only [bigSep_two] at e
  iintro ⟨⟨Hb, Ho⟩, Hr⟩
  ihave H := (Entails.of_eq e) $$ Ho
  icases H with ⟨⟨H1, H2⟩, H3, H4⟩
  isplitl [Hb Hr]
  · isplitl [Hb]; · iexact Hb
    iexact Hr
  isplitl [H1]; · iexact H1
  isplitl [H2]; · iexact H2
  isplitl [H3]; · iexact H3
  iexact H4

/-! ## The launch credit -/

/-- The credit over device `c`'s cells. -/
def credT (c : Dev nD) : CellTallies nD τ sig Unit :=
  (∑ _k : Fin 16, tallyAt (barC c) () 1) + (∑ k : Fin 16, if k = c then 0 else tallyAt (rsRC c k) () N) + ∑ k : Fin 16, if k = c then 0 else tallyAt (agRC c k) () N

theorem due_sum : (∑ d : Dev nD, due₀ d) = ∑ d : Dev nD, credT d := by
  have h (R : Fin 16 → Fin 16 → GSem nD τ sig) : (∑ d : Fin 16, ∑ k : Fin 16, if k = d then (0 : CellTallies nD τ sig Unit) else tallyAt (R k d) () N)
      = ∑ d : Fin 16, ∑ k : Fin 16, if k = d then 0 else tallyAt (R d k) () N := by
    rw [Finset.sum_comm]
    exact Finset.sum_congr rfl fun k _ => Finset.sum_congr rfl fun d _ => by simp only [eq_comm]
  have e : ∀ d : Dev nD, due₀ d = (∑ k : Fin 16, if k = d then (0 : CellTallies nD τ sig Unit) else tallyAt (rsRC k d) () N)
      + (∑ k : Fin 16, if k = d then (0 : CellTallies nD τ sig Unit) else tallyAt (agRC k d) () N) + ∑ k : Fin 16, tallyAt (barC k) () 1 := fun d => by
    unfold due₀ rsDue agDue barDue
    rw [restT_zero, restT_zero, restT_zero]
    rfl
  unfold credT
  rw [Finset.sum_congr rfl fun d _ => e d]
  simp only [Finset.sum_add_distrib]
  rw [h rsRC, h agRC, Finset.sum_comm (f := fun (d k : Fin 16) => (tallyAt (barC k) () 1 : CellTallies nD τ sig Unit))]
  abel

theorem credT_own (d : Dev nD) (g : GSem nD τ sig) (h : credT d g ≠ 0) : g.1 = (d.tc : Thread nD τ) := by
  by_contra hne
  have z : ∀ (sm : SemLoc sig) (n : ℕ), (tallyAt ((d : Thread nD τ), sm) () n : CellTallies nD τ sig Unit) g = 0 := fun sm n => by
    exact tallyAt_ne_cell (fun e => hne (congrArg Prod.fst e)) () n
  apply h
  unfold credT
  rw [Pi.add_apply, Pi.add_apply, Finset.sum_apply, Finset.sum_apply, Finset.sum_apply, Finset.sum_eq_zero fun k _ => z _ _,
    Finset.sum_eq_zero fun k _ => ?_, Finset.sum_eq_zero fun k _ => ?_, add_zero, add_zero]
  · split
    · rfl
    · exact z _ _
  · split
    · rfl
    · exact z _ _

theorem cred_fin (n : ℕ) (T : Fin n → CellTallies nD τ sig Unit) :
    (cred (∑ k, T k) : sProp (𝕄' F)) = bigSep Finset.univ fun k => cred (T k) := by
  suffices h : ∀ S : Finset (Fin n), (cred (∑ k ∈ S, T k) : sProp (𝕄' F)) = bigSep S fun k => cred (T k) from h _
  intro S
  induction S using Finset.induction_on with
  | empty => rw [Finset.sum_empty, cred_zero, bigSep_empty]; rfl
  | insert c S hc ih => rw [Finset.sum_insert hc, bigSep_insert hc, BI.Entails.antisymm (cred_add _ _).1 (cred_add _ _).2, ih]; rfl

theorem tally_ones (g : GSem nD τ sig) (n : ℕ) : (∑ _k : Fin n, tallyAt g () 1) = (tallyAt g () n : CellTallies nD τ sig Unit) := by
  induction n with
  | zero => rw [tallyAt_zero]; rfl
  | succ n ih => rw [Fin.sum_univ_castSucc, ih, tallyAt_add]

theorem creds (c : Dev nD) : (Pipeline.launchCred due₀ c : sProp (𝕄' F)) ⊢ credP c := by
  rw [Pipeline.launchCred_of_sum due₀ credT due_sum credT_own c]
  unfold credT credP
  have h1 : ∀ k : Fin 16, (cred (if k = c then 0 else tallyAt (rsRC c k) () N) : sProp (𝕄' F)) ⊢ rsCr c k := fun k => by
    unfold rsCr
    split
    · iintro -; iempintro
    · exact BIBase.Entails.rfl
  have h2 : ∀ k : Fin 16, (cred (if k = c then 0 else tallyAt (agRC c k) () N) : sProp (𝕄' F)) ⊢ agCr c k := fun k => by
    unfold agCr
    split
    · iintro -; iempintro
    · exact BIBase.Entails.rfl
  rw [tally_ones]
  iintro H
  ihave H := (cred_add _ _).1 $$ H
  icases H with ⟨H, H3⟩
  ihave H := (cred_add _ _).1 $$ H
  icases H with ⟨H1, H2⟩
  isplitl [H1]; · iexact H1
  isplitl [H2]
  · iapply (BIBase.Entails.trans (bigSep_mono (s := Finset.univ) fun k _ => h1 k) BIBase.Entails.rfl)
    iapply (Entails.of_eq (cred_fin 16 _)); iexact H2
  · iapply (BIBase.Entails.trans (bigSep_mono (s := Finset.univ) fun k _ => h2 k) BIBase.Entails.rfl)
    iapply (Entails.of_eq (cred_fin 16 _)); iexact H3

end Cert.KernelIdeal.Mesh

end
-- ==== Proof.Launch.lean ====
module

public import proofs.«01_k».proof.Proof.Deal

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! # The run of the whole program -/

variable (m : (ℓ : Loc nD τ sig) → Buf (Elt F) ℓ) (ρ : Dev nD → PrngReg)

/-- The launch element: the pipeline library's, and the protocol's. -/
def u₀ : UU :=
  (initOf (Pipeline.cells (Pipeline.pin (pcfgs (F := F)) adm) cellOf_inj) (Pipeline.launchToks (Pipeline.pin (pcfgs (F := F)) adm) cellOf_inj),
    launchOf barCells ownCells duties)

/-- A resource held by device 0 alone. -/
def onFirst (X : sProp (𝕄' F)) (c : Dev nD) : sProp (𝕄' F) := if c = 0 then X else iprop(emp)
theorem onFirst_all (X : sProp (𝕄' F)) : bigSep Finset.univ (onFirst X) = X := by
  rw [bigSep_univ_at _ (0 : Dev nD), bigSep_congr (s := Finset.univ.erase (0 : Dev nD)) (Ψ := fun _ => (BI.emp : sProp (𝕄' F)))
      fun c hc => by unfold onFirst; rw [if_neg (Finset.ne_of_mem_erase hc)]; rfl, BI.bigSep_emp_const]
  unfold onFirst; rw [if_pos rfl]
  exact BI.equiv_iff.mp sep_emp

def protoG : Dev nD → sProp (𝕄' F) := onFirst (BI.own (ER (launchOf barCells ownCells duties)))

theorem unscoped_bar : ∀ sm : SemLoc sig, sm.isScoped .tc = false → sm = .reg barS := by decide

theorem unscoped_one (c : Dev nD) : (unscopedSems0 c : sProp (𝕄' F)) = semVal (barC c) 0 := by
  unfold unscopedSems0
  rw [show (Finset.univ.filter fun sm : SemLoc sig => ¬ sm.isScoped .tc) = {SemLoc.reg barS} from by decide, BI.bigSep_singleton]

/-- What rides beside the buffers before the region, and after it. -/
def ride : Fin 2 → Dev nD → sProp (𝕄' F)
  | 0, c => iprop(dealt (fillM m) c ∗ (∃ r, prngReg c r) ∗ ∃ Wd, owes (c : Thread nD τ) (due₀ c) Wd)
  | 1, c => iprop(semVal (barC c) 0 ∗ ∃ Wd, owes (c : Thread nD τ) 0 Wd)

/-! ## The launch -/

/-- What of a device's launch holdings is not the protocol's. -/
def plain (c : Dev nD) : sProp (𝕄' F) :=
  iprop(StableHlo.held (c : Thread nD τ) (Pipeline.ucRefs τ sig) (V0 m c) ∗ credP c ∗ (∃ r, prngReg c r) ∗ ∃ Wd, owes (c : Thread nD τ) (due₀ c) Wd)

theorem start_one (κ : GSem nD τ sig → ℕ) (c : Dev nD) : iprop(recs (fillM m) κ
      ∗ ((atPos ER (barC c) 0 ∅ 0 ∗ (bigSep Finset.univ fun k : OwnK => openTok ER (ownC c k)) ∗ duesP c) ∗ plain m c))
    ⊢ (iprop(StableHlo.held (c : Thread nD τ) (Pipeline.ucRefs τ sig) (V0 m c) ∗ ride m 0 c) : sProp (𝕄' F)) := by
  unfold plain ride dealt
  iintro ⟨#HR, ⟨Ha, Ho, Hd⟩, Hh, Hc, Hp, HO⟩
  isplitl [Hh]; · iexact Hh
  isplitr [Hp HO]
  · isplitr; · iexists κ; iexact HR
    isplitl [Ha]; · iexact Ha
    isplitl [Ho]; · iexact Ho
    isplitl [Hd]; · iexact Hd
    iexact Hc
  isplitl [Hp]; · iexact Hp
  iexact HO

theorem start_parts (c : Dev nD) : iprop(unscopedBufs c (fun b => m ((c.tc : Thread nD τ).loc b)) ∗ unscopedSems0 c
        ∗ owes (c.tc : Thread nD τ) (due₀ c) ∅ ∗ Pipeline.launchCred due₀ c ∗ prngReg c (ρ c) ∗ protoG c)
      ⊢ (iprop(plain m c ∗ (semVal (barC c) 0 ∗ protoG c)) : sProp (𝕄' F)) := by
  rw [show (unscopedBufs c (fun b => m ((c.tc : Thread nD τ).loc b)) : sProp (𝕄' F)) = StableHlo.held (c : Thread nD τ) (Pipeline.ucRefs τ sig) (V0 m c)
    from Pipeline.unscopedBufs_held c (V0 m c), unscoped_one]
  unfold plain
  iintro ⟨Hh, Hus, HO, Hcr, Hp, HG⟩
  isplitr [Hus HG]
  · isplitl [Hh]; · iexact Hh
    isplitl [Hcr]; · iapply (creds c); iexact Hcr
    isplitl [Hp]; · iexists (ρ c); iexact Hp
    iexists ∅; iexact HO
  isplitl [Hus]; · iexact Hus
  iexact HG

theorem start :
    iprop((bigSep Finset.univ fun c : Dev nD => iprop(unscopedBufs c (fun b => m ((c.tc : Thread nD τ).loc b)) ∗ unscopedSems0 c
          ∗ owes (c.tc : Thread nD τ) (due₀ c) ∅ ∗ Pipeline.launchCred due₀ c ∗ prngReg c (ρ c) ∗ protoG c)) ∗ levAts L lv)
      ⊢ (|={Set.univ}=> bigSep Finset.univ fun c : Dev nD => iprop(StableHlo.held (c : Thread nD τ) (Pipeline.ucRefs τ sig) (V0 m c) ∗ ride m 0 c) : sProp (𝕄' F)) := by
  have hv : (bigSep Finset.univ fun c : Dev nD => (semVal (barC c) 0 : sProp (𝕄' F))) = bigSep barCells fun g => semVal g 0 := by
    rw [bigSep_map]; rfl
  have hat : (bigSep barCells fun g => (atPos ER g 0 ∅ 0 : sProp (𝕄' F))) = bigSep Finset.univ fun c : Dev nD => atPos ER (barC c) 0 ∅ 0 := by
    rw [bigSep_map]; rfl
  have hop : (bigSep ownCells fun g => (openTok ER g : sProp (𝕄' F)))
      = bigSep Finset.univ fun c : Dev nD => bigSep Finset.univ fun k : OwnK => openTok ER (ownC c k) := by
    rw [bigSep_map, bigSep_univ_prod]; rfl
  have hs : (bigSep Finset.univ fun c : Dev nD => iprop(plain m c ∗ (semVal (barC c) 0 ∗ protoG c)))
      = (iprop((bigSep Finset.univ fun c : Dev nD => plain m c) ∗ (bigSep Finset.univ fun c : Dev nD => semVal (barC c) 0)
        ∗ bigSep Finset.univ fun c : Dev nD => protoG c) : sProp (𝕄' F)) := by
    simp only [bigSep_two]
  have hj : (bigSep Finset.univ fun c : Dev nD => iprop((atPos ER (barC c) 0 ∅ 0 ∗ (bigSep Finset.univ fun k : OwnK => openTok ER (ownC c k)) ∗ duesP c) ∗ plain m c))
      = (iprop(((bigSep Finset.univ fun c : Dev nD => atPos ER (barC c) 0 ∅ 0)
        ∗ (bigSep Finset.univ fun c : Dev nD => bigSep Finset.univ fun k : OwnK => openTok ER (ownC c k)) ∗ bigSep Finset.univ fun c : Dev nD => duesP c)
        ∗ bigSep Finset.univ fun c : Dev nD => plain m c) : sProp (𝕄' F)) := by
    simp only [bigSep_two]
  iintro ⟨H, -⟩
  ihave H := (BIBase.Entails.trans (bigSep_mono (s := Finset.univ) fun c _ => start_parts m ρ c) BIBase.Entails.rfl) $$ H
  ihave H := (Entails.of_eq hs) $$ H
  icases H with ⟨HB, Hv, HG⟩
  ihave Hu := (show (bigSep Finset.univ fun c : Dev nD => (protoG c : sProp (𝕄' F))) ⊢ BI.own (ER (launchOf barCells ownCells duties)) from
    Entails.of_eq (onFirst_all (F := F) (BI.own (ER (launchOf barCells ownCells duties))))) $$ HG
  imod (Rounds.fund_launch ER (sched (fillM m)) cells_disjoint (fun g _ h => h) duties) $$ [Hv Hu] with ⟨%κ, -, Hinv, Hr, Hat, Hop, Htok⟩
  · isplitl [Hv]
    · iapply (Entails.of_eq hv); iexact Hv
    · iexact Hu
  imodintro
  iapply (bigSep_with_persistent (R := recs (fillM m) κ)
    (Φ := fun c : Dev nD => iprop((atPos ER (barC c) 0 ∅ 0 ∗ (bigSep Finset.univ fun k : OwnK => openTok ER (ownC c k)) ∗ duesP c) ∗ plain m c))
    fun c _ => start_one m κ c)
  isplitl [Hinv Hr]
  · iapply (recs_of (fillM m) κ)
    isplitl [Hinv]; · iexact Hinv
    iexact Hr
  iapply (Entails.of_eq hj.symm)
  isplitr [HB]
  · isplitl [Hat]; · iapply (Entails.of_eq hat); iexact Hat
    isplitl [Hop]; · iapply (Entails.of_eq hop); iexact Hop
    iapply (duties_deal (F := F)); iexact Htok
  iexact HB

/-! ## Into the region and out of it -/

theorem pre_region (c : Dev nD) : iprop(StableHlo.held (c : Thread nD τ) (Pipeline.ucRefs τ sig) (V1 m c) ∗ ride m 0 c) ⊢ (regM m).pre c := by
  show _ ⊢ iprop(StableHlo.held (c.tc : Thread nD τ) (Pipeline.arrRefs spec0) (V1 m c) ∗ (∃ r, prngReg c r)
    ∗ (StableHlo.held (c.tc : Thread nD τ) restRefs (V1 m c) ∗ emp) ∗ dealt (fillM m) c ∗ ∃ Wd, owes (c.tc : Thread nD τ) (0 + due₀ c) Wd)
  rw [StableHlo.held_sub_split (c.tc : Thread nD τ) arr_sub (V1 m c), zero_add]
  unfold ride restRefs
  iintro ⟨⟨H1, H2⟩, Hd, Hp, HO⟩
  isplitl [H1]; · iexact H1
  isplitl [Hp]; · iexact Hp
  isplitl [H2]
  · isplitl [H2]; · iexact H2
    iempintro
  isplitl [Hd]; · iexact Hd
  iexact HO

theorem post_region (c : Dev nD) : (regM m).post c ⊢ iprop(StableHlo.held (c : Thread nD τ) (Pipeline.ucRefs τ sig) (V2 m (outsM m) c) ∗ ride m 1 c) := by
  show iprop(StableHlo.held (c.tc : Thread nD τ) (Pipeline.arrRefs spec0) (V2 m (outsM m) c) ∗ (∃ r, prngReg c r)
    ∗ (StableHlo.held (c.tc : Thread nD τ) restRefs (V2 m (outsM m) c) ∗ emp) ∗ semVal (barC c) 0 ∗ ∃ Wd, owes (c.tc : Thread nD τ) 0 Wd) ⊢ _
  rw [StableHlo.held_sub_split (c.tc : Thread nD τ) arr_sub (V2 m (outsM m) c)]
  unfold ride restRefs
  iintro ⟨H1, -, ⟨H2, -⟩, Hd, HO⟩
  isplitl [H1 H2]
  · isplitl [H1]; · iexact H1
    iexact H2
  isplitl [Hd]; · iexact Hd
  iexact HO

/-! ## The run -/

/-- What the run leaves on device `c`. -/
def Leaves (c : Dev nD) (s : MemSt nD τ sig (Elt F)) : Prop :=
  ((s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
    ∧ s.mem ((c.tc : Thread nD τ).loc main_v22) = V3 m (outsM m) c main_v22)
    ∧ s.sem (barC c) = 0

set_option backward.isDefEq.respectTransparency.types false in
/-- From any memory with zero counters every weakly fair execution terminates, with the arguments unchanged, every
    counter at zero, and the result the one the stretches and the region compute. -/
theorem run_main : θ_run defs (onTc (τ := τ) (main (F := F))) ⟨m, fun _ => 0, ρ⟩
    (fun r => (∀ c : Dev nD, Leaves m c r.2) ∧ r.2.sem = fun _ => 0) := by
  refine Pipeline.θ_run_regions_kit_dev_sems (pcfgs (F := F)) adm (datsM m) () cellOf_inj EP defs₀ Variants.none L lv m ρ main
    (segs m (outsM m) Variants.none L lv (ride m) () (datsM m) (regM m))
    (fun c Q => by
      rewrite [main_chain c, Pipeline.Seg.run_eq_chain,
        show (segs m (outsM m) Variants.none L lv (ride m) () (datsM m) (regM m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide)
    (O₀ := due₀) (hL := L_of_ne) (G := protoG) (u₀ := u₀ (F := F))
    (hu₀ := ?_)
    (T₀ := fun c => iprop(StableHlo.held (c : Thread nD τ) (Pipeline.ucRefs τ sig) (V0 m c) ∗ ride m 0 c))
    (Tₙ := fun c => iprop(StableHlo.held (c : Thread nD τ) (Pipeline.ucRefs τ sig) (V3 m (outsM m) c) ∗ semVal (barC c) 0))
    (hch := fun c => ⟨.rfl, pre_region m c, post_region m c, ?_⟩)
    (hinit := start m ρ) (QY := Leaves m) (hfin := fun c s' => ?_) (hQ := fun s h hs => ⟨h, ?_⟩)
  · unfold u₀ protoG
    iintro Hu
    ihave H := (ownU_pair _ _) $$ Hu
    icases H with ⟨HP, HX⟩
    imodintro
    isplitl [HP]; · iexact HP
    rw [onFirst_all]; iexact HX
  · show iprop(StableHlo.held (c : Thread nD τ) (Pipeline.ucRefs τ sig) (V3 m (outsM m) c)
          ∗ (semVal (barC c) 0 ∗ ∃ W, owes (c : Thread nD τ) (0 : CellTallies nD τ sig Unit) W)) ⊢ _
    iintro ⟨Hh, Hb, HO⟩
    isplitr [HO]
    · isplitl [Hh]; · iexact Hh
      iexact Hb
    · iexact HO
  · unfold StableHlo.held
    iintro ⟨⟨Hh, Hb⟩, HSI⟩
    icombine HSI Hb gives %hb
    ihave Hr := (pointsTo_read_all (Pipeline.ucRefs τ sig) (fun b => ((c : Thread nD τ).1, b)) (V3 m (outsM m) c) s') $$ [Hh HSI]
    · isplitl [Hh]; · iexact Hh
      iexact HSI
    icases Hr with ⟨%h, HSI⟩
    imodintro
    isplitr
    · ipureintro
      exact ⟨⟨⟨(h (Proc.devRef .tc main_arg0) (Finset.mem_filter.mpr ⟨StableHlo.devRef_mem_tcRefs main_arg0, by decide⟩)).trans (V3_main_arg0 m (outsM m) c),
        (h (Proc.devRef .tc main_arg1) (Finset.mem_filter.mpr ⟨StableHlo.devRef_mem_tcRefs main_arg1, by decide⟩)).trans (V3_main_arg1 m (outsM m) c),
        (h (Proc.devRef .tc main_arg2) (Finset.mem_filter.mpr ⟨StableHlo.devRef_mem_tcRefs main_arg2, by decide⟩)).trans (V3_main_arg2 m (outsM m) c),
        (h (Proc.devRef .tc main_arg3) (Finset.mem_filter.mpr ⟨StableHlo.devRef_mem_tcRefs main_arg3, by decide⟩)).trans (V3_main_arg3 m (outsM m) c),
        (h (Proc.devRef .tc main_arg4) (Finset.mem_filter.mpr ⟨StableHlo.devRef_mem_tcRefs main_arg4, by decide⟩)).trans (V3_main_arg4 m (outsM m) c)⟩,
        h (Proc.devRef .tc main_v22) (Finset.mem_filter.mpr ⟨StableHlo.devRef_mem_tcRefs main_v22, by decide⟩)⟩, by simpa using hb⟩
    · iexact HSI
  · exact sem_eq_zero hs fun c sm hsm => by
      obtain rfl := unscoped_bar sm hsm
      exact (h c).2

end Cert.KernelIdeal.Mesh

end
-- ==== Proof.Frames.lean ====
module

public import proofs.«01_k».proof.Defs
public import proofs.«01_k».proof.Proof.Gen.Kernel
public import proofs.«01_k».proof.Proof.Gen.ReferenceIdeal.Run
public import proofs.«01_k».proof.Proof.Launch

@[expose] public section

set_option maxRecDepth 16384
noncomputable section

namespace Cert.Proof

open Idealize.ShloMosaic Idealize.ShloMosaic.TcCoe Idealize.SL.Sem

/-! # The frames: every program runs, keeps its arguments, and leaves every counter at zero

The kernel and its idealization have the same text, so the one run (`Mesh.run_main`, over any float values) gives both. -/

theorem keeps {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0) :=
  (θ_run Cert.KernelIdeal.defs _ _).mono (fun _ h => ⟨fun c => (h.1 c).1.1, h.2⟩) (Cert.KernelIdeal.Mesh.run_main m ρ)

theorem frame_kernelIdeal : Cert.quiescent_KernelIdeal := fun m ρ _ => keeps (F := Ideal) m ρ

set_option backward.isDefEq.respectTransparency.types false in
/-- The two programs run alike: they are one text. -/
theorem same_run {F : FTy → Type} [FloatOps F] (m : (ℓ : Loc Cert.Kernel.nD Cert.Kernel.τ Cert.Kernel.sig) → Buf (Elt F) ℓ)
    (ρ : Dev Cert.Kernel.nD → PrngReg) (Q : PUnit × MemSt Cert.Kernel.nD Cert.Kernel.τ Cert.Kernel.sig (Elt F) → Prop) :
    θ_run (Cert.Kernel.defs (F := F)) (onTc (τ := Cert.Kernel.τ) (Cert.Kernel.main (F := F))) ⟨m, fun _ => 0, ρ⟩ Q
      = θ_run (Cert.KernelIdeal.defs (F := F)) (onTc (τ := Cert.KernelIdeal.τ) (Cert.KernelIdeal.main (F := F))) ⟨m, fun _ => 0, ρ⟩ Q := by
  sl_kernel_rfl

theorem frame_kernel : Cert.quiescent_Kernel := fun m ρ _ => (same_run (F := Bits) m ρ _).mpr (keeps (F := Bits) m ρ)

/-- The reference declares no semaphore. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.Proof

end
-- ==== Proof.Heads.lean ====
/-
  The values of the four groups of 256 rows as a sum over the eight heads a device holds.

  `headV` is what one head adds to the group's result: the scores of the rows against the keys, masked, turned into weights and applied to the
  values, then taken through that head's rows of the output matrix. `groupV` adds the eight heads from zero, in order. Each block that leaves the
  device is sixty-four rows of a group's sum.
-/
module

public import proofs.«01_k».proof.Proof.Vals5

@[expose] public section

noncomputable section

namespace Cert.KernelIdeal.Mesh

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-- The mask of a group whose first row is row `o` of its sequence: the near positions, the first columns, the first rows. -/
def maskV (o : BitVec 32) : IVec S256x512 1 :=
  have row : IVec S256x512 32 := addi (broadcast S256x512 o) (iota .tc S256x512 32 [0] iota_S256x512_d0_w32)
  have col : IVec S256x512 32 := iota .tc S256x512 32 [1] iota_S256x512_d1_w32
  ori (ori (cmpi .sle (absi (subi row col)) (broadcast S256x512 128#32)) (cmpi .slt col (broadcast S256x512 32#32)))
    (cmpi .slt row (broadcast S256x512 32#32))

/-- The masked scores of a group's rows against one head's keys. -/
def scoreV (x : FVec F S256x768 .f32) (mk : IVec S256x512 1) (q : Vec F S1x768x64 .f32) (k : Vec F S1x1x512x64 .f32) : FVec F S256x512 .f32 :=
  select mk
    (mulf
      (matmul dot_S256x64_S512x64_S256x512_1_1_0_0_n_n none
        (matmul dot_S256x768_S768x64_S256x64_1_0_0_1_n_n none x (shapeCast S768x64 q shapeCasts_S1x768x64_S768x64)
          (constant S256x64 .f32 0x00000000#32))
        (shapeCast S512x64 k shapeCasts_S1x1x512x64_S512x64) (constant S256x512 .f32 0x00000000#32))
      (broadcast S256x512 (Scalar.ofBits .f32 0x3E000000#32)))
    (broadcast S256x512 (Scalar.ofBits .f32 0xCE6E6B28#32))

/-- The exponentials of scores from which their row's largest is taken. -/
def expV (s : FVec F S256x512 .f32) : FVec F S256x512 .f32 :=
  exp (subf s (broadcastTo S256x512
    (shapeCast S256x1 (multiReduction .maximumf [1] S256 s 0xFF800000#32 reduces_S256x512_S256 (.inl rfl) rfl) shapeCasts_S256_S256x1)
    broadcasts_S256x1_S256x512))

/-- Numbers divided by their row's sum. -/
def normV (e : FVec F S256x512 .f32) : FVec F S256x512 .f32 :=
  divf e (broadcastTo S256x512
    (shapeCast S256x1 (multiReduction .add [1] S256 e 0x00000000#32 reduces_S256x512_S256 (.inl rfl) rfl) shapeCasts_S256_S256x1)
    broadcasts_S256x1_S256x512)

/-- What one head adds, from its weights. -/
def headOf (w : FVec F S256x512 .f32) (v : Vec F S1x1x512x64 .f32) (o : Vec F S1x64x768 .f32) : FVec F S256x768 .f32 :=
  matmul dot_S256x64_S64x768_S256x768_1_0_0_1_n_n none
    (matmul dot_S256x512_S512x64_S256x64_1_0_0_1_n_n none w (shapeCast S512x64 v shapeCasts_S1x1x512x64_S512x64)
      (constant S256x64 .f32 0x00000000#32))
    (shapeCast S64x768 o shapeCasts_S1x64x768_S64x768) (constant S256x768 .f32 0x00000000#32)

/-- What head `h` adds to a group whose rows are of sequence `b`. -/
def headV (I : Inp F) (x : FVec F S256x768 .f32) (mk : IVec S256x512 1) (b h : ℕ) (hb : b < 2) (hh : h < 8) : FVec F S256x768 .f32 :=
  headOf
    (normV (expV (scoreV x mk
      (ldQ I ![h, 0, 0] fun a => by fin_cases a <;> simp <;> omega)
      (ldK I ![h, b, 0, 0] fun a => by fin_cases a <;> simp <;> omega))))
    (ldV I ![h, b, 0, 0] fun a => by fin_cases a <;> simp <;> omega)
    (ldO I ![h, 0, 0] fun a => by fin_cases a <;> simp <;> omega)

/-- The rows of a group, from its first row. -/
def rowsV (I : Inp F) (o : ℕ) (ho : o + 256 ≤ 1024) : FVec F S256x768 .f32 :=
  shapeCast S256x768 (ldX I ![o, 0] fun a => by fin_cases a <;> simp <;> omega) shapeCasts_S256x768_S256x768

/-- The eight heads' sum for a group. -/
def groupV (I : Inp F) (x : FVec F S256x768 .f32) (mk : IVec S256x512 1) (b : ℕ) (hb : b < 2) : FVec F S256x768 .f32 :=
  have H := fun (h : ℕ) (hh : h < 8) => headV I x mk b h hb hh
  addf (addf (addf (addf (addf (addf (addf (addf (broadcast S256x768 (Scalar.ofBits .f32 0x00000000#32))
    (H 0 (by decide))) (H 1 (by decide))) (H 2 (by decide))) (H 3 (by decide))) (H 4 (by decide))) (H 5 (by decide))) (H 6 (by decide)))
    (H 7 (by decide))

theorem group0 (I : Inp F) : V_v260 I = groupV I (rowsV I 0 (by decide)) (maskV 0#32) 0 (by decide) := rfl
theorem group1 (I : Inp F) : V_v513 I = groupV I (rowsV I 256 (by decide)) (maskV 256#32) 0 (by decide) := rfl
theorem group2 (I : Inp F) : V_v766 I = groupV I (rowsV I 512 (by decide)) (maskV 0#32) 1 (by decide) := rfl
theorem group3 (I : Inp F) : k0_pay85 (V_v993 I) (V_v1015 I) (V_v1017 I) (V_cst_822 I)
    = groupV I (rowsV I 768 (by decide)) (maskV 256#32) 1 (by decide) := rfl

end Cert.KernelIdeal.Mesh

end
-- ==== Proof.Attend.lean ====
/-
  Attention of one row over the extended reals: what both programs compute, before the sums over heads.
-/
module

public import Idealize.ShloMosaic.Lib.Pointwise

@[expose] public section

noncomputable section

namespace Cert.Attend

open Idealize.ShloMosaic

/-- Whether row `i` of a sequence looks at position `j`, as a bit: near it, among the first columns, or itself among the first rows. -/
def sees (i j : ℕ) : BitVec 1 :=
  IntOp.ori
    (IntOp.ori (IntOp.cmpi .sle (IntOp.absi (IntOp.subi (BitVec.ofNat 32 i) (BitVec.ofNat 32 j))) 128#32)
      (IntOp.cmpi .slt (BitVec.ofNat 32 j) 32#32))
    (IntOp.cmpi .slt (BitVec.ofNat 32 i) 32#32)

/-- The masked score of a row `x` against position `j` of keys `k`, its query taken through `q`. -/
def score (i : ℕ) (x : Fin 768 → EReal) (q : Fin 768 → Fin 64 → EReal) (k : Fin 512 → Fin 64 → EReal) (j : Fin 512) : EReal :=
  Scalar.select (sees i j) ((∑ e, (∑ t, x t * q t e) * k j e) * Ideal.ofBits .f32 0x3E000000#32) (Ideal.ofBits .f32 0xCE6E6B28#32)

/-- The largest of a row's scores. -/
def top (s : Fin 512 → EReal) : EReal := Finset.univ.fold max (Ideal.ofBits .f32 0xFF800000#32) s

/-- The weight a row of scores gives position `j`. -/
def weight (s : Fin 512 → EReal) (j : Fin 512) : EReal :=
  Ideal.div (Ideal.exp (s j - top s)) (∑ l, Ideal.exp (s l - top s))

/-- Coordinate `e` of what row `i` takes from the values `v`. -/
def ctx (i : ℕ) (x : Fin 768 → EReal) (q : Fin 768 → Fin 64 → EReal) (k v : Fin 512 → Fin 64 → EReal) (e : Fin 64) : EReal :=
  ∑ j, weight (score i x q k) j * v j e

/-- Coordinate `e` of what row `i` of sequence `b` takes by head `n`: the head's query columns, keys and values are its 64 of all. -/
def headRow (x : (⟨3, ![2, 512, 768]⟩ : Shape).Idx → EReal) (wq : (⟨2, ![768, 8192]⟩ : Shape).Idx → EReal)
    (k v : (⟨4, ![2, 512, 128, 64]⟩ : Shape).Idx → EReal) (b : Fin 2) (i : Fin 512) (n : Fin 128) (e : Fin 64) : EReal :=
  ctx i (fun t => x (ix3 b i t)) (fun t e => wq (ix2 t ⟨n * 64 + e, by omega⟩)) (fun l e => k (ix4 b l n e)) (fun l e => v (ix4 b l n e)) e

/-- The whole result at an index: every head's row through the output matrix. -/
def attended (x : (⟨3, ![2, 512, 768]⟩ : Shape).Idx → EReal) (wq : (⟨2, ![768, 8192]⟩ : Shape).Idx → EReal)
    (k v : (⟨4, ![2, 512, 128, 64]⟩ : Shape).Idx → EReal) (wo : (⟨2, ![8192, 768]⟩ : Shape).Idx → EReal)
    (b : Fin 2) (i : Fin 512) (d : Fin 768) : EReal :=
  ∑ n : Fin 8192, headRow x wq k v b i ⟨n / 64, by omega⟩ ⟨n % 64, by omega⟩ * wo (ix2 n d)

/-- A row always looks at the first position. -/
theorem sees_zero (i : ℕ) : sees i 0 = 1#1 := by
  have h : IntOp.cmpi .slt (BitVec.ofNat 32 0) 32#32 = 1#1 := by decide
  unfold sees
  rw [h]
  generalize IntOp.cmpi .sle _ _ = a
  generalize IntOp.cmpi .slt _ _ = b
  revert a b
  decide

end Cert.Attend

end
-- ==== Proof.HeadsAt.lean ====
/-
  The heads' sum read at an index over the extended reals.
-/
module

public import proofs.«01_k».proof.Proof.Heads
public import proofs.«01_k».proof.Proof.Attend

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

open Cert.Attend

theorem score_at (x : FVec Ideal S256x768 .f32) (o : ℕ) (q : Vec Ideal S1x768x64 .f32) (k : Vec Ideal S1x1x512x64 .f32)
    (i : Fin 256) (j : Fin 512) :
    scoreV x (maskV (BitVec.ofNat 32 o)) q k (ix2 i j)
      = score (o + i) (fun t => x (ix2 i t)) (fun t e => q (ix3 0 t e)) (fun l e => k (ix4 0 0 l e)) j := by
  pointwise [scoreV, maskV, score, sees]
  simp only [BitVec.ofNat_add]
  rfl
theorem exp_at (s : FVec Ideal S256x512 .f32) (i : Fin 256) (j : Fin 512) :
    expV s (ix2 i j) = Ideal.exp (s (ix2 i j) - top fun l => s (ix2 i l)) := by
  pointwise [expV, top]
theorem norm_at (s : FVec Ideal S256x512 .f32) (i : Fin 256) (j : Fin 512) :
    normV s (ix2 i j) = Ideal.div (s (ix2 i j)) (∑ l : Fin 512, s (ix2 i l)) := by
  pointwise [normV]
theorem headOf_at (w : FVec Ideal S256x512 .f32) (v : Vec Ideal S1x1x512x64 .f32) (o : Vec Ideal S1x64x768 .f32) (i : Fin 256) (d : Fin 768) :
    headOf w v o (ix2 i d)
      = ∑ e : Fin 64, (∑ l : Fin 512, w (ix2 i l) * v (ix4 0 0 l e)) * o (ix3 0 e d) := by
  pointwise [headOf]

/-- One head's addition at an index. -/
theorem headV_at (I : Inp Ideal) (x : FVec Ideal S256x768 .f32) (o b h : ℕ) (hb : b < 2) (hh : h < 8) (i : Fin 256) (d : Fin 768) :
    headV I x (maskV (BitVec.ofNat 32 o)) b h hb hh (ix2 i d)
      = ∑ e : Fin 64, ctx (o + i) (fun t => x (ix2 i t)) (fun t e => I.wq (ix3 ⟨h, hh⟩ t e))
          (fun l e => I.k (ix4 ⟨h, hh⟩ ⟨b, hb⟩ l e)) (fun l e => I.v (ix4 ⟨h, hh⟩ ⟨b, hb⟩ l e)) e
          * I.wo (ix3 ⟨h, hh⟩ e d) := by
  have hq : ∀ (hi) (t : Fin 768) (e : Fin 64), ldQ I ![h, 0, 0] hi (ix3 0 t e) = I.wq (ix3 ⟨h, hh⟩ t e) := fun hi t e =>
    congrArg I.wq (by funext a; fin_cases a <;> apply Fin.ext <;> simp [Rect.unit, Rect.emb])
  have ho : ∀ (hi) (e : Fin 64) (d : Fin 768), ldO I ![h, 0, 0] hi (ix3 0 e d) = I.wo (ix3 ⟨h, hh⟩ e d) := fun hi t e =>
    congrArg I.wo (by funext a; fin_cases a <;> apply Fin.ext <;> simp [Rect.unit, Rect.emb])
  have hk : ∀ (hi) (t : Fin 512) (e : Fin 64), ldK I ![h, b, 0, 0] hi (ix4 0 0 t e) = I.k (ix4 ⟨h, hh⟩ ⟨b, hb⟩ t e) := fun hi t e =>
    congrArg I.k (by funext a; fin_cases a <;> apply Fin.ext <;> simp [Rect.unit, Rect.emb])
  have hv : ∀ (hi) (t : Fin 512) (e : Fin 64), ldV I ![h, b, 0, 0] hi (ix4 0 0 t e) = I.v (ix4 ⟨h, hh⟩ ⟨b, hb⟩ t e) := fun hi t e =>
    congrArg I.v (by funext a; fin_cases a <;> apply Fin.ext <;> simp [Rect.unit, Rect.emb])
  unfold headV
  rw [headOf_at]
  simp only [norm_at, exp_at, score_at, hq, hk, hv, ho, ctx, weight]

/-- The rows of a group, at an index. -/
theorem rowsV_at (I : Inp Ideal) (o : ℕ) (ho : o + 256 ≤ 1024) (i : Fin 256) (t : Fin 768) :
    rowsV I o ho (ix2 i t) = I.x (ix2 ⟨o + i, by omega⟩ t) := by
  unfold rowsV
  pointwise
  exact congrArg I.x (by funext a; fin_cases a <;> apply Fin.ext <;> simp [Rect.unit, Rect.emb])

/-- What device `I` adds to row `R` of all the rows, at coordinate `d`. -/
def share (I : Inp Ideal) (R : Fin 1024) (d : Fin 768) : EReal :=
  ∑ h : Fin 8, ∑ e : Fin 64, ctx (R % 512) (fun t => I.x (ix2 R t)) (fun t e => I.wq (ix3 h t e))
    (fun l e => I.k (ix4 h ⟨R / 512, by omega⟩ l e)) (fun l e => I.v (ix4 h ⟨R / 512, by omega⟩ l e)) e
    * I.wo (ix3 h e d)

/-- A group's sum at an index. -/
theorem groupV_at (I : Inp Ideal) (b g : ℕ) (hb : b < 2) (hg : g < 2) (i : Fin 256) (d : Fin 768) :
    groupV I (rowsV I (512 * b + 256 * g) (by omega)) (maskV (BitVec.ofNat 32 (256 * g))) b hb (ix2 i d)
      = share I ⟨512 * b + 256 * g + i, by omega⟩ d := by
  have hm : (512 * b + 256 * g + i.val) % 512 = 256 * g + i := by omega
  have hd : (512 * b + 256 * g + i.val) / 512 = b := by omega
  unfold groupV share
  simp only [hm, hd, Fin.sum_univ_eight, ← rowsV_at I (512 * b + 256 * g) (by omega)]
  pointwise
  simp only [headV_at, zero_add]
  rfl

end Cert.KernelIdeal.Mesh

end
-- ==== Proof.BlocksAt.lean ====
/-
  The sixteen outgoing blocks of a device, and the rows of the result, read at an index over the extended reals.
-/
module

public import proofs.«01_k».proof.Proof.HeadsAt

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

open Cert.Attend

/-- Sixty-four rows of a group's sum, as a block. -/
theorem slice_at (G : FVec Ideal S256x768 .f32) (u : ℕ) (hs : Shape.Slices S256x768 ![u, 0] S64x768) (hu : u + 64 ≤ 256) (r : Fin 64) (d : Fin 768) :
    shapeCast S1x64x768 (extractStridedSlice S64x768 ![u, 0] G hs) shapeCasts_S64x768_S1x64x768 (ix3 0 r d)
      = G (ix2 ⟨u + r, by omega⟩ d) := by
  pointwise

theorem g0_at (I : Inp Ideal) (i : Fin 256) (d : Fin 768) :
    (V_v260 I) (ix2 i d) = share I ⟨0 + i, by omega⟩ d := by
  rw [group0]
  exact groupV_at I 0 0 (by decide) (by decide) i d
theorem g1_at (I : Inp Ideal) (i : Fin 256) (d : Fin 768) :
    (V_v513 I) (ix2 i d) = share I ⟨256 + i, by omega⟩ d := by
  rw [group1]
  exact groupV_at I 0 1 (by decide) (by decide) i d
theorem g2_at (I : Inp Ideal) (i : Fin 256) (d : Fin 768) :
    (V_v766 I) (ix2 i d) = share I ⟨512 + i, by omega⟩ d := by
  rw [group2]
  exact groupV_at I 1 0 (by decide) (by decide) i d
theorem g3_at (I : Inp Ideal) (i : Fin 256) (d : Fin 768) :
    (k0_pay85 (V_v993 I) (V_v1015 I) (V_v1017 I) (V_cst_822 I)) (ix2 i d) = share I ⟨768 + i, by omega⟩ d := by
  rw [group3]
  exact groupV_at I 1 1 (by decide) (by decide) i d

/-- Outgoing block `k` of a device holds what it adds to the rows from `64 * k`. -/
theorem sbv_at (I : Inp Ideal) (k : Fin 16) (r : Fin 64) (d : Fin 768) :
    sbv I k (ix3 0 r d) = share I ⟨64 * k + r, by omega⟩ d := by
  fin_cases k
  · refine (slice_at _ 0 slices_S256x768_o0_0_S64x768 (by decide) r d).trans ((g0_at I _ d).trans (congrArg (share I · d) (Fin.ext ?_)))
    simp; try omega
  · refine (slice_at _ 64 slices_S256x768_o64_0_S64x768 (by decide) r d).trans ((g0_at I _ d).trans (congrArg (share I · d) (Fin.ext ?_)))
    simp; try omega
  · refine (slice_at _ 128 slices_S256x768_o128_0_S64x768 (by decide) r d).trans ((g0_at I _ d).trans (congrArg (share I · d) (Fin.ext ?_)))
    simp; try omega
  · refine (slice_at _ 192 slices_S256x768_o192_0_S64x768 (by decide) r d).trans ((g0_at I _ d).trans (congrArg (share I · d) (Fin.ext ?_)))
    simp; try omega
  · refine (slice_at _ 0 slices_S256x768_o0_0_S64x768 (by decide) r d).trans ((g1_at I _ d).trans (congrArg (share I · d) (Fin.ext ?_)))
    simp; try omega
  · refine (slice_at _ 64 slices_S256x768_o64_0_S64x768 (by decide) r d).trans ((g1_at I _ d).trans (congrArg (share I · d) (Fin.ext ?_)))
    simp; try omega
  · refine (slice_at _ 128 slices_S256x768_o128_0_S64x768 (by decide) r d).trans ((g1_at I _ d).trans (congrArg (share I · d) (Fin.ext ?_)))
    simp; try omega
  · refine (slice_at _ 192 slices_S256x768_o192_0_S64x768 (by decide) r d).trans ((g1_at I _ d).trans (congrArg (share I · d) (Fin.ext ?_)))
    simp; try omega
  · refine (slice_at _ 0 slices_S256x768_o0_0_S64x768 (by decide) r d).trans ((g2_at I _ d).trans (congrArg (share I · d) (Fin.ext ?_)))
    simp; try omega
  · refine (slice_at _ 64 slices_S256x768_o64_0_S64x768 (by decide) r d).trans ((g2_at I _ d).trans (congrArg (share I · d) (Fin.ext ?_)))
    simp; try omega
  · refine (slice_at _ 128 slices_S256x768_o128_0_S64x768 (by decide) r d).trans ((g2_at I _ d).trans (congrArg (share I · d) (Fin.ext ?_)))
    simp; try omega
  · refine (slice_at _ 192 slices_S256x768_o192_0_S64x768 (by decide) r d).trans ((g2_at I _ d).trans (congrArg (share I · d) (Fin.ext ?_)))
    simp; try omega
  · refine (slice_at _ 0 slices_S256x768_o0_0_S64x768 (by decide) r d).trans ((g3_at I _ d).trans (congrArg (share I · d) (Fin.ext ?_)))
    simp; try omega
  · refine (slice_at _ 64 slices_S256x768_o64_0_S64x768 (by decide) r d).trans ((g3_at I _ d).trans (congrArg (share I · d) (Fin.ext ?_)))
    simp; try omega
  · refine (slice_at _ 128 slices_S256x768_o128_0_S64x768 (by decide) r d).trans ((g3_at I _ d).trans (congrArg (share I · d) (Fin.ext ?_)))
    simp; try omega
  · refine (slice_at _ 192 slices_S256x768_o192_0_S64x768 (by decide) r d).trans ((g3_at I _ d).trans (congrArg (share I · d) (Fin.ext ?_)))
    simp; try omega

end Cert.KernelIdeal.Mesh

end
-- ==== Proof.TileAt.lean ====
/-
  The tile of the result a device owns, read at an index over the extended reals: the sum over all devices of what each adds to its rows.
-/
module

public import proofs.«01_k».proof.Proof.BlocksAt
public import proofs.«01_k».proof.Proof.RegionSeg

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-- A device's term for device `k`: its own block where `k` is itself, else the block that came from `k`. -/
theorem term_at (c k : Dev nD) (o : FVec Ideal S64x768 .f32) (b : Vec Ideal S1x64x768 .f32) (r : Fin 64) (d : Fin 768)
    (h : k = c → o (ix2 r d) = b (ix3 0 r d)) :
    Scalar.select (Scalar.cmpi .eq (idx c) (BitVec.ofNat 32 k.val)) o (shapeCast S64x768 b shapeCasts_S1x64x768_S64x768) (ix2 r d)
      = b (ix3 0 r d) := by
  have hb : shapeCast S64x768 b shapeCasts_S1x64x768_S64x768 (ix2 r d) = b (ix3 0 r d) := by pointwise
  unfold Scalar.select
  split
  · next e => exact h ((ceq k c).1 e)
  · exact hb

/-- Row `r` of device `c`'s tile is row `64 * c + r` of the sum over devices. -/
theorem own_at (I : Dev nD → Inp Ideal) (c : Dev nD) (r : Fin 64) (d : Fin 768) :
    (fillOf I).own c (ix2 r d) = ∑ k : Fin 16, share (I k) ⟨64 * c.val + r, by have : c.val < 16 := c.isLt; omega⟩ d := by
  rw [← fill_own]
  have hl : ∀ k : Dev nD, blk k (landR (fillOf I) c) (ix3 0 r d) = share (I k) ⟨64 * c.val + r, by have : c.val < 16 := c.isLt; omega⟩ d := by
    intro k
    refine Eq.trans ?_ (sbv_at (I k) c r d)
    simp only [ix3_eq_valueIdx]
    rfl
  have ho : k0_pay90 (blk c ((fillOf I).sb c)) (ix2 r d) = share (I c) ⟨64 * c.val + r, by have : c.val < 16 := c.isLt; omega⟩ d := by
    refine Eq.trans ?_ (sbv_at (I c) c r d)
    have hb : ∀ b : Vec Ideal S1x64x768 .f32, k0_pay90 b (ix2 r d) = b (ix3 0 r d) := fun b => by pointwise [k0_pay90]
    rw [hb]
    simp only [ix3_eq_valueIdx]
    rfl
  have ht (k : Dev nD) := (term_at c k (k0_pay90 (blk c ((fillOf I).sb c))) (blk k (landR (fillOf I) c)) r d
    (fun e => by rw [ho, hl, e])).trans (hl k)
  unfold tileV sumB
  simp only [addf]
  refine Eq.trans (congrArg₂ (FloatOps.addf (F := Ideal) (φ := FTy.f32)) (congrArg₂ (FloatOps.addf (F := Ideal) (φ := FTy.f32)) (congrArg₂ (FloatOps.addf (F := Ideal) (φ := FTy.f32)) (congrArg₂ (FloatOps.addf (F := Ideal) (φ := FTy.f32)) (congrArg₂ (FloatOps.addf (F := Ideal) (φ := FTy.f32)) (congrArg₂ (FloatOps.addf (F := Ideal) (φ := FTy.f32)) (congrArg₂ (FloatOps.addf (F := Ideal) (φ := FTy.f32)) (congrArg₂ (FloatOps.addf (F := Ideal) (φ := FTy.f32)) (congrArg₂ (FloatOps.addf (F := Ideal) (φ := FTy.f32)) (congrArg₂ (FloatOps.addf (F := Ideal) (φ := FTy.f32)) (congrArg₂ (FloatOps.addf (F := Ideal) (φ := FTy.f32)) (congrArg₂ (FloatOps.addf (F := Ideal) (φ := FTy.f32)) (congrArg₂ (FloatOps.addf (F := Ideal) (φ := FTy.f32)) (congrArg₂ (FloatOps.addf (F := Ideal) (φ := FTy.f32)) (congrArg₂ (FloatOps.addf (F := Ideal) (φ := FTy.f32)) (ht 0) (ht 1)) (ht 2)) (ht 3)) (ht 4)) (ht 5)) (ht 6)) (ht 7)) (ht 8)) (ht 9)) (ht 10)) (ht 11)) (ht 12)) (ht 13)) (ht 14)) (ht 15)) ?_
  simp only [Fin.sum_univ_castSucc, Fin.sum_univ_zero, zero_add]
  rfl

end Cert.KernelIdeal.Mesh

end
-- ==== Proof.Operands.lean ====
/-
  The kernel's operands as the host leaves them, read at an index in terms of the arguments.

  A device takes the 512 columns of the query matrix and the 512 rows of the output matrix that belong to its eight heads; its keys and values come
  as they are, head first.
-/
module

public import proofs.«01_k».proof.Proof.RegionSeg
public import Idealize.ShloMosaic.Lib.Pointwise
public import Idealize.ShloMosaic.Lib.DynamicIndex
public import Idealize.ShloMosaic.Lib.StableHlo.RunClose

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open Idealize.ShloMosaic.StableHlo
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

variable (m : (ℓ : Loc nD τ sig) → Buf (Elt F) ℓ)

/-- The first column a device takes, as the word the host computes. -/
theorem start_word (c : Dev nD) :
    BitVec.toInt (select
      (cmpi .slt (muli (id (Host.remui (Host.divui (constantI S_ 32 c.word) (constantI S_ 32 1#32)) (constantI S_ 32 16#32))) (constantI S_ 32 512#32))
        (constantI S_ 32 0#32))
      (addi (muli (id (Host.remui (Host.divui (constantI S_ 32 c.word) (constantI S_ 32 1#32)) (constantI S_ 32 16#32))) (constantI S_ 32 512#32))
        (constantI S_ 32 8192#32))
      (muli (id (Host.remui (Host.divui (constantI S_ 32 c.word) (constantI S_ 32 1#32)) (constantI S_ 32 16#32))) (constantI S_ 32 512#32))
      (Shape.Idx.first h_S_)) = ((512 * c.val : ℕ) : ℤ) := by
  show BitVec.toInt (Scalar.select
      (Scalar.cmpi .slt (Scalar.muli (IntOp.remui .host (IntOp.divui .host (Dev.word c) 1#32) 16#32) 512#32) 0#32)
      (Scalar.addi (Scalar.muli (IntOp.remui .host (IntOp.divui .host (Dev.word c) 1#32) 16#32) 512#32) 8192#32)
      (Scalar.muli (IntOp.remui .host (IntOp.divui .host (Dev.word c) 1#32) 16#32) 512#32)) = _
  revert c
  decide +kernel

theorem cols_fit (c : Dev nD) : Shape.Slices S768x8192 ![0, 512 * c.val] S768x512 :=
  ⟨rfl, fun a => by
    have : c.val < 16 := c.isLt
    fin_cases a
    · show 0 + 768 ≤ 768
      omega
    · show 512 * c.val + 512 ≤ 8192
      omega⟩
theorem rows_fit (c : Dev nD) : Shape.Slices S8192x768 ![512 * c.val, 0] S512x768 :=
  ⟨rfl, fun a => by
    have : c.val < 16 := c.isLt
    fin_cases a
    · show 512 * c.val + 512 ≤ 8192
      omega
    · show 0 + 768 ≤ 768
      omega⟩

theorem x_eq (c : Dev nD) : V1 m c main_v20 = shapeCast S1024x768 (m ((c.tc : Thread nD τ).loc main_arg0)) shapeCasts_S2x512x768_S1024x768 := by
  after_results_simp_entrywise
  rfl
theorem k_eq (c : Dev nD) :
    V1 m c main_v18 = transpose S8x2x512x64 [2, 0, 1, 3] (m ((c.tc : Thread nD τ).loc main_arg2)) transposes_S2x512x8x64_S8x2x512x64_2_0_1_3 := by
  after_results_simp_entrywise
theorem v_eq (c : Dev nD) :
    V1 m c main_v19 = transpose S8x2x512x64 [2, 0, 1, 3] (m ((c.tc : Thread nD τ).loc main_arg3)) transposes_S2x512x8x64_S8x2x512x64_2_0_1_3 := by
  after_results_simp_entrywise
theorem q_eq (c : Dev nD) :
    V1 m c main_v16 = transpose S8x768x64 [1, 0, 2]
      (shapeCast S768x8x64 (extractStridedSlice S768x512 ![0, 512 * c.val] (m ((c.tc : Thread nD τ).loc main_arg1)) (cols_fit c))
        shapeCasts_S768x512_S768x8x64) transposes_S768x8x64_S8x768x64_1_0_2 := by
  after_results_simp_entrywise
  rw [Host.dynamicSlice_eq_extractStridedSlice S768x512 _ _ ![0, 512 * c.val] _ (cols_fit c)
    (fun a => by
      fin_cases a
      · rfl
      · exact start_word c)]
  rfl
theorem o_eq (c : Dev nD) :
    V1 m c main_v17 = shapeCast S8x64x768 (extractStridedSlice S512x768 ![512 * c.val, 0] (m ((c.tc : Thread nD τ).loc main_arg4)) (rows_fit c))
        shapeCasts_S512x768_S8x64x768 := by
  after_results_simp_entrywise
  rw [Host.dynamicSlice_eq_extractStridedSlice S512x768 _ _ ![512 * c.val, 0] _ (rows_fit c)
    (fun a => by
      fin_cases a
      · exact start_word c
      · rfl)]
  rfl

theorem rows_at (x : S2x512x768.Idx → F .f32) (R : Fin 1024) (t : Fin 768) :
    shapeCast S1024x768 x shapeCasts_S2x512x768_S1024x768 (ix2 R t) = x (ix3 ⟨R / 512, by omega⟩ ⟨R % 512, by omega⟩ t) := by
  pointwise
theorem x_at (c : Dev nD) (R : Fin 1024) (t : Fin 768) :
    (inpAt m c).x (ix2 R t) = m ((c.tc : Thread nD τ).loc main_arg0) (ix3 ⟨R / 512, by omega⟩ ⟨R % 512, by omega⟩ t) := by
  show V1 m c main_v20 (ix2 R t) = _
  rw [x_eq]
  exact rows_at _ R t
theorem k_at (c : Dev nD) (h : Fin 8) (b : Fin 2) (l : Fin 512) (e : Fin 64) :
    (inpAt m c).k (ix4 h b l e) = m ((c.tc : Thread nD τ).loc main_arg2) (ix4 b l h e) := by
  show V1 m c main_v18 (ix4 h b l e) = _
  rw [k_eq]
  pointwise
theorem v_at (c : Dev nD) (h : Fin 8) (b : Fin 2) (l : Fin 512) (e : Fin 64) :
    (inpAt m c).v (ix4 h b l e) = m ((c.tc : Thread nD τ).loc main_arg3) (ix4 b l h e) := by
  show V1 m c main_v19 (ix4 h b l e) = _
  rw [v_eq]
  pointwise
theorem q_at (c : Dev nD) (h : Fin 8) (t : Fin 768) (e : Fin 64) :
    (inpAt m c).wq (ix3 h t e)
      = m ((c.tc : Thread nD τ).loc main_arg1) (ix2 t ⟨512 * c.val + (h * 64 + e), by have : c.val < 16 := c.isLt; omega⟩) := by
  show V1 m c main_v16 (ix3 h t e) = _
  rw [q_eq]
  pointwise
theorem o_at (c : Dev nD) (h : Fin 8) (e : Fin 64) (d : Fin 768) :
    (inpAt m c).wo (ix3 h e d)
      = m ((c.tc : Thread nD τ).loc main_arg4) (ix2 ⟨512 * c.val + (h * 64 + e), by have : c.val < 16 := c.isLt; omega⟩ d) := by
  show V1 m c main_v17 (ix3 h e d) = _
  rw [o_eq]
  pointwise

end Cert.KernelIdeal.Mesh

end
-- ==== Proof.OutAt.lean ====
/-
  The kernel's result read at an index over the extended reals: attention of the row by every head, through the output matrix.

  A device adds its own eight heads to every row, and the devices' parts are added. The 8192 rows of the output matrix are the sixteen devices' eight
  heads' sixty-four coordinates, so the sum over devices, heads and coordinates is the reference's one sum.
-/
module

public import proofs.«01_k».proof.Proof.TileAt
public import proofs.«01_k».proof.Proof.Operands

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open Idealize.ShloMosaic.StableHlo
open scoped Idealize.SL.BI
open Idealize.SL.BI.BIBase Idealize.SL.BI.Laws Idealize.SL.ProofMode Idealize.SL.Sem
open Idealize.ShloMosaic.Rounds Idealize.ShloMosaic.Transfers

open Cert.Attend

variable (m : (ℓ : Loc nD τ sig) → Buf (Elt Ideal) ℓ)

/-- What device `c` adds to row `i` of sequence `b`, by heads of the whole attention. -/
theorem share_at (c : Dev nD) (x : S2x512x768.Idx → EReal) (wq : S768x8192.Idx → EReal) (k v : (⟨4, ![2, 512, 128, 64]⟩ : Shape).Idx → EReal)
    (wo : S8192x768.Idx → EReal) (hx : m ((c.tc : Thread nD τ).loc main_arg0) = x) (hq : m ((c.tc : Thread nD τ).loc main_arg1) = wq)
    (hk : m ((c.tc : Thread nD τ).loc main_arg2) = Layout.block ⟨4, ![2, 512, 8, 64]⟩ ⟨4, ![2, 512, 128, 64]⟩ 2 16 c k)
    (hv : m ((c.tc : Thread nD τ).loc main_arg3) = Layout.block ⟨4, ![2, 512, 8, 64]⟩ ⟨4, ![2, 512, 128, 64]⟩ 2 16 c v)
    (ho : m ((c.tc : Thread nD τ).loc main_arg4) = wo) (R : Fin 1024) (d : Fin 768) :
    share (inpAt m c) R d
      = ∑ h : Fin 8, ∑ e : Fin 64,
          headRow x wq k v ⟨R / 512, by omega⟩ ⟨R % 512, by omega⟩ ⟨c.val * 8 + h, by have : c.val < 16 := c.isLt; omega⟩ e
            * wo (ix2 ⟨c.val * 512 + (h * 64 + e), by have : c.val < 16 := c.isLt; omega⟩ d) := by
  have hcol (h : Fin 8) (e : Fin 64) : 512 * c.val + (h.val * 64 + e.val) = (c.val * 8 + h.val) * 64 + e.val := by omega
  have hrow (h : Fin 8) (e : Fin 64) : 512 * c.val + (h.val * 64 + e.val) = c.val * 512 + (h.val * 64 + e.val) := by omega
  have hb (a : (⟨4, ![2, 512, 128, 64]⟩ : Shape).Idx → EReal) (b : Fin 2) (l : Fin 512) (h : Fin 8) (e : Fin 64) :
      Layout.block ⟨4, ![2, 512, 8, 64]⟩ ⟨4, ![2, 512, 128, 64]⟩ 2 16 c a (by decide) (ix4 b l h e)
        = a (ix4 b l ⟨c.val * 8 + h, by have : c.val < 16 := c.isLt; omega⟩ e) := by
    rw [Layout.block_apply]
    refine congrArg a ?_
    funext z
    apply Fin.ext
    rw [Layout.Tiles.idx_val]
    fin_cases z <;> rfl
  unfold share headRow
  refine Finset.sum_congr rfl fun h _ => Finset.sum_congr rfl fun e _ => ?_
  have eq : (fun (t : Fin 768) (e : Fin 64) => (inpAt m c).wq (ix3 h t e))
      = fun (t : Fin 768) (e : Fin 64) => wq (ix2 t ⟨(c.val * 8 + h) * 64 + e, by have : c.val < 16 := c.isLt; omega⟩) := by
    funext t e
    rw [q_at, hq]
    exact congrArg (fun z => wq (ix2 t z)) (Fin.ext (hcol h e))
  have ex : (fun t : Fin 768 => (inpAt m c).x (ix2 R t)) = fun t => x (ix3 ⟨R / 512, by omega⟩ ⟨R % 512, by omega⟩ t) := by
    funext t
    rw [x_at, hx]
  have ek : (fun (l : Fin 512) (e : Fin 64) => (inpAt m c).k (ix4 h ⟨R / 512, by omega⟩ l e))
      = fun (l : Fin 512) (e : Fin 64) => k (ix4 ⟨R / 512, by omega⟩ l ⟨c.val * 8 + h, by have : c.val < 16 := c.isLt; omega⟩ e) := by
    funext l e
    rw [k_at, hk]
    exact hb k _ l h e
  have ev : (fun (l : Fin 512) (e : Fin 64) => (inpAt m c).v (ix4 h ⟨R / 512, by omega⟩ l e))
      = fun (l : Fin 512) (e : Fin 64) => v (ix4 ⟨R / 512, by omega⟩ l ⟨c.val * 8 + h, by have : c.val < 16 := c.isLt; omega⟩ e) := by
    funext l e
    rw [v_at, hv]
    exact hb v _ l h e
  have eo : (inpAt m c).wo (ix3 h e d) = wo (ix2 ⟨c.val * 512 + (h * 64 + e), by have : c.val < 16 := c.isLt; omega⟩ d) := by
    rw [o_at, ho]
    exact congrArg (fun z => wo (ix2 z d)) (Fin.ext (hrow h e))
  rw [eq, ex, ek, ev, eo]

/-- The whole attention as the sum over devices of their eight heads. -/
theorem attended_devices (x : S2x512x768.Idx → EReal) (wq : S768x8192.Idx → EReal) (k v : (⟨4, ![2, 512, 128, 64]⟩ : Shape).Idx → EReal)
    (wo : S8192x768.Idx → EReal) (b : Fin 2) (i : Fin 512) (d : Fin 768) :
    attended x wq k v wo b i d
      = ∑ c : Fin 16, ∑ h : Fin 8, ∑ e : Fin 64,
          headRow x wq k v b i ⟨c.val * 8 + h, by omega⟩ e * wo (ix2 ⟨c.val * 512 + (h * 64 + e), by omega⟩ d) := by
  unfold attended
  rw [Fin.sum_univ_tiles 16 512 (by decide)]
  refine Finset.sum_congr rfl fun c _ => ?_
  rw [Fin.sum_univ_tiles 8 64 (by decide)]
  refine Finset.sum_congr rfl fun h _ => Finset.sum_congr rfl fun e _ => ?_
  refine congrArg₂ (· * ·) (congrArg₂ (headRow x wq k v b i) (Fin.ext ?_) (Fin.ext ?_)) rfl
  · show (c.val * 512 + (h.val * 64 + e.val)) / 64 = c.val * 8 + h.val
    omega
  · show (c.val * 512 + (h.val * 64 + e.val)) % 64 = e.val
    omega

/-- The result buffer is the whole result, its rows parted into the two sequences. -/
theorem out_eq (c : Dev nD) :
    V3 m (outsM m) c main_v22 = shapeCast S2x512x768 (outW (fillM m) : S1024x768.Idx → EReal) shapeCasts_S1024x768_S2x512x768 := by
  after_results_simp_entrywise
  rw [V2_out]
  rfl

/-- The kernel's result at an index. -/
theorem out_at (c : Dev nD) (x : S2x512x768.Idx → EReal) (wq : S768x8192.Idx → EReal) (k v : (⟨4, ![2, 512, 128, 64]⟩ : Shape).Idx → EReal)
    (wo : S8192x768.Idx → EReal)
    (h : ∀ c : Dev nD, m ((c.tc : Thread nD τ).loc main_arg0) = x ∧ m ((c.tc : Thread nD τ).loc main_arg1) = wq
      ∧ m ((c.tc : Thread nD τ).loc main_arg2) = Layout.block ⟨4, ![2, 512, 8, 64]⟩ ⟨4, ![2, 512, 128, 64]⟩ 2 16 c k
      ∧ m ((c.tc : Thread nD τ).loc main_arg3) = Layout.block ⟨4, ![2, 512, 8, 64]⟩ ⟨4, ![2, 512, 128, 64]⟩ 2 16 c v
      ∧ m ((c.tc : Thread nD τ).loc main_arg4) = wo) (b : Fin 2) (i : Fin 512) (d : Fin 768) :
    (V3 m (outsM m) c main_v22 : S2x512x768.Idx → EReal) (ix3 b i d) = attended x wq k v wo b i d := by
  have hr : ∀ y : S1024x768.Idx → EReal, shapeCast S2x512x768 y shapeCasts_S1024x768_S2x512x768 (ix3 b i d)
      = y (ix2 ⟨b.val * 512 + i.val, by omega⟩ d) := fun y => by pointwise
  have hw : outW (fillM m) (ix2 ⟨b.val * 512 + i.val, by omega⟩ d)
      = (fillM m).own ⟨(b.val * 512 + i.val) / 64, by show _ < 16; omega⟩ (ix2 ⟨(b.val * 512 + i.val) % 64, by omega⟩ d) := by
    simp only [ix2_eq_valueIdx]
    rfl
  refine (congrFun (out_eq m c) _).trans ((hr _).trans (hw.trans ((own_at _ _ _ _).trans (Eq.trans ?_ (attended_devices x wq k v wo b i d).symm))))
  refine Finset.sum_congr rfl fun p _ => ?_
  obtain ⟨hx, hq, hk, hv, ho⟩ := h p
  rw [share_at m p x wq k v wo hx hq hk hv ho]
  refine Finset.sum_congr rfl fun h _ => Finset.sum_congr rfl fun e _ => congrArg (· * _) ?_
  have hb : ∀ {b' : Fin 2} {i' : Fin 512} (n : Fin 128), b' = b → i' = i → headRow x wq k v b' i' n e = headRow x wq k v b i n e := by
    rintro _ _ n rfl rfl
    rfl
  refine hb _ (Fin.ext ?_) (Fin.ext ?_)
  · show (64 * ((b.val * 512 + i.val) / 64) + (b.val * 512 + i.val) % 64) / 512 = b.val
    omega
  · show (64 * ((b.val * 512 + i.val) / 64) + (b.val * 512 + i.val) % 64) % 512 = i.val
    omega

end Cert.KernelIdeal.Mesh

end
-- ==== Proof.RefAt.lean ====
/-
  The reference's result read at an index over the extended reals.

  The reference's term is taken apart into the steps of its mathematics: the mask, the masked scores, the weights, the values they gather, the output
  product. Each is read at an index, in the terms of attention of one row.
-/
module

public import proofs.«01_k».proof.Proof.Gen.ReferenceIdeal.Run
public import proofs.«01_k».proof.Proof.Attend

@[expose] public section

set_option maxRecDepth 16384

noncomputable section

namespace Cert.ReferenceIdeal.Steps

open Cert.ReferenceIdeal Cert.ReferenceIdeal.Gen Cert.ReferenceIdeal.Value
open Idealize.ShloMosaic Idealize.ShloMosaic.TcCoe Idealize.SL.Sem Idealize.ShloMosaic.StableHlo
open Cert.Attend

variable {F : FTy → Type} [FloatOps F]

/-- The rows' numbers, as a column. -/
def rowN : IVec S512x1 32 := broadcastInDim S512x1 ![0] bcast_S512_S512x1_0 (iotaInDim S512 32 0)
/-- The positions' numbers, as a row. -/
def colN : IVec S1x512 32 := broadcastInDim S1x512 ![1] bcast_S512_S1x512_1 (iotaInDim S512 32 0)
/-- The mask. -/
def mask : IVec S512x512 1 :=
  ori (cmpi .sle (absi (subi (broadcastInDim S512x512 ![0, 1] bcast_S512x1_S512x512_0_1 rowN)
      (broadcastInDim S512x512 ![0, 1] bcast_S1x512_S512x512_0_1 colN)))
      (broadcastInDim S512x512 ![] bcast_S_S512x512 (constantI S_ 32 128#32)))
    (ori (broadcastInDim S512x512 ![0, 1] bcast_S1x512_S512x512_0_1 (cmpi .slt colN (broadcastInDim S1x512 ![] bcast_S_S1x512 (constantI S_ 32 32#32))))
      (broadcastInDim S512x512 ![0, 1] bcast_S512x1_S512x512_0_1 (cmpi .slt rowN (broadcastInDim S512x1 ![] bcast_S_S512x1 (constantI S_ 32 32#32)))))
/-- Whether a row looks anywhere. -/
def keeps : IVec S512 1 := Host.reduce IntOp.ori mask (constantI S_ 1 0#1) reducesTo_S512x512_S512_d1 h_S_
/-- The masked scores. -/
def scores (x : FVec F S2x512x768 .f32) (wq : FVec F S768x8192 .f32) (k : FVec F S2x512x128x64 .f32) : FVec F S2x128x512x512 .f32 :=
  select (broadcastInDim S2x128x512x512 ![0, 1, 2, 3] bcast_S1x1x512x512_S2x128x512x512_0_1_2_3
      (broadcastInDim S1x1x512x512 ![2, 3] bcast_S512x512_S1x1x512x512_2_3 mask))
    (mulf (Host.dotGeneral dot_S2x512x128x64_S2x512x128x64_S2x128x512x512_3_3_1_1_02_02 none
        (shapeCast _ (Host.dotGeneral dot_S2x512x768_S768x8192_S2x512x8192_2_0_01_1_n_n none x wq) shapeCasts_S2x512x8192_S2x512x128x64) k)
      (broadcastInDim S2x128x512x512 ![] bcast_S_S2x128x512x512 (constant S_ .f32 0x3E000000#32)))
    (broadcastInDim S2x128x512x512 ![] bcast_S_S2x128x512x512 (id (constant S_ .f32 0xCE6E6B28#32)))
/-- The exponentials of the scores, each row's largest taken from it. -/
def exps (s : FVec F S2x128x512x512 .f32) : FVec F S2x128x512x512 .f32 :=
  Host.exp (subf s (broadcastInDim S2x128x512x512 ![0, 1, 2, 3] bcast_S2x128x512x1_S2x128x512x512_0_1_2_3
    (broadcastInDim S2x128x512x1 ![0, 1, 2] bcast_S2x128x512_S2x128x512x1_0_1_2
      (Host.reduce FloatOps.maximumf s (constant S_ .f32 0xFF800000#32) reducesTo_S2x128x512x512_S2x128x512_d3 h_S_))))
/-- The weights. -/
def weights (e : FVec F S2x128x512x512 .f32) : FVec F S2x128x512x512 .f32 :=
  select (broadcastInDim S2x128x512x512 ![0, 1, 2, 3] bcast_S1x1x512x1_S2x128x512x512_0_1_2_3
      (broadcastInDim S1x1x512x1 ![2] bcast_S512_S1x1x512x1_2 keeps))
    (Host.divf e (broadcastInDim S2x128x512x512 ![0, 1, 2, 3] bcast_S2x128x512x1_S2x128x512x512_0_1_2_3
      (select (broadcastInDim S2x128x512x1 ![0, 1, 2, 3] bcast_S1x1x512x1_S2x128x512x1_0_1_2_3
          (broadcastInDim S1x1x512x1 ![2] bcast_S512_S1x1x512x1_2 keeps))
        (broadcastInDim S2x128x512x1 ![0, 1, 2] bcast_S2x128x512_S2x128x512x1_0_1_2
          (Host.reduceAdd e (constant S_ .f32 0x00000000#32) reducesTo_S2x128x512x512_S2x128x512_d3 h_S_))
        (broadcastInDim S2x128x512x1 ![] bcast_S_S2x128x512x1 (id (constant S_ .f32 0x3F800000#32))))))
    (broadcastInDim S2x128x512x512 ![] bcast_S_S2x128x512x512 (id (constant S_ .f32 0x00000000#32)))
/-- The gathered values through the output matrix. -/
def result (w : FVec F S2x128x512x512 .f32) (v : FVec F S2x512x128x64 .f32) (wo : FVec F S8192x768 .f32) : FVec F S2x512x768 .f32 :=
  Host.dotGeneral dot_S2x512x8192_S8192x768_S2x512x768_2_0_01_1_n_n none
    (shapeCast _ (transpose S2x512x128x64 [0, 3, 1, 2]
      (Host.dotGeneral dot_S2x512x128x64_S2x128x512x512_S2x128x64x512_1_3_3_2_02_01 none v w)
      transposes_S2x128x64x512_S2x512x128x64_0_3_1_2) shapeCasts_S2x512x128x64_S2x512x8192) wo

/-- The reference's term is those steps in turn. -/
theorem res_eq (m : (ℓ : Loc nD τ sig) → Buf (Elt F) ℓ) (c : Dev nD) :
    res_main_v42 m c = result (weights (exps (scores (m ((c.tc : Thread nD τ).loc main_arg0)) (m ((c.tc : Thread nD τ).loc main_arg1))
        (m ((c.tc : Thread nD τ).loc main_arg2))))) (m ((c.tc : Thread nD τ).loc main_arg3)) (m ((c.tc : Thread nD τ).loc main_arg4)) := by
  unfold res_main_v42
  rfl

theorem mask_at (i j : Fin 512) : mask (ix2 i j) = sees i j := by
  pointwise [mask, rowN, colN, sees]
  exact (BitVec.or_assoc _ _ _).symm
theorem keeps_at (i : Fin 512) : keeps (ix1 i) = 1#1 := by
  pointwise [keeps]
  rw [← Finset.insert_erase (Finset.mem_univ (0 : Fin 512)), Finset.fold_insert (Finset.notMem_erase _ _), mask_at]
  have h : sees i.val (0 : Fin 512).val = 1#1 := sees_zero i
  rw [h]
  generalize Finset.fold IntOp.ori _ _ _ = a
  revert a
  decide
theorem scores_at (x : FVec Ideal S2x512x768 .f32) (wq : FVec Ideal S768x8192 .f32) (k : FVec Ideal S2x512x128x64 .f32)
    (b : Fin 2) (n : Fin 128) (i j : Fin 512) :
    scores x wq k (ix4 b n i j) = score i (fun t => x (ix3 b i t)) (fun t e => wq (ix2 t ⟨n * 64 + e, by omega⟩)) (fun l e => k (ix4 b l n e)) j := by
  unfold score
  rw [← mask_at]
  pointwise [scores]
  rfl
theorem exps_at (s : FVec Ideal S2x128x512x512 .f32) (b : Fin 2) (n : Fin 128) (i j : Fin 512) :
    exps s (ix4 b n i j) = Ideal.exp (s (ix4 b n i j) - top fun l => s (ix4 b n i l)) := by
  pointwise [exps, top]
theorem weights_at (e : FVec Ideal S2x128x512x512 .f32) (b : Fin 2) (n : Fin 128) (i j : Fin 512) :
    weights e (ix4 b n i j) = Ideal.div (e (ix4 b n i j)) (∑ l : Fin 512, e (ix4 b n i l)) := by
  pointwise [weights]
  rw [keeps_at]
  rfl
theorem result_at (w : FVec Ideal S2x128x512x512 .f32) (v : FVec Ideal S2x512x128x64 .f32) (wo : FVec Ideal S8192x768 .f32)
    (b : Fin 2) (i : Fin 512) (d : Fin 768) :
    result w v wo (ix3 b i d)
      = ∑ n : Fin 8192, (∑ l : Fin 512, v (ix4 b l ⟨n / 64, by omega⟩ ⟨n % 64, by omega⟩) * w (ix4 b ⟨n / 64, by omega⟩ i l)) * wo (ix2 n d) := by
  pointwise [result]

/-- The steps in turn, at an index: attention of the row by each head, through the output matrix. -/
theorem steps_at (x : FVec Ideal S2x512x768 .f32) (wq : FVec Ideal S768x8192 .f32) (k v : FVec Ideal S2x512x128x64 .f32)
    (wo : FVec Ideal S8192x768 .f32) (b : Fin 2) (i : Fin 512) (d : Fin 768) :
    result (weights (exps (scores x wq k))) v wo (ix3 b i d) = attended x wq k v wo b i d := by
  rw [result_at]
  unfold attended headRow ctx weight
  refine Finset.sum_congr rfl fun n _ => congrArg (· * _) (Finset.sum_congr rfl fun l _ => ?_)
  rw [weights_at]
  simp only [exps_at, scores_at]
  exact mul_comm _ _

end Cert.ReferenceIdeal.Steps

end
-- ==== Proof.Algebraic.lean ====
/-
  Over the extended reals the kernel's result on every device is the reference's.
-/
module

public import proofs.«01_k».proof.Proof.Frames
public import proofs.«01_k».proof.Proof.OutAt
public import proofs.«01_k».proof.Proof.RefAt

@[expose] public section

set_option maxRecDepth 16384

noncomputable section

namespace Cert.Proof

open Idealize.ShloMosaic Idealize.ShloMosaic.TcCoe Idealize.SL.Sem

/-- The two results are equal, entry by entry. -/
theorem results_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (h : ∀ c : Dev KernelIdeal.nD,
      m ((c.tc : Thread KernelIdeal.nD KernelIdeal.τ).loc KernelIdeal.main_arg0) = m' (((0 : Dev ReferenceIdeal.nD).tc : Thread ReferenceIdeal.nD ReferenceIdeal.τ).loc ReferenceIdeal.main_arg0)
      ∧ m ((c.tc : Thread KernelIdeal.nD KernelIdeal.τ).loc KernelIdeal.main_arg1) = m' (((0 : Dev ReferenceIdeal.nD).tc : Thread ReferenceIdeal.nD ReferenceIdeal.τ).loc ReferenceIdeal.main_arg1)
      ∧ m ((c.tc : Thread KernelIdeal.nD KernelIdeal.τ).loc KernelIdeal.main_arg2) = Layout.block ⟨4, ![2, 512, 8, 64]⟩ ⟨4, ![2, 512, 128, 64]⟩ 2 16 c (m' (((0 : Dev ReferenceIdeal.nD).tc : Thread ReferenceIdeal.nD ReferenceIdeal.τ).loc ReferenceIdeal.main_arg2))
      ∧ m ((c.tc : Thread KernelIdeal.nD KernelIdeal.τ).loc KernelIdeal.main_arg3) = Layout.block ⟨4, ![2, 512, 8, 64]⟩ ⟨4, ![2, 512, 128, 64]⟩ 2 16 c (m' (((0 : Dev ReferenceIdeal.nD).tc : Thread ReferenceIdeal.nD ReferenceIdeal.τ).loc ReferenceIdeal.main_arg3))
      ∧ m ((c.tc : Thread KernelIdeal.nD KernelIdeal.τ).loc KernelIdeal.main_arg4) = m' (((0 : Dev ReferenceIdeal.nD).tc : Thread ReferenceIdeal.nD ReferenceIdeal.τ).loc ReferenceIdeal.main_arg4))
    (c : Dev KernelIdeal.nD) :
    (KernelIdeal.Gen.V3 m (KernelIdeal.Mesh.outsM m) c KernelIdeal.main_v22 : (⟨3, ![2, 512, 768]⟩ : Shape).Idx → EReal)
      = (ReferenceIdeal.Value.res_main_v42 m' 0 : (⟨3, ![2, 512, 768]⟩ : Shape).Idx → EReal) := by
  have hi : ∀ j : (⟨3, ![2, 512, 768]⟩ : Shape).Idx, j = ix3 ⟨(j 0).val, (j 0).isLt⟩ ⟨(j 1).val, (j 1).isLt⟩ ⟨(j 2).val, (j 2).isLt⟩ := by
    intro j
    funext a
    fin_cases a <;> rfl
  funext j
  rw [hi j]
  refine (KernelIdeal.Mesh.out_at m c _ _ _ _ _ h _ _ _).trans (Eq.trans ?_ (congrFun (ReferenceIdeal.Steps.res_eq m' 0).symm _))
  exact (ReferenceIdeal.Steps.steps_at _ _ _ _ _ _ _ _).symm

theorem algebraic : Cert.algebraic_KernelIdeal_ReferenceIdeal := by
  intro m g m' g' _ h
  refine ⟨ReferenceIdeal.Value.res_main_v42 m' 0, ?_, ?_⟩
  · refine (θ_run _ _ _).mono (fun r hr c => ?_) (KernelIdeal.Mesh.run_main m g)
    obtain ⟨⟨ha, hv⟩, -⟩ := hr.1 c
    exact ⟨hv.trans (results_eq m m' h c), ha⟩
  · exact (θ_run _ _ _).mono (fun r hr => hr 0) (ReferenceIdeal.Value.run m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_reference, trivial, algebraic⟩

end Cert.Proof

end
